-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_InX (m : (ℓ : Loc Cert.InX.nD Cert.InX.τ Cert.InX.sig) → Buf (Elt Bits) ℓ) : Prop :=
  True

def Pre_InXIdeal (m : (ℓ : Loc Cert.InXIdeal.nD Cert.InXIdeal.τ Cert.InXIdeal.sig) → Buf (Elt Ideal) ℓ) : Prop :=
  True

def Pre_InXRefIdeal (m : (ℓ : Loc Cert.InXRefIdeal.nD Cert.InXRefIdeal.τ Cert.InXRefIdeal.sig) → Buf (Elt Ideal) ℓ) : Prop :=
  True

def Pre_InW (m : (ℓ : Loc Cert.InW.nD Cert.InW.τ Cert.InW.sig) → Buf (Elt Bits) ℓ) : Prop :=
  True

def Pre_InWIdeal (m : (ℓ : Loc Cert.InWIdeal.nD Cert.InWIdeal.τ Cert.InWIdeal.sig) → Buf (Elt Ideal) ℓ) : Prop :=
  True

def Pre_InWRefIdeal (m : (ℓ : Loc Cert.InWRefIdeal.nD Cert.InWRefIdeal.τ Cert.InWRefIdeal.sig) → Buf (Elt Ideal) ℓ) : Prop :=
  True

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleRefIdeal (m : (ℓ : Loc Cert.PleRefIdeal.nD Cert.PleRefIdeal.τ Cert.PleRefIdeal.sig) → Buf (Elt Ideal) ℓ) : Prop :=
  True

def Pre_OutC (m : (ℓ : Loc Cert.OutC.nD Cert.OutC.τ Cert.OutC.sig) → Buf (Elt Bits) ℓ) : Prop :=
  True

def Pre_OutCIdeal (m : (ℓ : Loc Cert.OutCIdeal.nD Cert.OutCIdeal.τ Cert.OutCIdeal.sig) → Buf (Elt Ideal) ℓ) : Prop :=
  True

def Pre_OutCIdeal_finite_out [hPre_finite_out : Cert.Pre_finite_out.Facts] (m : (ℓ : Loc Cert.OutCIdeal.nD Cert.OutCIdeal.τ Cert.OutCIdeal.sig) → Buf (Elt Ideal) ℓ) : Prop :=
  ∀ c : Dev Cert.OutCIdeal.nD,
    (Cert.Pre_finite_out.fn (F := Ideal) (m ((c.tc : Thread Cert.OutCIdeal.nD Cert.OutCIdeal.τ).loc Cert.OutCIdeal.main_arg0)) (m ((c.tc : Thread Cert.OutCIdeal.nD Cert.OutCIdeal.τ).loc Cert.OutCIdeal.main_arg1)) (m ((c.tc : Thread Cert.OutCIdeal.nD Cert.OutCIdeal.τ).loc Cert.OutCIdeal.main_arg2)) (m ((c.tc : Thread Cert.OutCIdeal.nD Cert.OutCIdeal.τ).loc Cert.OutCIdeal.main_arg3)) (m ((c.tc : Thread Cert.OutCIdeal.nD Cert.OutCIdeal.τ).loc Cert.OutCIdeal.main_arg4)) (m ((c.tc : Thread Cert.OutCIdeal.nD Cert.OutCIdeal.τ).loc Cert.OutCIdeal.main_arg5)) (m ((c.tc : Thread Cert.OutCIdeal.nD Cert.OutCIdeal.τ).loc Cert.OutCIdeal.main_arg6))) = (fun _ => 1#1)

def Pre_OutCRefIdeal (m : (ℓ : Loc Cert.OutCRefIdeal.nD Cert.OutCRefIdeal.τ Cert.OutCRefIdeal.sig) → Buf (Elt Ideal) ℓ) : Prop :=
  True

def Pre_OutCRefIdeal_finite_out [hPre_finite_out : Cert.Pre_finite_out.Facts] (m : (ℓ : Loc Cert.OutCRefIdeal.nD Cert.OutCRefIdeal.τ Cert.OutCRefIdeal.sig) → Buf (Elt Ideal) ℓ) : Prop :=
  ∀ c : Dev Cert.OutCRefIdeal.nD,
    (Cert.Pre_finite_out.fn (F := Ideal) (m ((c.tc : Thread Cert.OutCRefIdeal.nD Cert.OutCRefIdeal.τ).loc Cert.OutCRefIdeal.main_arg0)) (m ((c.tc : Thread Cert.OutCRefIdeal.nD Cert.OutCRefIdeal.τ).loc Cert.OutCRefIdeal.main_arg1)) (m ((c.tc : Thread Cert.OutCRefIdeal.nD Cert.OutCRefIdeal.τ).loc Cert.OutCRefIdeal.main_arg2)) (m ((c.tc : Thread Cert.OutCRefIdeal.nD Cert.OutCRefIdeal.τ).loc Cert.OutCRefIdeal.main_arg3)) (m ((c.tc : Thread Cert.OutCRefIdeal.nD Cert.OutCRefIdeal.τ).loc Cert.OutCRefIdeal.main_arg4)) (m ((c.tc : Thread Cert.OutCRefIdeal.nD Cert.OutCRefIdeal.τ).loc Cert.OutCRefIdeal.main_arg5)) (m ((c.tc : Thread Cert.OutCRefIdeal.nD Cert.OutCRefIdeal.τ).loc Cert.OutCRefIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_InX [hInX : Cert.InX.Facts] : Prop :=
  ∀ (m : (ℓ : Loc Cert.InX.nD Cert.InX.τ Cert.InX.sig) → Buf (Elt Bits) ℓ) (g : Dev Cert.InX.nD → PrngReg), Pre_InX m →
    θ_run (Cert.InX.defs (F := Bits)) (onTc (τ := Cert.InX.τ) (Cert.InX.main (F := Bits))) ⟨m, fun _ => 0, g⟩ (fun r => (∀ c : Dev Cert.InX.nD,
      r.2.mem ((c.tc : Thread Cert.InX.nD Cert.InX.τ).loc Cert.InX.main_arg0) = m ((c.tc : Thread Cert.InX.nD Cert.InX.τ).loc Cert.InX.main_arg0)
      ∧ r.2.mem ((c.tc : Thread Cert.InX.nD Cert.InX.τ).loc Cert.InX.main_arg1) = m ((c.tc : Thread Cert.InX.nD Cert.InX.τ).loc Cert.InX.main_arg1)
      ∧ r.2.mem ((c.tc : Thread Cert.InX.nD Cert.InX.τ).loc Cert.InX.main_arg2) = m ((c.tc : Thread Cert.InX.nD Cert.InX.τ).loc Cert.InX.main_arg2)
      ∧ r.2.mem ((c.tc : Thread Cert.InX.nD Cert.InX.τ).loc Cert.InX.main_arg3) = m ((c.tc : Thread Cert.InX.nD Cert.InX.τ).loc Cert.InX.main_arg3)
      ∧ r.2.mem ((c.tc : Thread Cert.InX.nD Cert.InX.τ).loc Cert.InX.main_arg4) = m ((c.tc : Thread Cert.InX.nD Cert.InX.τ).loc Cert.InX.main_arg4))
      ∧ r.2.sem = fun _ => 0)

def quiescent_InXIdeal [hInXIdeal : Cert.InXIdeal.Facts] : Prop :=
  ∀ (m : (ℓ : Loc Cert.InXIdeal.nD Cert.InXIdeal.τ Cert.InXIdeal.sig) → Buf (Elt Ideal) ℓ) (g : Dev Cert.InXIdeal.nD → PrngReg), Pre_InXIdeal m →
    θ_run (Cert.InXIdeal.defs (F := Ideal)) (onTc (τ := Cert.InXIdeal.τ) (Cert.InXIdeal.main (F := Ideal))) ⟨m, fun _ => 0, g⟩ (fun r => (∀ c : Dev Cert.InXIdeal.nD,
      r.2.mem ((c.tc : Thread Cert.InXIdeal.nD Cert.InXIdeal.τ).loc Cert.InXIdeal.main_arg0) = m ((c.tc : Thread Cert.InXIdeal.nD Cert.InXIdeal.τ).loc Cert.InXIdeal.main_arg0)
      ∧ r.2.mem ((c.tc : Thread Cert.InXIdeal.nD Cert.InXIdeal.τ).loc Cert.InXIdeal.main_arg1) = m ((c.tc : Thread Cert.InXIdeal.nD Cert.InXIdeal.τ).loc Cert.InXIdeal.main_arg1)
      ∧ r.2.mem ((c.tc : Thread Cert.InXIdeal.nD Cert.InXIdeal.τ).loc Cert.InXIdeal.main_arg2) = m ((c.tc : Thread Cert.InXIdeal.nD Cert.InXIdeal.τ).loc Cert.InXIdeal.main_arg2)
      ∧ r.2.mem ((c.tc : Thread Cert.InXIdeal.nD Cert.InXIdeal.τ).loc Cert.InXIdeal.main_arg3) = m ((c.tc : Thread Cert.InXIdeal.nD Cert.InXIdeal.τ).loc Cert.InXIdeal.main_arg3)
      ∧ r.2.mem ((c.tc : Thread Cert.InXIdeal.nD Cert.InXIdeal.τ).loc Cert.InXIdeal.main_arg4) = m ((c.tc : Thread Cert.InXIdeal.nD Cert.InXIdeal.τ).loc Cert.InXIdeal.main_arg4))
      ∧ r.2.sem = fun _ => 0)

def quiescent_InXRefIdeal [hInXRefIdeal : Cert.InXRefIdeal.Facts] : Prop :=
  ∀ (m : (ℓ : Loc Cert.InXRefIdeal.nD Cert.InXRefIdeal.τ Cert.InXRefIdeal.sig) → Buf (Elt Ideal) ℓ) (g : Dev Cert.InXRefIdeal.nD → PrngReg), Pre_InXRefIdeal m →
    θ_run (Cert.InXRefIdeal.defs (F := Ideal)) (onTc (τ := Cert.InXRefIdeal.τ) (Cert.InXRefIdeal.main (F := Ideal))) ⟨m, fun _ => 0, g⟩ (fun r => (∀ c : Dev Cert.InXRefIdeal.nD,
      r.2.mem ((c.tc : Thread Cert.InXRefIdeal.nD Cert.InXRefIdeal.τ).loc Cert.InXRefIdeal.main_arg0) = m ((c.tc : Thread Cert.InXRefIdeal.nD Cert.InXRefIdeal.τ).loc Cert.InXRefIdeal.main_arg0)
      ∧ r.2.mem ((c.tc : Thread Cert.InXRefIdeal.nD Cert.InXRefIdeal.τ).loc Cert.InXRefIdeal.main_arg1) = m ((c.tc : Thread Cert.InXRefIdeal.nD Cert.InXRefIdeal.τ).loc Cert.InXRefIdeal.main_arg1)
      ∧ r.2.mem ((c.tc : Thread Cert.InXRefIdeal.nD Cert.InXRefIdeal.τ).loc Cert.InXRefIdeal.main_arg2) = m ((c.tc : Thread Cert.InXRefIdeal.nD Cert.InXRefIdeal.τ).loc Cert.InXRefIdeal.main_arg2)
      ∧ r.2.mem ((c.tc : Thread Cert.InXRefIdeal.nD Cert.InXRefIdeal.τ).loc Cert.InXRefIdeal.main_arg3) = m ((c.tc : Thread Cert.InXRefIdeal.nD Cert.InXRefIdeal.τ).loc Cert.InXRefIdeal.main_arg3)
      ∧ r.2.mem ((c.tc : Thread Cert.InXRefIdeal.nD Cert.InXRefIdeal.τ).loc Cert.InXRefIdeal.main_arg4) = m ((c.tc : Thread Cert.InXRefIdeal.nD Cert.InXRefIdeal.τ).loc Cert.InXRefIdeal.main_arg4))
      ∧ r.2.sem = fun _ => 0)

def quiescent_InW [hInW : Cert.InW.Facts] : Prop :=
  ∀ (m : (ℓ : Loc Cert.InW.nD Cert.InW.τ Cert.InW.sig) → Buf (Elt Bits) ℓ) (g : Dev Cert.InW.nD → PrngReg), Pre_InW m →
    θ_run (Cert.InW.defs (F := Bits)) (onTc (τ := Cert.InW.τ) (Cert.InW.main (F := Bits))) ⟨m, fun _ => 0, g⟩ (fun r => (∀ c : Dev Cert.InW.nD,
      r.2.mem ((c.tc : Thread Cert.InW.nD Cert.InW.τ).loc Cert.InW.main_arg0) = m ((c.tc : Thread Cert.InW.nD Cert.InW.τ).loc Cert.InW.main_arg0)
      ∧ r.2.mem ((c.tc : Thread Cert.InW.nD Cert.InW.τ).loc Cert.InW.main_arg1) = m ((c.tc : Thread Cert.InW.nD Cert.InW.τ).loc Cert.InW.main_arg1)
      ∧ r.2.mem ((c.tc : Thread Cert.InW.nD Cert.InW.τ).loc Cert.InW.main_arg2) = m ((c.tc : Thread Cert.InW.nD Cert.InW.τ).loc Cert.InW.main_arg2))
      ∧ r.2.sem = fun _ => 0)

def quiescent_InWIdeal [hInWIdeal : Cert.InWIdeal.Facts] : Prop :=
  ∀ (m : (ℓ : Loc Cert.InWIdeal.nD Cert.InWIdeal.τ Cert.InWIdeal.sig) → Buf (Elt Ideal) ℓ) (g : Dev Cert.InWIdeal.nD → PrngReg), Pre_InWIdeal m →
    θ_run (Cert.InWIdeal.defs (F := Ideal)) (onTc (τ := Cert.InWIdeal.τ) (Cert.InWIdeal.main (F := Ideal))) ⟨m, fun _ => 0, g⟩ (fun r => (∀ c : Dev Cert.InWIdeal.nD,
      r.2.mem ((c.tc : Thread Cert.InWIdeal.nD Cert.InWIdeal.τ).loc Cert.InWIdeal.main_arg0) = m ((c.tc : Thread Cert.InWIdeal.nD Cert.InWIdeal.τ).loc Cert.InWIdeal.main_arg0)
      ∧ r.2.mem ((c.tc : Thread Cert.InWIdeal.nD Cert.InWIdeal.τ).loc Cert.InWIdeal.main_arg1) = m ((c.tc : Thread Cert.InWIdeal.nD Cert.InWIdeal.τ).loc Cert.InWIdeal.main_arg1)
      ∧ r.2.mem ((c.tc : Thread Cert.InWIdeal.nD Cert.InWIdeal.τ).loc Cert.InWIdeal.main_arg2) = m ((c.tc : Thread Cert.InWIdeal.nD Cert.InWIdeal.τ).loc Cert.InWIdeal.main_arg2))
      ∧ r.2.sem = fun _ => 0)

def quiescent_InWRefIdeal [hInWRefIdeal : Cert.InWRefIdeal.Facts] : Prop :=
  ∀ (m : (ℓ : Loc Cert.InWRefIdeal.nD Cert.InWRefIdeal.τ Cert.InWRefIdeal.sig) → Buf (Elt Ideal) ℓ) (g : Dev Cert.InWRefIdeal.nD → PrngReg), Pre_InWRefIdeal m →
    θ_run (Cert.InWRefIdeal.defs (F := Ideal)) (onTc (τ := Cert.InWRefIdeal.τ) (Cert.InWRefIdeal.main (F := Ideal))) ⟨m, fun _ => 0, g⟩ (fun r => (∀ c : Dev Cert.InWRefIdeal.nD,
      r.2.mem ((c.tc : Thread Cert.InWRefIdeal.nD Cert.InWRefIdeal.τ).loc Cert.InWRefIdeal.main_arg0) = m ((c.tc : Thread Cert.InWRefIdeal.nD Cert.InWRefIdeal.τ).loc Cert.InWRefIdeal.main_arg0)
      ∧ r.2.mem ((c.tc : Thread Cert.InWRefIdeal.nD Cert.InWRefIdeal.τ).loc Cert.InWRefIdeal.main_arg1) = m ((c.tc : Thread Cert.InWRefIdeal.nD Cert.InWRefIdeal.τ).loc Cert.InWRefIdeal.main_arg1)
      ∧ r.2.mem ((c.tc : Thread Cert.InWRefIdeal.nD Cert.InWRefIdeal.τ).loc Cert.InWRefIdeal.main_arg2) = m ((c.tc : Thread Cert.InWRefIdeal.nD Cert.InWRefIdeal.τ).loc Cert.InWRefIdeal.main_arg2))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3)
      ∧ r.2.mem ((c.tc : Thread Cert.Ple.nD Cert.Ple.τ).loc Cert.Ple.main_arg4) = m ((c.tc : Thread Cert.Ple.nD Cert.Ple.τ).loc Cert.Ple.main_arg4)
      ∧ r.2.mem ((c.tc : Thread Cert.Ple.nD Cert.Ple.τ).loc Cert.Ple.main_arg5) = m ((c.tc : Thread Cert.Ple.nD Cert.Ple.τ).loc Cert.Ple.main_arg5))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
      ∧ r.2.mem ((c.tc : Thread Cert.PleIdeal.nD Cert.PleIdeal.τ).loc Cert.PleIdeal.main_arg5) = m ((c.tc : Thread Cert.PleIdeal.nD Cert.PleIdeal.τ).loc Cert.PleIdeal.main_arg5))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4)
      ∧ r.2.mem ((c.tc : Thread Cert.PleRefIdeal.nD Cert.PleRefIdeal.τ).loc Cert.PleRefIdeal.main_arg5) = m ((c.tc : Thread Cert.PleRefIdeal.nD Cert.PleRefIdeal.τ).loc Cert.PleRefIdeal.main_arg5))
      ∧ r.2.sem = fun _ => 0)

def quiescent_OutC [hOutC : Cert.OutC.Facts] : Prop :=
  ∀ (m : (ℓ : Loc Cert.OutC.nD Cert.OutC.τ Cert.OutC.sig) → Buf (Elt Bits) ℓ) (g : Dev Cert.OutC.nD → PrngReg), Pre_OutC m →
    θ_run (Cert.OutC.defs (F := Bits)) (onTc (τ := Cert.OutC.τ) (Cert.OutC.main (F := Bits))) ⟨m, fun _ => 0, g⟩ (fun r => (∀ c : Dev Cert.OutC.nD,
      r.2.mem ((c.tc : Thread Cert.OutC.nD Cert.OutC.τ).loc Cert.OutC.main_arg0) = m ((c.tc : Thread Cert.OutC.nD Cert.OutC.τ).loc Cert.OutC.main_arg0)
      ∧ r.2.mem ((c.tc : Thread Cert.OutC.nD Cert.OutC.τ).loc Cert.OutC.main_arg1) = m ((c.tc : Thread Cert.OutC.nD Cert.OutC.τ).loc Cert.OutC.main_arg1)
      ∧ r.2.mem ((c.tc : Thread Cert.OutC.nD Cert.OutC.τ).loc Cert.OutC.main_arg2) = m ((c.tc : Thread Cert.OutC.nD Cert.OutC.τ).loc Cert.OutC.main_arg2)
      ∧ r.2.mem ((c.tc : Thread Cert.OutC.nD Cert.OutC.τ).loc Cert.OutC.main_arg3) = m ((c.tc : Thread Cert.OutC.nD Cert.OutC.τ).loc Cert.OutC.main_arg3)
      ∧ r.2.mem ((c.tc : Thread Cert.OutC.nD Cert.OutC.τ).loc Cert.OutC.main_arg4) = m ((c.tc : Thread Cert.OutC.nD Cert.OutC.τ).loc Cert.OutC.main_arg4)
      ∧ r.2.mem ((c.tc : Thread Cert.OutC.nD Cert.OutC.τ).loc Cert.OutC.main_arg5) = m ((c.tc : Thread Cert.OutC.nD Cert.OutC.τ).loc Cert.OutC.main_arg5)
      ∧ r.2.mem ((c.tc : Thread Cert.OutC.nD Cert.OutC.τ).loc Cert.OutC.main_arg6) = m ((c.tc : Thread Cert.OutC.nD Cert.OutC.τ).loc Cert.OutC.main_arg6))
      ∧ r.2.sem = fun _ => 0)

def quiescent_OutCIdeal [hOutCIdeal : Cert.OutCIdeal.Facts] : Prop :=
  ∀ (m : (ℓ : Loc Cert.OutCIdeal.nD Cert.OutCIdeal.τ Cert.OutCIdeal.sig) → Buf (Elt Ideal) ℓ) (g : Dev Cert.OutCIdeal.nD → PrngReg), Pre_OutCIdeal m →
    θ_run (Cert.OutCIdeal.defs (F := Ideal)) (onTc (τ := Cert.OutCIdeal.τ) (Cert.OutCIdeal.main (F := Ideal))) ⟨m, fun _ => 0, g⟩ (fun r => (∀ c : Dev Cert.OutCIdeal.nD,
      r.2.mem ((c.tc : Thread Cert.OutCIdeal.nD Cert.OutCIdeal.τ).loc Cert.OutCIdeal.main_arg0) = m ((c.tc : Thread Cert.OutCIdeal.nD Cert.OutCIdeal.τ).loc Cert.OutCIdeal.main_arg0)
      ∧ r.2.mem ((c.tc : Thread Cert.OutCIdeal.nD Cert.OutCIdeal.τ).loc Cert.OutCIdeal.main_arg1) = m ((c.tc : Thread Cert.OutCIdeal.nD Cert.OutCIdeal.τ).loc Cert.OutCIdeal.main_arg1)
      ∧ r.2.mem ((c.tc : Thread Cert.OutCIdeal.nD Cert.OutCIdeal.τ).loc Cert.OutCIdeal.main_arg2) = m ((c.tc : Thread Cert.OutCIdeal.nD Cert.OutCIdeal.τ).loc Cert.OutCIdeal.main_arg2)
      ∧ r.2.mem ((c.tc : Thread Cert.OutCIdeal.nD Cert.OutCIdeal.τ).loc Cert.OutCIdeal.main_arg3) = m ((c.tc : Thread Cert.OutCIdeal.nD Cert.OutCIdeal.τ).loc Cert.OutCIdeal.main_arg3)
      ∧ r.2.mem ((c.tc : Thread Cert.OutCIdeal.nD Cert.OutCIdeal.τ).loc Cert.OutCIdeal.main_arg4) = m ((c.tc : Thread Cert.OutCIdeal.nD Cert.OutCIdeal.τ).loc Cert.OutCIdeal.main_arg4)
      ∧ r.2.mem ((c.tc : Thread Cert.OutCIdeal.nD Cert.OutCIdeal.τ).loc Cert.OutCIdeal.main_arg5) = m ((c.tc : Thread Cert.OutCIdeal.nD Cert.OutCIdeal.τ).loc Cert.OutCIdeal.main_arg5)
      ∧ r.2.mem ((c.tc : Thread Cert.OutCIdeal.nD Cert.OutCIdeal.τ).loc Cert.OutCIdeal.main_arg6) = m ((c.tc : Thread Cert.OutCIdeal.nD Cert.OutCIdeal.τ).loc Cert.OutCIdeal.main_arg6))
      ∧ r.2.sem = fun _ => 0)

def quiescent_OutCIdeal_pre_finite_out [hOutCIdeal : Cert.OutCIdeal.Facts] [hPre_finite_out : Cert.Pre_finite_out.Facts] : Prop :=
  ∀ (m : (ℓ : Loc Cert.OutCIdeal.nD Cert.OutCIdeal.τ Cert.OutCIdeal.sig) → Buf (Elt Ideal) ℓ) (g : Dev Cert.OutCIdeal.nD → PrngReg), Pre_OutCIdeal_finite_out m →
    θ_run (Cert.OutCIdeal.defs (F := Ideal)) (onTc (τ := Cert.OutCIdeal.τ) (Cert.OutCIdeal.main (F := Ideal))) ⟨m, fun _ => 0, g⟩ (fun r => (∀ c : Dev Cert.OutCIdeal.nD,
      r.2.mem ((c.tc : Thread Cert.OutCIdeal.nD Cert.OutCIdeal.τ).loc Cert.OutCIdeal.main_arg0) = m ((c.tc : Thread Cert.OutCIdeal.nD Cert.OutCIdeal.τ).loc Cert.OutCIdeal.main_arg0)
      ∧ r.2.mem ((c.tc : Thread Cert.OutCIdeal.nD Cert.OutCIdeal.τ).loc Cert.OutCIdeal.main_arg1) = m ((c.tc : Thread Cert.OutCIdeal.nD Cert.OutCIdeal.τ).loc Cert.OutCIdeal.main_arg1)
      ∧ r.2.mem ((c.tc : Thread Cert.OutCIdeal.nD Cert.OutCIdeal.τ).loc Cert.OutCIdeal.main_arg2) = m ((c.tc : Thread Cert.OutCIdeal.nD Cert.OutCIdeal.τ).loc Cert.OutCIdeal.main_arg2)
      ∧ r.2.mem ((c.tc : Thread Cert.OutCIdeal.nD Cert.OutCIdeal.τ).loc Cert.OutCIdeal.main_arg3) = m ((c.tc : Thread Cert.OutCIdeal.nD Cert.OutCIdeal.τ).loc Cert.OutCIdeal.main_arg3)
      ∧ r.2.mem ((c.tc : Thread Cert.OutCIdeal.nD Cert.OutCIdeal.τ).loc Cert.OutCIdeal.main_arg4) = m ((c.tc : Thread Cert.OutCIdeal.nD Cert.OutCIdeal.τ).loc Cert.OutCIdeal.main_arg4)
      ∧ r.2.mem ((c.tc : Thread Cert.OutCIdeal.nD Cert.OutCIdeal.τ).loc Cert.OutCIdeal.main_arg5) = m ((c.tc : Thread Cert.OutCIdeal.nD Cert.OutCIdeal.τ).loc Cert.OutCIdeal.main_arg5)
      ∧ r.2.mem ((c.tc : Thread Cert.OutCIdeal.nD Cert.OutCIdeal.τ).loc Cert.OutCIdeal.main_arg6) = m ((c.tc : Thread Cert.OutCIdeal.nD Cert.OutCIdeal.τ).loc Cert.OutCIdeal.main_arg6))
      ∧ r.2.sem = fun _ => 0)

def quiescent_OutCRefIdeal [hOutCRefIdeal : Cert.OutCRefIdeal.Facts] : Prop :=
  ∀ (m : (ℓ : Loc Cert.OutCRefIdeal.nD Cert.OutCRefIdeal.τ Cert.OutCRefIdeal.sig) → Buf (Elt Ideal) ℓ) (g : Dev Cert.OutCRefIdeal.nD → PrngReg), Pre_OutCRefIdeal m →
    θ_run (Cert.OutCRefIdeal.defs (F := Ideal)) (onTc (τ := Cert.OutCRefIdeal.τ) (Cert.OutCRefIdeal.main (F := Ideal))) ⟨m, fun _ => 0, g⟩ (fun r => (∀ c : Dev Cert.OutCRefIdeal.nD,
      r.2.mem ((c.tc : Thread Cert.OutCRefIdeal.nD Cert.OutCRefIdeal.τ).loc Cert.OutCRefIdeal.main_arg0) = m ((c.tc : Thread Cert.OutCRefIdeal.nD Cert.OutCRefIdeal.τ).loc Cert.OutCRefIdeal.main_arg0)
      ∧ r.2.mem ((c.tc : Thread Cert.OutCRefIdeal.nD Cert.OutCRefIdeal.τ).loc Cert.OutCRefIdeal.main_arg1) = m ((c.tc : Thread Cert.OutCRefIdeal.nD Cert.OutCRefIdeal.τ).loc Cert.OutCRefIdeal.main_arg1)
      ∧ r.2.mem ((c.tc : Thread Cert.OutCRefIdeal.nD Cert.OutCRefIdeal.τ).loc Cert.OutCRefIdeal.main_arg2) = m ((c.tc : Thread Cert.OutCRefIdeal.nD Cert.OutCRefIdeal.τ).loc Cert.OutCRefIdeal.main_arg2)
      ∧ r.2.mem ((c.tc : Thread Cert.OutCRefIdeal.nD Cert.OutCRefIdeal.τ).loc Cert.OutCRefIdeal.main_arg3) = m ((c.tc : Thread Cert.OutCRefIdeal.nD Cert.OutCRefIdeal.τ).loc Cert.OutCRefIdeal.main_arg3)
      ∧ r.2.mem ((c.tc : Thread Cert.OutCRefIdeal.nD Cert.OutCRefIdeal.τ).loc Cert.OutCRefIdeal.main_arg4) = m ((c.tc : Thread Cert.OutCRefIdeal.nD Cert.OutCRefIdeal.τ).loc Cert.OutCRefIdeal.main_arg4)
      ∧ r.2.mem ((c.tc : Thread Cert.OutCRefIdeal.nD Cert.OutCRefIdeal.τ).loc Cert.OutCRefIdeal.main_arg5) = m ((c.tc : Thread Cert.OutCRefIdeal.nD Cert.OutCRefIdeal.τ).loc Cert.OutCRefIdeal.main_arg5)
      ∧ r.2.mem ((c.tc : Thread Cert.OutCRefIdeal.nD Cert.OutCRefIdeal.τ).loc Cert.OutCRefIdeal.main_arg6) = m ((c.tc : Thread Cert.OutCRefIdeal.nD Cert.OutCRefIdeal.τ).loc Cert.OutCRefIdeal.main_arg6))
      ∧ r.2.sem = fun _ => 0)

def quiescent_OutCRefIdeal_pre_finite_out [hOutCRefIdeal : Cert.OutCRefIdeal.Facts] [hPre_finite_out : Cert.Pre_finite_out.Facts] : Prop :=
  ∀ (m : (ℓ : Loc Cert.OutCRefIdeal.nD Cert.OutCRefIdeal.τ Cert.OutCRefIdeal.sig) → Buf (Elt Ideal) ℓ) (g : Dev Cert.OutCRefIdeal.nD → PrngReg), Pre_OutCRefIdeal_finite_out m →
    θ_run (Cert.OutCRefIdeal.defs (F := Ideal)) (onTc (τ := Cert.OutCRefIdeal.τ) (Cert.OutCRefIdeal.main (F := Ideal))) ⟨m, fun _ => 0, g⟩ (fun r => (∀ c : Dev Cert.OutCRefIdeal.nD,
      r.2.mem ((c.tc : Thread Cert.OutCRefIdeal.nD Cert.OutCRefIdeal.τ).loc Cert.OutCRefIdeal.main_arg0) = m ((c.tc : Thread Cert.OutCRefIdeal.nD Cert.OutCRefIdeal.τ).loc Cert.OutCRefIdeal.main_arg0)
      ∧ r.2.mem ((c.tc : Thread Cert.OutCRefIdeal.nD Cert.OutCRefIdeal.τ).loc Cert.OutCRefIdeal.main_arg1) = m ((c.tc : Thread Cert.OutCRefIdeal.nD Cert.OutCRefIdeal.τ).loc Cert.OutCRefIdeal.main_arg1)
      ∧ r.2.mem ((c.tc : Thread Cert.OutCRefIdeal.nD Cert.OutCRefIdeal.τ).loc Cert.OutCRefIdeal.main_arg2) = m ((c.tc : Thread Cert.OutCRefIdeal.nD Cert.OutCRefIdeal.τ).loc Cert.OutCRefIdeal.main_arg2)
      ∧ r.2.mem ((c.tc : Thread Cert.OutCRefIdeal.nD Cert.OutCRefIdeal.τ).loc Cert.OutCRefIdeal.main_arg3) = m ((c.tc : Thread Cert.OutCRefIdeal.nD Cert.OutCRefIdeal.τ).loc Cert.OutCRefIdeal.main_arg3)
      ∧ r.2.mem ((c.tc : Thread Cert.OutCRefIdeal.nD Cert.OutCRefIdeal.τ).loc Cert.OutCRefIdeal.main_arg4) = m ((c.tc : Thread Cert.OutCRefIdeal.nD Cert.OutCRefIdeal.τ).loc Cert.OutCRefIdeal.main_arg4)
      ∧ r.2.mem ((c.tc : Thread Cert.OutCRefIdeal.nD Cert.OutCRefIdeal.τ).loc Cert.OutCRefIdeal.main_arg5) = m ((c.tc : Thread Cert.OutCRefIdeal.nD Cert.OutCRefIdeal.τ).loc Cert.OutCRefIdeal.main_arg5)
      ∧ r.2.mem ((c.tc : Thread Cert.OutCRefIdeal.nD Cert.OutCRefIdeal.τ).loc Cert.OutCRefIdeal.main_arg6) = m ((c.tc : Thread Cert.OutCRefIdeal.nD Cert.OutCRefIdeal.τ).loc Cert.OutCRefIdeal.main_arg6))
      ∧ r.2.sem = fun _ => 0)

def preserves_Kernel_KernelIdeal : Prop :=
  IdealRules.named_const.Statement Cert.KernelIdeal.κ "inv_sqrt2" .f32 0x3F3504F3#32 (((Real.sqrt 2)⁻¹ : ℝ) : EReal)
  ∧ IdealRules.named_const.Statement Cert.KernelIdeal.κ "gelu_slope" .f32 0x3ECC422A#32 (((9465531 / 16777216) * (Real.sqrt 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)) (v2 : (c : Dev Cert.KernelIdeal.nD) → Buf (Elt Ideal) ((c.tc : Thread Cert.KernelIdeal.nD Cert.KernelIdeal.τ).loc Cert.KernelIdeal.main_v7_2)) (v3 : (c : Dev Cert.KernelIdeal.nD) → Buf (Elt Ideal) ((c.tc : Thread Cert.KernelIdeal.nD Cert.KernelIdeal.τ).loc Cert.KernelIdeal.main_v7_3)) (v4 : (c : Dev Cert.KernelIdeal.nD) → Buf (Elt Ideal) ((c.tc : Thread Cert.KernelIdeal.nD Cert.KernelIdeal.τ).loc Cert.KernelIdeal.main_v7_4)) (v5 : (c : Dev Cert.KernelIdeal.nD) → Buf (Elt Ideal) ((c.tc : Thread Cert.KernelIdeal.nD Cert.KernelIdeal.τ).loc Cert.KernelIdeal.main_v7_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_v7_2) = v2 c
          ∧ r.2.mem ((c.tc : Thread Cert.KernelIdeal.nD Cert.KernelIdeal.τ).loc Cert.KernelIdeal.main_v7_3) = v3 c
          ∧ r.2.mem ((c.tc : Thread Cert.KernelIdeal.nD Cert.KernelIdeal.τ).loc Cert.KernelIdeal.main_v7_4) = v4 c
          ∧ r.2.mem ((c.tc : Thread Cert.KernelIdeal.nD Cert.KernelIdeal.τ).loc Cert.KernelIdeal.main_v7_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v140) = v0 c
          ∧ r.2.mem ((c.tc : Thread Cert.ReferenceIdeal.nD Cert.ReferenceIdeal.τ).loc Cert.ReferenceIdeal.main_v141) = v1 c
          ∧ r.2.mem ((c.tc : Thread Cert.ReferenceIdeal.nD Cert.ReferenceIdeal.τ).loc Cert.ReferenceIdeal.main_v85) = v2 c
          ∧ r.2.mem ((c.tc : Thread Cert.ReferenceIdeal.nD Cert.ReferenceIdeal.τ).loc Cert.ReferenceIdeal.main_v80) = v3 c
          ∧ r.2.mem ((c.tc : Thread Cert.ReferenceIdeal.nD Cert.ReferenceIdeal.τ).loc Cert.ReferenceIdeal.main_v142) = v4 c
          ∧ r.2.mem ((c.tc : Thread Cert.ReferenceIdeal.nD Cert.ReferenceIdeal.τ).loc Cert.ReferenceIdeal.main_v143) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_InX_InXIdeal : Prop :=
  True

def algebraic_InXIdeal_InXRefIdeal [hInXIdeal : Cert.InXIdeal.Facts] [hInXRefIdeal : Cert.InXRefIdeal.Facts] : Prop :=
  ∀ (m : (ℓ : Loc Cert.InXIdeal.nD Cert.InXIdeal.τ Cert.InXIdeal.sig) → Buf (Elt Ideal) ℓ) (g : Dev Cert.InXIdeal.nD → PrngReg)
    (m' : (ℓ : Loc Cert.InXRefIdeal.nD Cert.InXRefIdeal.τ Cert.InXRefIdeal.sig) → Buf (Elt Ideal) ℓ) (g' : Dev Cert.InXRefIdeal.nD → PrngReg), Pre_InXIdeal m →
    (∀ c : Dev Cert.InXIdeal.nD,
      m' ((c.tc : Thread Cert.InXRefIdeal.nD Cert.InXRefIdeal.τ).loc Cert.InXRefIdeal.main_arg0) = m ((c.tc : Thread Cert.InXIdeal.nD Cert.InXIdeal.τ).loc Cert.InXIdeal.main_arg0)
      ∧ m' ((c.tc : Thread Cert.InXRefIdeal.nD Cert.InXRefIdeal.τ).loc Cert.InXRefIdeal.main_arg1) = m ((c.tc : Thread Cert.InXIdeal.nD Cert.InXIdeal.τ).loc Cert.InXIdeal.main_arg1)
      ∧ m' ((c.tc : Thread Cert.InXRefIdeal.nD Cert.InXRefIdeal.τ).loc Cert.InXRefIdeal.main_arg2) = m ((c.tc : Thread Cert.InXIdeal.nD Cert.InXIdeal.τ).loc Cert.InXIdeal.main_arg2)
      ∧ m' ((c.tc : Thread Cert.InXRefIdeal.nD Cert.InXRefIdeal.τ).loc Cert.InXRefIdeal.main_arg3) = m ((c.tc : Thread Cert.InXIdeal.nD Cert.InXIdeal.τ).loc Cert.InXIdeal.main_arg3)
      ∧ m' ((c.tc : Thread Cert.InXRefIdeal.nD Cert.InXRefIdeal.τ).loc Cert.InXRefIdeal.main_arg4) = m ((c.tc : Thread Cert.InXIdeal.nD Cert.InXIdeal.τ).loc Cert.InXIdeal.main_arg4)) →
    ∃ (v0 : (c : Dev Cert.InXIdeal.nD) → Buf (Elt Ideal) ((c.tc : Thread Cert.InXIdeal.nD Cert.InXIdeal.τ).loc Cert.InXIdeal.main_v7_0)) (v1 : (c : Dev Cert.InXIdeal.nD) → Buf (Elt Ideal) ((c.tc : Thread Cert.InXIdeal.nD Cert.InXIdeal.τ).loc Cert.InXIdeal.main_v7_1)),
      θ_run (Cert.InXIdeal.defs (F := Ideal)) (onTc (τ := Cert.InXIdeal.τ) (Cert.InXIdeal.main (F := Ideal))) ⟨m, fun _ => 0, g⟩ (fun r => ∀ c : Dev Cert.InXIdeal.nD,
          r.2.mem ((c.tc : Thread Cert.InXIdeal.nD Cert.InXIdeal.τ).loc Cert.InXIdeal.main_v7_0) = v0 c
          ∧ r.2.mem ((c.tc : Thread Cert.InXIdeal.nD Cert.InXIdeal.τ).loc Cert.InXIdeal.main_v7_1) = v1 c
          ∧ r.2.mem ((c.tc : Thread Cert.InXIdeal.nD Cert.InXIdeal.τ).loc Cert.InXIdeal.main_arg0) = m ((c.tc : Thread Cert.InXIdeal.nD Cert.InXIdeal.τ).loc Cert.InXIdeal.main_arg0)
          ∧ r.2.mem ((c.tc : Thread Cert.InXIdeal.nD Cert.InXIdeal.τ).loc Cert.InXIdeal.main_arg1) = m ((c.tc : Thread Cert.InXIdeal.nD Cert.InXIdeal.τ).loc Cert.InXIdeal.main_arg1)
          ∧ r.2.mem ((c.tc : Thread Cert.InXIdeal.nD Cert.InXIdeal.τ).loc Cert.InXIdeal.main_arg2) = m ((c.tc : Thread Cert.InXIdeal.nD Cert.InXIdeal.τ).loc Cert.InXIdeal.main_arg2)
          ∧ r.2.mem ((c.tc : Thread Cert.InXIdeal.nD Cert.InXIdeal.τ).loc Cert.InXIdeal.main_arg3) = m ((c.tc : Thread Cert.InXIdeal.nD Cert.InXIdeal.τ).loc Cert.InXIdeal.main_arg3)
          ∧ r.2.mem ((c.tc : Thread Cert.InXIdeal.nD Cert.InXIdeal.τ).loc Cert.InXIdeal.main_arg4) = m ((c.tc : Thread Cert.InXIdeal.nD Cert.InXIdeal.τ).loc Cert.InXIdeal.main_arg4))
      ∧ θ_run (Cert.InXRefIdeal.defs (F := Ideal)) (onTc (τ := Cert.InXRefIdeal.τ) (Cert.InXRefIdeal.main (F := Ideal))) ⟨m', fun _ => 0, g'⟩ (fun r => ∀ c : Dev Cert.InXRefIdeal.nD,
          r.2.mem ((c.tc : Thread Cert.InXRefIdeal.nD Cert.InXRefIdeal.τ).loc Cert.InXRefIdeal.main_v40) = v0 c
          ∧ r.2.mem ((c.tc : Thread Cert.InXRefIdeal.nD Cert.InXRefIdeal.τ).loc Cert.InXRefIdeal.main_v41) = v1 c
          ∧ r.2.mem ((c.tc : Thread Cert.InXRefIdeal.nD Cert.InXRefIdeal.τ).loc Cert.InXRefIdeal.main_arg0) = m' ((c.tc : Thread Cert.InXRefIdeal.nD Cert.InXRefIdeal.τ).loc Cert.InXRefIdeal.main_arg0)
          ∧ r.2.mem ((c.tc : Thread Cert.InXRefIdeal.nD Cert.InXRefIdeal.τ).loc Cert.InXRefIdeal.main_arg1) = m' ((c.tc : Thread Cert.InXRefIdeal.nD Cert.InXRefIdeal.τ).loc Cert.InXRefIdeal.main_arg1)
          ∧ r.2.mem ((c.tc : Thread Cert.InXRefIdeal.nD Cert.InXRefIdeal.τ).loc Cert.InXRefIdeal.main_arg2) = m' ((c.tc : Thread Cert.InXRefIdeal.nD Cert.InXRefIdeal.τ).loc Cert.InXRefIdeal.main_arg2)
          ∧ r.2.mem ((c.tc : Thread Cert.InXRefIdeal.nD Cert.InXRefIdeal.τ).loc Cert.InXRefIdeal.main_arg3) = m' ((c.tc : Thread Cert.InXRefIdeal.nD Cert.InXRefIdeal.τ).loc Cert.InXRefIdeal.main_arg3)
          ∧ r.2.mem ((c.tc : Thread Cert.InXRefIdeal.nD Cert.InXRefIdeal.τ).loc Cert.InXRefIdeal.main_arg4) = m' ((c.tc : Thread Cert.InXRefIdeal.nD Cert.InXRefIdeal.τ).loc Cert.InXRefIdeal.main_arg4))

def preserves_InW_InWIdeal : Prop :=
  True

def algebraic_InWIdeal_InWRefIdeal [hInWIdeal : Cert.InWIdeal.Facts] [hInWRefIdeal : Cert.InWRefIdeal.Facts] : Prop :=
  ∀ (m : (ℓ : Loc Cert.InWIdeal.nD Cert.InWIdeal.τ Cert.InWIdeal.sig) → Buf (Elt Ideal) ℓ) (g : Dev Cert.InWIdeal.nD → PrngReg)
    (m' : (ℓ : Loc Cert.InWRefIdeal.nD Cert.InWRefIdeal.τ Cert.InWRefIdeal.sig) → Buf (Elt Ideal) ℓ) (g' : Dev Cert.InWRefIdeal.nD → PrngReg), Pre_InWIdeal m →
    (∀ c : Dev Cert.InWIdeal.nD,
      m' ((c.tc : Thread Cert.InWRefIdeal.nD Cert.InWRefIdeal.τ).loc Cert.InWRefIdeal.main_arg0) = m ((c.tc : Thread Cert.InWIdeal.nD Cert.InWIdeal.τ).loc Cert.InWIdeal.main_arg0)
      ∧ m' ((c.tc : Thread Cert.InWRefIdeal.nD Cert.InWRefIdeal.τ).loc Cert.InWRefIdeal.main_arg1) = m ((c.tc : Thread Cert.InWIdeal.nD Cert.InWIdeal.τ).loc Cert.InWIdeal.main_arg1)
      ∧ m' ((c.tc : Thread Cert.InWRefIdeal.nD Cert.InWRefIdeal.τ).loc Cert.InWRefIdeal.main_arg2) = m ((c.tc : Thread Cert.InWIdeal.nD Cert.InWIdeal.τ).loc Cert.InWIdeal.main_arg2)) →
    ∃ (v0 : (c : Dev Cert.InWIdeal.nD) → Buf (Elt Ideal) ((c.tc : Thread Cert.InWIdeal.nD Cert.InWIdeal.τ).loc Cert.InWIdeal.main_v16)),
      θ_run (Cert.InWIdeal.defs (F := Ideal)) (onTc (τ := Cert.InWIdeal.τ) (Cert.InWIdeal.main (F := Ideal))) ⟨m, fun _ => 0, g⟩ (fun r => ∀ c : Dev Cert.InWIdeal.nD,
          r.2.mem ((c.tc : Thread Cert.InWIdeal.nD Cert.InWIdeal.τ).loc Cert.InWIdeal.main_v16) = v0 c
          ∧ r.2.mem ((c.tc : Thread Cert.InWIdeal.nD Cert.InWIdeal.τ).loc Cert.InWIdeal.main_arg0) = m ((c.tc : Thread Cert.InWIdeal.nD Cert.InWIdeal.τ).loc Cert.InWIdeal.main_arg0)
          ∧ r.2.mem ((c.tc : Thread Cert.InWIdeal.nD Cert.InWIdeal.τ).loc Cert.InWIdeal.main_arg1) = m ((c.tc : Thread Cert.InWIdeal.nD Cert.InWIdeal.τ).loc Cert.InWIdeal.main_arg1)
          ∧ r.2.mem ((c.tc : Thread Cert.InWIdeal.nD Cert.InWIdeal.τ).loc Cert.InWIdeal.main_arg2) = m ((c.tc : Thread Cert.InWIdeal.nD Cert.InWIdeal.τ).loc Cert.InWIdeal.main_arg2))
      ∧ θ_run (Cert.InWRefIdeal.defs (F := Ideal)) (onTc (τ := Cert.InWRefIdeal.τ) (Cert.InWRefIdeal.main (F := Ideal))) ⟨m', fun _ => 0, g'⟩ (fun r => ∀ c : Dev Cert.InWRefIdeal.nD,
          r.2.mem ((c.tc : Thread Cert.InWRefIdeal.nD Cert.InWRefIdeal.τ).loc Cert.InWRefIdeal.main_v20) = v0 c
          ∧ r.2.mem ((c.tc : Thread Cert.InWRefIdeal.nD Cert.InWRefIdeal.τ).loc Cert.InWRefIdeal.main_arg0) = m' ((c.tc : Thread Cert.InWRefIdeal.nD Cert.InWRefIdeal.τ).loc Cert.InWRefIdeal.main_arg0)
          ∧ r.2.mem ((c.tc : Thread Cert.InWRefIdeal.nD Cert.InWRefIdeal.τ).loc Cert.InWRefIdeal.main_arg1) = m' ((c.tc : Thread Cert.InWRefIdeal.nD Cert.InWRefIdeal.τ).loc Cert.InWRefIdeal.main_arg1)
          ∧ r.2.mem ((c.tc : Thread Cert.InWRefIdeal.nD Cert.InWRefIdeal.τ).loc Cert.InWRefIdeal.main_arg2) = m' ((c.tc : Thread Cert.InWRefIdeal.nD Cert.InWRefIdeal.τ).loc Cert.InWRefIdeal.main_arg2))

def preserves_Ple_PleIdeal : Prop :=
  True

def algebraic_PleIdeal_PleRefIdeal [hPleIdeal : Cert.PleIdeal.Facts] [hPleRefIdeal : Cert.PleRefIdeal.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleIdeal m →
    (∀ c : Dev Cert.PleIdeal.nD,
      m' ((c.tc : Thread Cert.PleRefIdeal.nD Cert.PleRefIdeal.τ).loc Cert.PleRefIdeal.main_arg0) = m ((c.tc : Thread Cert.PleIdeal.nD Cert.PleIdeal.τ).loc Cert.PleIdeal.main_arg0)
      ∧ m' ((c.tc : Thread Cert.PleRefIdeal.nD Cert.PleRefIdeal.τ).loc Cert.PleRefIdeal.main_arg1) = m ((c.tc : Thread Cert.PleIdeal.nD Cert.PleIdeal.τ).loc Cert.PleIdeal.main_arg1)
      ∧ m' ((c.tc : Thread Cert.PleRefIdeal.nD Cert.PleRefIdeal.τ).loc Cert.PleRefIdeal.main_arg2) = m ((c.tc : Thread Cert.PleIdeal.nD Cert.PleIdeal.τ).loc Cert.PleIdeal.main_arg2)
      ∧ m' ((c.tc : Thread Cert.PleRefIdeal.nD Cert.PleRefIdeal.τ).loc Cert.PleRefIdeal.main_arg3) = m ((c.tc : Thread Cert.PleIdeal.nD Cert.PleIdeal.τ).loc Cert.PleIdeal.main_arg3)
      ∧ m' ((c.tc : Thread Cert.PleRefIdeal.nD Cert.PleRefIdeal.τ).loc Cert.PleRefIdeal.main_arg4) = m ((c.tc : Thread Cert.PleIdeal.nD Cert.PleIdeal.τ).loc Cert.PleIdeal.main_arg4)
      ∧ m' ((c.tc : Thread Cert.PleRefIdeal.nD Cert.PleRefIdeal.τ).loc Cert.PleRefIdeal.main_arg5) = m ((c.tc : Thread Cert.PleIdeal.nD Cert.PleIdeal.τ).loc Cert.PleIdeal.main_arg5)) →
    ∃ (v0 : (c : Dev Cert.PleIdeal.nD) → Buf (Elt Ideal) ((c.tc : Thread Cert.PleIdeal.nD Cert.PleIdeal.τ).loc Cert.PleIdeal.main_v27_0)) (v1 : (c : Dev Cert.PleIdeal.nD) → Buf (Elt Ideal) ((c.tc : Thread Cert.PleIdeal.nD Cert.PleIdeal.τ).loc Cert.PleIdeal.main_v27_1)) (v2 : (c : Dev Cert.PleIdeal.nD) → Buf (Elt Ideal) ((c.tc : Thread Cert.PleIdeal.nD Cert.PleIdeal.τ).loc Cert.PleIdeal.main_v27_2)) (v3 : (c : Dev Cert.PleIdeal.nD) → Buf (Elt Ideal) ((c.tc : Thread Cert.PleIdeal.nD Cert.PleIdeal.τ).loc Cert.PleIdeal.main_v27_3)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v27_0) = v0 c
          ∧ r.2.mem ((c.tc : Thread Cert.PleIdeal.nD Cert.PleIdeal.τ).loc Cert.PleIdeal.main_v27_1) = v1 c
          ∧ r.2.mem ((c.tc : Thread Cert.PleIdeal.nD Cert.PleIdeal.τ).loc Cert.PleIdeal.main_v27_2) = v2 c
          ∧ r.2.mem ((c.tc : Thread Cert.PleIdeal.nD Cert.PleIdeal.τ).loc Cert.PleIdeal.main_v27_3) = v3 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
          ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
          ∧ r.2.mem ((c.tc : Thread Cert.PleIdeal.nD Cert.PleIdeal.τ).loc Cert.PleIdeal.main_arg5) = m ((c.tc : Thread Cert.PleIdeal.nD Cert.PleIdeal.τ).loc Cert.PleIdeal.main_arg5))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v63) = v0 c
          ∧ r.2.mem ((c.tc : Thread Cert.PleRefIdeal.nD Cert.PleRefIdeal.τ).loc Cert.PleRefIdeal.main_v64) = v1 c
          ∧ r.2.mem ((c.tc : Thread Cert.PleRefIdeal.nD Cert.PleRefIdeal.τ).loc Cert.PleRefIdeal.main_v65) = v2 c
          ∧ r.2.mem ((c.tc : Thread Cert.PleRefIdeal.nD Cert.PleRefIdeal.τ).loc Cert.PleRefIdeal.main_v66) = v3 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1)
          ∧ r.2.mem ((c.tc : Thread Cert.PleRefIdeal.nD Cert.PleRefIdeal.τ).loc Cert.PleRefIdeal.main_arg2) = m' ((c.tc : Thread Cert.PleRefIdeal.nD Cert.PleRefIdeal.τ).loc Cert.PleRefIdeal.main_arg2)
          ∧ r.2.mem ((c.tc : Thread Cert.PleRefIdeal.nD Cert.PleRefIdeal.τ).loc Cert.PleRefIdeal.main_arg3) = m' ((c.tc : Thread Cert.PleRefIdeal.nD Cert.PleRefIdeal.τ).loc Cert.PleRefIdeal.main_arg3)
          ∧ r.2.mem ((c.tc : Thread Cert.PleRefIdeal.nD Cert.PleRefIdeal.τ).loc Cert.PleRefIdeal.main_arg4) = m' ((c.tc : Thread Cert.PleRefIdeal.nD Cert.PleRefIdeal.τ).loc Cert.PleRefIdeal.main_arg4)
          ∧ r.2.mem ((c.tc : Thread Cert.PleRefIdeal.nD Cert.PleRefIdeal.τ).loc Cert.PleRefIdeal.main_arg5) = m' ((c.tc : Thread Cert.PleRefIdeal.nD Cert.PleRefIdeal.τ).loc Cert.PleRefIdeal.main_arg5))

def preserves_OutC_OutCIdeal : Prop :=
  True

def algebraic_OutCIdeal_OutCRefIdeal_pre_finite_out [hOutCIdeal : Cert.OutCIdeal.Facts] [hOutCRefIdeal : Cert.OutCRefIdeal.Facts] [hPre_finite_out : Cert.Pre_finite_out.Facts] : Prop :=
  ∀ (m : (ℓ : Loc Cert.OutCIdeal.nD Cert.OutCIdeal.τ Cert.OutCIdeal.sig) → Buf (Elt Ideal) ℓ) (g : Dev Cert.OutCIdeal.nD → PrngReg)
    (m' : (ℓ : Loc Cert.OutCRefIdeal.nD Cert.OutCRefIdeal.τ Cert.OutCRefIdeal.sig) → Buf (Elt Ideal) ℓ) (g' : Dev Cert.OutCRefIdeal.nD → PrngReg), Pre_OutCIdeal_finite_out m →
    (∀ c : Dev Cert.OutCIdeal.nD,
      m' ((c.tc : Thread Cert.OutCRefIdeal.nD Cert.OutCRefIdeal.τ).loc Cert.OutCRefIdeal.main_arg0) = m ((c.tc : Thread Cert.OutCIdeal.nD Cert.OutCIdeal.τ).loc Cert.OutCIdeal.main_arg0)
      ∧ m' ((c.tc : Thread Cert.OutCRefIdeal.nD Cert.OutCRefIdeal.τ).loc Cert.OutCRefIdeal.main_arg1) = m ((c.tc : Thread Cert.OutCIdeal.nD Cert.OutCIdeal.τ).loc Cert.OutCIdeal.main_arg1)
      ∧ m' ((c.tc : Thread Cert.OutCRefIdeal.nD Cert.OutCRefIdeal.τ).loc Cert.OutCRefIdeal.main_arg2) = m ((c.tc : Thread Cert.OutCIdeal.nD Cert.OutCIdeal.τ).loc Cert.OutCIdeal.main_arg2)
      ∧ m' ((c.tc : Thread Cert.OutCRefIdeal.nD Cert.OutCRefIdeal.τ).loc Cert.OutCRefIdeal.main_arg3) = m ((c.tc : Thread Cert.OutCIdeal.nD Cert.OutCIdeal.τ).loc Cert.OutCIdeal.main_arg3)
      ∧ m' ((c.tc : Thread Cert.OutCRefIdeal.nD Cert.OutCRefIdeal.τ).loc Cert.OutCRefIdeal.main_arg4) = m ((c.tc : Thread Cert.OutCIdeal.nD Cert.OutCIdeal.τ).loc Cert.OutCIdeal.main_arg4)
      ∧ m' ((c.tc : Thread Cert.OutCRefIdeal.nD Cert.OutCRefIdeal.τ).loc Cert.OutCRefIdeal.main_arg5) = m ((c.tc : Thread Cert.OutCIdeal.nD Cert.OutCIdeal.τ).loc Cert.OutCIdeal.main_arg5)
      ∧ m' ((c.tc : Thread Cert.OutCRefIdeal.nD Cert.OutCRefIdeal.τ).loc Cert.OutCRefIdeal.main_arg6) = m ((c.tc : Thread Cert.OutCIdeal.nD Cert.OutCIdeal.τ).loc Cert.OutCIdeal.main_arg6)) →
    ∃ (v0 : (c : Dev Cert.OutCIdeal.nD) → Buf (Elt Ideal) ((c.tc : Thread Cert.OutCIdeal.nD Cert.OutCIdeal.τ).loc Cert.OutCIdeal.main_v9_0)) (v1 : (c : Dev Cert.OutCIdeal.nD) → Buf (Elt Ideal) ((c.tc : Thread Cert.OutCIdeal.nD Cert.OutCIdeal.τ).loc Cert.OutCIdeal.main_v9_1)) (v2 : (c : Dev Cert.OutCIdeal.nD) → Buf (Elt Ideal) ((c.tc : Thread Cert.OutCIdeal.nD Cert.OutCIdeal.τ).loc Cert.OutCIdeal.main_v9_2)) (v3 : (c : Dev Cert.OutCIdeal.nD) → Buf (Elt Ideal) ((c.tc : Thread Cert.OutCIdeal.nD Cert.OutCIdeal.τ).loc Cert.OutCIdeal.main_v9_3)) (v4 : (c : Dev Cert.OutCIdeal.nD) → Buf (Elt Ideal) ((c.tc : Thread Cert.OutCIdeal.nD Cert.OutCIdeal.τ).loc Cert.OutCIdeal.main_v9_4)) (v5 : (c : Dev Cert.OutCIdeal.nD) → Buf (Elt Ideal) ((c.tc : Thread Cert.OutCIdeal.nD Cert.OutCIdeal.τ).loc Cert.OutCIdeal.main_v9_5)),
      θ_run (Cert.OutCIdeal.defs (F := Ideal)) (onTc (τ := Cert.OutCIdeal.τ) (Cert.OutCIdeal.main (F := Ideal))) ⟨m, fun _ => 0, g⟩ (fun r => ∀ c : Dev Cert.OutCIdeal.nD,
          r.2.mem ((c.tc : Thread Cert.OutCIdeal.nD Cert.OutCIdeal.τ).loc Cert.OutCIdeal.main_v9_0) = v0 c
          ∧ r.2.mem ((c.tc : Thread Cert.OutCIdeal.nD Cert.OutCIdeal.τ).loc Cert.OutCIdeal.main_v9_1) = v1 c
          ∧ r.2.mem ((c.tc : Thread Cert.OutCIdeal.nD Cert.OutCIdeal.τ).loc Cert.OutCIdeal.main_v9_2) = v2 c
          ∧ r.2.mem ((c.tc : Thread Cert.OutCIdeal.nD Cert.OutCIdeal.τ).loc Cert.OutCIdeal.main_v9_3) = v3 c
          ∧ r.2.mem ((c.tc : Thread Cert.OutCIdeal.nD Cert.OutCIdeal.τ).loc Cert.OutCIdeal.main_v9_4) = v4 c
          ∧ r.2.mem ((c.tc : Thread Cert.OutCIdeal.nD Cert.OutCIdeal.τ).loc Cert.OutCIdeal.main_v9_5) = v5 c
          ∧ r.2.mem ((c.tc : Thread Cert.OutCIdeal.nD Cert.OutCIdeal.τ).loc Cert.OutCIdeal.main_arg0) = m ((c.tc : Thread Cert.OutCIdeal.nD Cert.OutCIdeal.τ).loc Cert.OutCIdeal.main_arg0)
          ∧ r.2.mem ((c.tc : Thread Cert.OutCIdeal.nD Cert.OutCIdeal.τ).loc Cert.OutCIdeal.main_arg1) = m ((c.tc : Thread Cert.OutCIdeal.nD Cert.OutCIdeal.τ).loc Cert.OutCIdeal.main_arg1)
          ∧ r.2.mem ((c.tc : Thread Cert.OutCIdeal.nD Cert.OutCIdeal.τ).loc Cert.OutCIdeal.main_arg2) = m ((c.tc : Thread Cert.OutCIdeal.nD Cert.OutCIdeal.τ).loc Cert.OutCIdeal.main_arg2)
          ∧ r.2.mem ((c.tc : Thread Cert.OutCIdeal.nD Cert.OutCIdeal.τ).loc Cert.OutCIdeal.main_arg3) = m ((c.tc : Thread Cert.OutCIdeal.nD Cert.OutCIdeal.τ).loc Cert.OutCIdeal.main_arg3)
          ∧ r.2.mem ((c.tc : Thread Cert.OutCIdeal.nD Cert.OutCIdeal.τ).loc Cert.OutCIdeal.main_arg4) = m ((c.tc : Thread Cert.OutCIdeal.nD Cert.OutCIdeal.τ).loc Cert.OutCIdeal.main_arg4)
          ∧ r.2.mem ((c.tc : Thread Cert.OutCIdeal.nD Cert.OutCIdeal.τ).loc Cert.OutCIdeal.main_arg5) = m ((c.tc : Thread Cert.OutCIdeal.nD Cert.OutCIdeal.τ).loc Cert.OutCIdeal.main_arg5)
          ∧ r.2.mem ((c.tc : Thread Cert.OutCIdeal.nD Cert.OutCIdeal.τ).loc Cert.OutCIdeal.main_arg6) = m ((c.tc : Thread Cert.OutCIdeal.nD Cert.OutCIdeal.τ).loc Cert.OutCIdeal.main_arg6))
      ∧ θ_run (Cert.OutCRefIdeal.defs (F := Ideal)) (onTc (τ := Cert.OutCRefIdeal.τ) (Cert.OutCRefIdeal.main (F := Ideal))) ⟨m', fun _ => 0, g'⟩ (fun r => ∀ c : Dev Cert.OutCRefIdeal.nD,
          r.2.mem ((c.tc : Thread Cert.OutCRefIdeal.nD Cert.OutCRefIdeal.τ).loc Cert.OutCRefIdeal.main_v76) = v0 c
          ∧ r.2.mem ((c.tc : Thread Cert.OutCRefIdeal.nD Cert.OutCRefIdeal.τ).loc Cert.OutCRefIdeal.main_v78) = v1 c
          ∧ r.2.mem ((c.tc : Thread Cert.OutCRefIdeal.nD Cert.OutCRefIdeal.τ).loc Cert.OutCRefIdeal.main_v79) = v2 c
          ∧ r.2.mem ((c.tc : Thread Cert.OutCRefIdeal.nD Cert.OutCRefIdeal.τ).loc Cert.OutCRefIdeal.main_v80) = v3 c
          ∧ r.2.mem ((c.tc : Thread Cert.OutCRefIdeal.nD Cert.OutCRefIdeal.τ).loc Cert.OutCRefIdeal.main_v81) = v4 c
          ∧ r.2.mem ((c.tc : Thread Cert.OutCRefIdeal.nD Cert.OutCRefIdeal.τ).loc Cert.OutCRefIdeal.main_v82) = v5 c
          ∧ r.2.mem ((c.tc : Thread Cert.OutCRefIdeal.nD Cert.OutCRefIdeal.τ).loc Cert.OutCRefIdeal.main_arg0) = m' ((c.tc : Thread Cert.OutCRefIdeal.nD Cert.OutCRefIdeal.τ).loc Cert.OutCRefIdeal.main_arg0)
          ∧ r.2.mem ((c.tc : Thread Cert.OutCRefIdeal.nD Cert.OutCRefIdeal.τ).loc Cert.OutCRefIdeal.main_arg1) = m' ((c.tc : Thread Cert.OutCRefIdeal.nD Cert.OutCRefIdeal.τ).loc Cert.OutCRefIdeal.main_arg1)
          ∧ r.2.mem ((c.tc : Thread Cert.OutCRefIdeal.nD Cert.OutCRefIdeal.τ).loc Cert.OutCRefIdeal.main_arg2) = m' ((c.tc : Thread Cert.OutCRefIdeal.nD Cert.OutCRefIdeal.τ).loc Cert.OutCRefIdeal.main_arg2)
          ∧ r.2.mem ((c.tc : Thread Cert.OutCRefIdeal.nD Cert.OutCRefIdeal.τ).loc Cert.OutCRefIdeal.main_arg3) = m' ((c.tc : Thread Cert.OutCRefIdeal.nD Cert.OutCRefIdeal.τ).loc Cert.OutCRefIdeal.main_arg3)
          ∧ r.2.mem ((c.tc : Thread Cert.OutCRefIdeal.nD Cert.OutCRefIdeal.τ).loc Cert.OutCRefIdeal.main_arg4) = m' ((c.tc : Thread Cert.OutCRefIdeal.nD Cert.OutCRefIdeal.τ).loc Cert.OutCRefIdeal.main_arg4)
          ∧ r.2.mem ((c.tc : Thread Cert.OutCRefIdeal.nD Cert.OutCRefIdeal.τ).loc Cert.OutCRefIdeal.main_arg5) = m' ((c.tc : Thread Cert.OutCRefIdeal.nD Cert.OutCRefIdeal.τ).loc Cert.OutCRefIdeal.main_arg5)
          ∧ r.2.mem ((c.tc : Thread Cert.OutCRefIdeal.nD Cert.OutCRefIdeal.τ).loc Cert.OutCRefIdeal.main_arg6) = m' ((c.tc : Thread Cert.OutCRefIdeal.nD Cert.OutCRefIdeal.τ).loc Cert.OutCRefIdeal.main_arg6))

def Claim : Prop :=
  ∃ (hKernel : Cert.Kernel.Facts) (hKernelIdeal : Cert.KernelIdeal.Facts) (hReferenceIdeal : Cert.ReferenceIdeal.Facts) (hInX : Cert.InX.Facts) (hInXIdeal : Cert.InXIdeal.Facts) (hInXRefIdeal : Cert.InXRefIdeal.Facts) (hInW : Cert.InW.Facts) (hInWIdeal : Cert.InWIdeal.Facts) (hInWRefIdeal : Cert.InWRefIdeal.Facts) (hPle : Cert.Ple.Facts) (hPleIdeal : Cert.PleIdeal.Facts) (hPleRefIdeal : Cert.PleRefIdeal.Facts) (hOutC : Cert.OutC.Facts) (hOutCIdeal : Cert.OutCIdeal.Facts) (hOutCRefIdeal : Cert.OutCRefIdeal.Facts) (hPre_finite : Cert.Pre_finite.Facts) (hPre_finite_out : Cert.Pre_finite_out.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_InX (hInX := hInX)
    ∧ quiescent_InXIdeal (hInXIdeal := hInXIdeal)
    ∧ quiescent_InXRefIdeal (hInXRefIdeal := hInXRefIdeal)
    ∧ quiescent_InW (hInW := hInW)
    ∧ quiescent_InWIdeal (hInWIdeal := hInWIdeal)
    ∧ quiescent_InWRefIdeal (hInWRefIdeal := hInWRefIdeal)
    ∧ quiescent_Ple (hPle := hPle)
    ∧ quiescent_PleIdeal (hPleIdeal := hPleIdeal)
    ∧ quiescent_PleRefIdeal (hPleRefIdeal := hPleRefIdeal)
    ∧ quiescent_OutC (hOutC := hOutC)
    ∧ quiescent_OutCIdeal (hOutCIdeal := hOutCIdeal)
    ∧ quiescent_OutCIdeal_pre_finite_out (hOutCIdeal := hOutCIdeal) (hPre_finite_out := hPre_finite_out)
    ∧ quiescent_OutCRefIdeal (hOutCRefIdeal := hOutCRefIdeal)
    ∧ quiescent_OutCRefIdeal_pre_finite_out (hOutCRefIdeal := hOutCRefIdeal) (hPre_finite_out := hPre_finite_out)
    ∧ preserves_Kernel_KernelIdeal
    ∧ algebraic_KernelIdeal_ReferenceIdeal_pre_finite (hKernelIdeal := hKernelIdeal) (hReferenceIdeal := hReferenceIdeal) (hPre_finite := hPre_finite)
    ∧ preserves_InX_InXIdeal
    ∧ algebraic_InXIdeal_InXRefIdeal (hInXIdeal := hInXIdeal) (hInXRefIdeal := hInXRefIdeal)
    ∧ preserves_InW_InWIdeal
    ∧ algebraic_InWIdeal_InWRefIdeal (hInWIdeal := hInWIdeal) (hInWRefIdeal := hInWRefIdeal)
    ∧ preserves_Ple_PleIdeal
    ∧ algebraic_PleIdeal_PleRefIdeal (hPleIdeal := hPleIdeal) (hPleRefIdeal := hPleRefIdeal)
    ∧ preserves_OutC_OutCIdeal
    ∧ algebraic_OutCIdeal_OutCRefIdeal_pre_finite_out (hOutCIdeal := hOutCIdeal) (hOutCRefIdeal := hOutCRefIdeal) (hPre_finite_out := hPre_finite_out)
-- ==== Pre_finite.lean ====
abbrev S2x4096x1024 : Shape := ⟨3, ![2, 4096, 1024]⟩
abbrev S2x4096x6144 : Shape := ⟨3, ![2, 4096, 6144]⟩
abbrev S2048x1024 : Shape := ⟨2, ![2048, 1024]⟩
abbrev S2048 : Shape := ⟨1, ![2048]⟩
abbrev S8x128x128 : Shape := ⟨3, ![8, 128, 128]⟩
abbrev S8x128 : Shape := ⟨2, ![8, 128]⟩
abbrev S_ : Shape := ⟨0, ![]⟩

class Facts : Prop where
  bcast_S_S2x4096x1024 : S_.BroadcastsInDim S2x4096x1024 (![] : Fin 0 → Fin S2x4096x1024.rank)
  reducesTo_S2x4096x1024_S_d0_1_2 : S2x4096x1024.ReducesTo [0, 1, 2] S_
  h_S_ : 0 < S_.numel
  bcast_S_S2x4096x6144 : S_.BroadcastsInDim S2x4096x6144 (![] : Fin 0 → Fin S2x4096x6144.rank)
  reducesTo_S2x4096x6144_S_d0_1_2 : S2x4096x6144.ReducesTo [0, 1, 2] S_
  bcast_S_S2048x1024 : S_.BroadcastsInDim S2048x1024 (![] : Fin 0 → Fin S2048x1024.rank)
  reducesTo_S2048x1024_S_d0_1 : S2048x1024.ReducesTo [0, 1] S_
  bcast_S_S2048 : S_.BroadcastsInDim S2048 (![] : Fin 0 → Fin S2048.rank)
  reducesTo_S2048_S_d0 : S2048.ReducesTo [0] S_
  bcast_S_S8x128x128 : S_.BroadcastsInDim S8x128x128 (![] : Fin 0 → Fin S8x128x128.rank)
  reducesTo_S8x128x128_S_d0_1_2 : S8x128x128.ReducesTo [0, 1, 2] S_
  bcast_S_S8x128 : S_.BroadcastsInDim S8x128 (![] : Fin 0 → Fin S8x128.rank)
  reducesTo_S8x128_S_d0_1 : S8x128.ReducesTo [0, 1] S_

variable [Facts]

def fn_part2 {F : FTy → Type} [FloatOps F] (main_arg5 : FVec F S8x128x128 .f32) (main_arg6 : FVec F S8x128 .f32) (main_v26 : IVec S_ 1) (main_v32 : IVec S_ 1) : IVec S_ 1 :=
  let main_v33 : IVec S_ 1 := andi main_v26 main_v32
  let main_cst_13 : FVec F S_ .f32 := constant S_ .f32 0x7F800000#32
  let main_v34 : FVec F S8x128x128 .f32 := broadcastInDim S8x128x128 ![] bcast_S_S8x128x128 main_cst_13
  let main_v35 : IVec S8x128x128 1 := cmpf .olt main_arg5 main_v34
  let main_cst_14 : FVec F S_ .f32 := constant S_ .f32 0xFF800000#32
  let main_v36 : FVec F S8x128x128 .f32 := broadcastInDim S8x128x128 ![] bcast_S_S8x128x128 main_cst_14
  let main_v37 : IVec S8x128x128 1 := cmpf .ogt main_arg5 main_v36
  let main_v38 : IVec S8x128x128 1 := andi main_v35 main_v37
  let main_c_15 : IVec S_ 1 := constantI S_ 1 1#1
  let main_v39 : IVec S_ 1 := (fun x v => Host.reduce IntOp.andi x v reducesTo_S8x128x128_S_d0_1_2 h_S_) main_v38 main_c_15
  let main_v40 : IVec S_ 1 := andi main_v33 main_v39
  let main_cst_16 : FVec F S_ .f32 := constant S_ .f32 0x7F800000#32
  let main_v41 : FVec F S8x128 .f32 := broadcastInDim S8x128 ![] bcast_S_S8x128 main_cst_16
  let main_v42 : IVec S8x128 1 := cmpf .olt main_arg6 main_v41
  let main_cst_17 : FVec F S_ .f32 := constant S_ .f32 0xFF800000#32
  let main_v43 : FVec F S8x128 .f32 := broadcastInDim S8x128 ![] bcast_S_S8x128 main_cst_17
  let main_v44 : IVec S8x128 1 := cmpf .ogt main_arg6 main_v43
  let main_v45 : IVec S8x128 1 := andi main_v42 main_v44
  let main_c_18 : IVec S_ 1 := constantI S_ 1 1#1
  let main_v46 : IVec S_ 1 := (fun x v => Host.reduce IntOp.andi x v reducesTo_S8x128_S_d0_1 h_S_) main_v45 main_c_18
  let main_v47 : IVec S_ 1 := andi main_v40 main_v46
  main_v47

def fn_part1 {F : FTy → Type} [FloatOps F] (main_arg2 : FVec F S2048x1024 .f32) (main_arg3 : FVec F S2048 .f32) (main_arg4 : FVec F S2048 .f32) (main_arg5 : FVec F S8x128x128 .f32) (main_arg6 : FVec F S8x128 .f32) (main_v12 : IVec S_ 1) (main_v14 : IVec S2048x1024 1) (main_v15 : FVec F S2048x1024 .f32) : IVec S_ 1 :=
  let main_v16 : IVec S2048x1024 1 := cmpf .ogt main_arg2 main_v15
  let main_v17 : IVec S2048x1024 1 := andi main_v14 main_v16
  let main_c_6 : IVec S_ 1 := constantI S_ 1 1#1
  let main_v18 : IVec S_ 1 := (fun x v => Host.reduce IntOp.andi x v reducesTo_S2048x1024_S_d0_1 h_S_) main_v17 main_c_6
  let main_v19 : IVec S_ 1 := andi main_v12 main_v18
  let main_cst_7 : FVec F S_ .f32 := constant S_ .f32 0x7F800000#32
  let main_v20 : FVec F S2048 .f32 := broadcastInDim S2048 ![] bcast_S_S2048 main_cst_7
  let main_v21 : IVec S2048 1 := cmpf .olt main_arg3 main_v20
  let main_cst_8 : FVec F S_ .f32 := constant S_ .f32 0xFF800000#32
  let main_v22 : FVec F S2048 .f32 := broadcastInDim S2048 ![] bcast_S_S2048 main_cst_8
  let main_v23 : IVec S2048 1 := cmpf .ogt main_arg3 main_v22
  let main_v24 : IVec S2048 1 := andi main_v21 main_v23
  let main_c_9 : IVec S_ 1 := constantI S_ 1 1#1
  let main_v25 : IVec S_ 1 := (fun x v => Host.reduce IntOp.andi x v reducesTo_S2048_S_d0 h_S_) main_v24 main_c_9
  let main_v26 : IVec S_ 1 := andi main_v19 main_v25
  let main_cst_10 : FVec F S_ .f32 := constant S_ .f32 0x7F800000#32
  let main_v27 : FVec F S2048 .f32 := broadcastInDim S2048 ![] bcast_S_S2048 main_cst_10
  let main_v28 : IVec S2048 1 := cmpf .olt main_arg4 main_v27
  let main_cst_11 : FVec F S_ .f32 := constant S_ .f32 0xFF800000#32
  let main_v29 : FVec F S2048 .f32 := broadcastInDim S2048 ![] bcast_S_S2048 main_cst_11
  let main_v30 : IVec S2048 1 := cmpf .ogt main_arg4 main_v29
  let main_v31 : IVec S2048 1 := andi main_v28 main_v30
  let main_c_12 : IVec S_ 1 := constantI S_ 1 1#1
  let main_v32 : IVec S_ 1 := (fun x v => Host.reduce IntOp.andi x v reducesTo_S2048_S_d0 h_S_) main_v31 main_c_12
  fn_part2 (F := F) main_arg5 main_arg6 main_v26 main_v32

def fn {F : FTy → Type} [FloatOps F] (main_arg0 : FVec F S2x4096x1024 .f32) (main_arg1 : FVec F S2x4096x6144 .f32) (main_arg2 : FVec F S2048x1024 .f32) (main_arg3 : FVec F S2048 .f32) (main_arg4 : FVec F S2048 .f32) (main_arg5 : FVec F S8x128x128 .f32) (main_arg6 : FVec F S8x128 .f32) : IVec S_ 1 :=
  let main_cst : FVec F S_ .f32 := constant S_ .f32 0x7F800000#32
  let main_v0 : FVec F S2x4096x1024 .f32 := broadcastInDim S2x4096x1024 ![] bcast_S_S2x4096x1024 main_cst
  let main_v1 : IVec S2x4096x1024 1 := cmpf .olt main_arg0 main_v0
  let main_cst_0 : FVec F S_ .f32 := constant S_ .f32 0xFF800000#32
  let main_v2 : FVec F S2x4096x1024 .f32 := broadcastInDim S2x4096x1024 ![] bcast_S_S2x4096x1024 main_cst_0
  let main_v3 : IVec S2x4096x1024 1 := cmpf .ogt main_arg0 main_v2
  let main_v4 : IVec S2x4096x1024 1 := andi main_v1 main_v3
  let main_c : IVec S_ 1 := constantI S_ 1 1#1
  let main_v5 : IVec S_ 1 := (fun x v => Host.reduce IntOp.andi x v reducesTo_S2x4096x1024_S_d0_1_2 h_S_) main_v4 main_c
  let main_cst_1 : FVec F S_ .f32 := constant S_ .f32 0x7F800000#32
  let main_v6 : FVec F S2x4096x6144 .f32 := broadcastInDim S2x4096x6144 ![] bcast_S_S2x4096x6144 main_cst_1
  let main_v7 : IVec S2x4096x6144 1 := cmpf .olt main_arg1 main_v6
  let main_cst_2 : FVec F S_ .f32 := constant S_ .f32 0xFF800000#32
  let main_v8 : FVec F S2x4096x6144 .f32 := broadcastInDim S2x4096x6144 ![] bcast_S_S2x4096x6144 main_cst_2
  let main_v9 : IVec S2x4096x6144 1 := cmpf .ogt main_arg1 main_v8
  let main_v10 : IVec S2x4096x6144 1 := andi main_v7 main_v9
  let main_c_3 : IVec S_ 1 := constantI S_ 1 1#1
  let main_v11 : IVec S_ 1 := (fun x v => Host.reduce IntOp.andi x v reducesTo_S2x4096x6144_S_d0_1_2 h_S_) main_v10 main_c_3
  let main_v12 : IVec S_ 1 := andi main_v5 main_v11
  let main_cst_4 : FVec F S_ .f32 := constant S_ .f32 0x7F800000#32
  let main_v13 : FVec F S2048x1024 .f32 := broadcastInDim S2048x1024 ![] bcast_S_S2048x1024 main_cst_4
  let main_v14 : IVec S2048x1024 1 := cmpf .olt main_arg2 main_v13
  let main_cst_5 : FVec F S_ .f32 := constant S_ .f32 0xFF800000#32
  let main_v15 : FVec F S2048x1024 .f32 := broadcastInDim S2048x1024 ![] bcast_S_S2048x1024 main_cst_5
  fn_part1 (F := F) main_arg2 main_arg3 main_arg4 main_arg5 main_arg6 main_v12 main_v14 main_v15
-- ==== Pre_finite_out.lean ====
abbrev S2x4096x1024 : Shape := ⟨3, ![2, 4096, 1024]⟩
abbrev S2x4096x2048 : Shape := ⟨3, ![2, 4096, 2048]⟩
abbrev S2048 : Shape := ⟨1, ![2048]⟩
abbrev S2x4096x6144 : Shape := ⟨3, ![2, 4096, 6144]⟩
abbrev S2048x1024 : Shape := ⟨2, ![2048, 1024]⟩
abbrev S_ : Shape := ⟨0, ![]⟩

class Facts : Prop where
  bcast_S_S2x4096x1024 : S_.BroadcastsInDim S2x4096x1024 (![] : Fin 0 → Fin S2x4096x1024.rank)
  reducesTo_S2x4096x1024_S_d0_1_2 : S2x4096x1024.ReducesTo [0, 1, 2] S_
  h_S_ : 0 < S_.numel
  bcast_S_S2x4096x2048 : S_.BroadcastsInDim S2x4096x2048 (![] : Fin 0 → Fin S2x4096x2048.rank)
  reducesTo_S2x4096x2048_S_d0_1_2 : S2x4096x2048.ReducesTo [0, 1, 2] S_
  bcast_S_S2048 : S_.BroadcastsInDim S2048 (![] : Fin 0 → Fin S2048.rank)
  reducesTo_S2048_S_d0 : S2048.ReducesTo [0] S_
  bcast_S_S2x4096x6144 : S_.BroadcastsInDim S2x4096x6144 (![] : Fin 0 → Fin S2x4096x6144.rank)
  reducesTo_S2x4096x6144_S_d0_1_2 : S2x4096x6144.ReducesTo [0, 1, 2] S_
  bcast_S_S2048x1024 : S_.BroadcastsInDim S2048x1024 (![] : Fin 0 → Fin S2048x1024.rank)
  reducesTo_S2048x1024_S_d0_1 : S2048x1024.ReducesTo [0, 1] S_

variable [Facts]

def fn_part2 {F : FTy → Type} [FloatOps F] (main_arg5 : FVec F S2048 .f32) (main_arg6 : FVec F S2048x1024 .f32) (main_v26 : IVec S_ 1) (main_v32 : IVec S_ 1) : IVec S_ 1 :=
  let main_v33 : IVec S_ 1 := andi main_v26 main_v32
  let main_cst_13 : FVec F S_ .f32 := constant S_ .f32 0x7F800000#32
  let main_v34 : FVec F S2048 .f32 := broadcastInDim S2048 ![] bcast_S_S2048 main_cst_13
  let main_v35 : IVec S2048 1 := cmpf .olt main_arg5 main_v34
  let main_cst_14 : FVec F S_ .f32 := constant S_ .f32 0xFF800000#32
  let main_v36 : FVec F S2048 .f32 := broadcastInDim S2048 ![] bcast_S_S2048 main_cst_14
  let main_v37 : IVec S2048 1 := cmpf .ogt main_arg5 main_v36
  let main_v38 : IVec S2048 1 := andi main_v35 main_v37
  let main_c_15 : IVec S_ 1 := constantI S_ 1 1#1
  let main_v39 : IVec S_ 1 := (fun x v => Host.reduce IntOp.andi x v reducesTo_S2048_S_d0 h_S_) main_v38 main_c_15
  let main_v40 : IVec S_ 1 := andi main_v33 main_v39
  let main_cst_16 : FVec F S_ .f32 := constant S_ .f32 0x7F800000#32
  let main_v41 : FVec F S2048x1024 .f32 := broadcastInDim S2048x1024 ![] bcast_S_S2048x1024 main_cst_16
  let main_v42 : IVec S2048x1024 1 := cmpf .olt main_arg6 main_v41
  let main_cst_17 : FVec F S_ .f32 := constant S_ .f32 0xFF800000#32
  let main_v43 : FVec F S2048x1024 .f32 := broadcastInDim S2048x1024 ![] bcast_S_S2048x1024 main_cst_17
  let main_v44 : IVec S2048x1024 1 := cmpf .ogt main_arg6 main_v43
  let main_v45 : IVec S2048x1024 1 := andi main_v42 main_v44
  let main_c_18 : IVec S_ 1 := constantI S_ 1 1#1
  let main_v46 : IVec S_ 1 := (fun x v => Host.reduce IntOp.andi x v reducesTo_S2048x1024_S_d0_1 h_S_) main_v45 main_c_18
  let main_v47 : IVec S_ 1 := andi main_v40 main_v46
  main_v47

def fn_part1 {F : FTy → Type} [FloatOps F] (main_arg2 : FVec F S2048 .f32) (main_arg3 : FVec F S2x4096x6144 .f32) (main_arg4 : FVec F S2048 .f32) (main_arg5 : FVec F S2048 .f32) (main_arg6 : FVec F S2048x1024 .f32) (main_v12 : IVec S_ 1) (main_v14 : IVec S2048 1) (main_v15 : FVec F S2048 .f32) : IVec S_ 1 :=
  let main_v16 : IVec S2048 1 := cmpf .ogt main_arg2 main_v15
  let main_v17 : IVec S2048 1 := andi main_v14 main_v16
  let main_c_6 : IVec S_ 1 := constantI S_ 1 1#1
  let main_v18 : IVec S_ 1 := (fun x v => Host.reduce IntOp.andi x v reducesTo_S2048_S_d0 h_S_) main_v17 main_c_6
  let main_v19 : IVec S_ 1 := andi main_v12 main_v18
  let main_cst_7 : FVec F S_ .f32 := constant S_ .f32 0x7F800000#32
  let main_v20 : FVec F S2x4096x6144 .f32 := broadcastInDim S2x4096x6144 ![] bcast_S_S2x4096x6144 main_cst_7
  let main_v21 : IVec S2x4096x6144 1 := cmpf .olt main_arg3 main_v20
  let main_cst_8 : FVec F S_ .f32 := constant S_ .f32 0xFF800000#32
  let main_v22 : FVec F S2x4096x6144 .f32 := broadcastInDim S2x4096x6144 ![] bcast_S_S2x4096x6144 main_cst_8
  let main_v23 : IVec S2x4096x6144 1 := cmpf .ogt main_arg3 main_v22
  let main_v24 : IVec S2x4096x6144 1 := andi main_v21 main_v23
  let main_c_9 : IVec S_ 1 := constantI S_ 1 1#1
  let main_v25 : IVec S_ 1 := (fun x v => Host.reduce IntOp.andi x v reducesTo_S2x4096x6144_S_d0_1_2 h_S_) main_v24 main_c_9
  let main_v26 : IVec S_ 1 := andi main_v19 main_v25
  let main_cst_10 : FVec F S_ .f32 := constant S_ .f32 0x7F800000#32
  let main_v27 : FVec F S2048 .f32 := broadcastInDim S2048 ![] bcast_S_S2048 main_cst_10
  let main_v28 : IVec S2048 1 := cmpf .olt main_arg4 main_v27
  let main_cst_11 : FVec F S_ .f32 := constant S_ .f32 0xFF800000#32
  let main_v29 : FVec F S2048 .f32 := broadcastInDim S2048 ![] bcast_S_S2048 main_cst_11
  let main_v30 : IVec S2048 1 := cmpf .ogt main_arg4 main_v29
  let main_v31 : IVec S2048 1 := andi main_v28 main_v30
  let main_c_12 : IVec S_ 1 := constantI S_ 1 1#1
  let main_v32 : IVec S_ 1 := (fun x v => Host.reduce IntOp.andi x v reducesTo_S2048_S_d0 h_S_) main_v31 main_c_12
  fn_part2 (F := F) main_arg5 main_arg6 main_v26 main_v32

def fn {F : FTy → Type} [FloatOps F] (main_arg0 : FVec F S2x4096x1024 .f32) (main_arg1 : FVec F S2x4096x2048 .f32) (main_arg2 : FVec F S2048 .f32) (main_arg3 : FVec F S2x4096x6144 .f32) (main_arg4 : FVec F S2048 .f32) (main_arg5 : FVec F S2048 .f32) (main_arg6 : FVec F S2048x1024 .f32) : IVec S_ 1 :=
  let main_cst : FVec F S_ .f32 := constant S_ .f32 0x7F800000#32
  let main_v0 : FVec F S2x4096x1024 .f32 := broadcastInDim S2x4096x1024 ![] bcast_S_S2x4096x1024 main_cst
  let main_v1 : IVec S2x4096x1024 1 := cmpf .olt main_arg0 main_v0
  let main_cst_0 : FVec F S_ .f32 := constant S_ .f32 0xFF800000#32
  let main_v2 : FVec F S2x4096x1024 .f32 := broadcastInDim S2x4096x1024 ![] bcast_S_S2x4096x1024 main_cst_0
  let main_v3 : IVec S2x4096x1024 1 := cmpf .ogt main_arg0 main_v2
  let main_v4 : IVec S2x4096x1024 1 := andi main_v1 main_v3
  let main_c : IVec S_ 1 := constantI S_ 1 1#1
  let main_v5 : IVec S_ 1 := (fun x v => Host.reduce IntOp.andi x v reducesTo_S2x4096x1024_S_d0_1_2 h_S_) main_v4 main_c
  let main_cst_1 : FVec F S_ .f32 := constant S_ .f32 0x7F800000#32
  let main_v6 : FVec F S2x4096x2048 .f32 := broadcastInDim S2x4096x2048 ![] bcast_S_S2x4096x2048 main_cst_1
  let main_v7 : IVec S2x4096x2048 1 := cmpf .olt main_arg1 main_v6
  let main_cst_2 : FVec F S_ .f32 := constant S_ .f32 0xFF800000#32
  let main_v8 : FVec F S2x4096x2048 .f32 := broadcastInDim S2x4096x2048 ![] bcast_S_S2x4096x2048 main_cst_2
  let main_v9 : IVec S2x4096x2048 1 := cmpf .ogt main_arg1 main_v8
  let main_v10 : IVec S2x4096x2048 1 := andi main_v7 main_v9
  let main_c_3 : IVec S_ 1 := constantI S_ 1 1#1
  let main_v11 : IVec S_ 1 := (fun x v => Host.reduce IntOp.andi x v reducesTo_S2x4096x2048_S_d0_1_2 h_S_) main_v10 main_c_3
  let main_v12 : IVec S_ 1 := andi main_v5 main_v11
  let main_cst_4 : FVec F S_ .f32 := constant S_ .f32 0x7F800000#32
  let main_v13 : FVec F S2048 .f32 := broadcastInDim S2048 ![] bcast_S_S2048 main_cst_4
  let main_v14 : IVec S2048 1 := cmpf .olt main_arg2 main_v13
  let main_cst_5 : FVec F S_ .f32 := constant S_ .f32 0xFF800000#32
  let main_v15 : FVec F S2048 .f32 := broadcastInDim S2048 ![] bcast_S_S2048 main_cst_5
  fn_part1 (F := F) main_arg2 main_arg3 main_arg4 main_arg5 main_arg6 main_v12 main_v14 main_v15
-- ==== Kernel.lean ====
abbrev S2x4096x1024 : Shape := ⟨3, ![2, 4096, 1024]⟩
abbrev S2x4096x6144 : Shape := ⟨3, ![2, 4096, 6144]⟩
abbrev S2048x1024 : Shape := ⟨2, ![2048, 1024]⟩
abbrev S2048 : Shape := ⟨1, ![2048]⟩
abbrev S8x128x128 : Shape := ⟨3, ![8, 128, 128]⟩
abbrev S8x128 : Shape := ⟨2, ![8, 128]⟩
abbrev S128x8 : Shape := ⟨2, ![128, 8]⟩
abbrev S8192x1024 : Shape := ⟨2, ![8192, 1024]⟩
abbrev S8192x6144 : Shape := ⟨2, ![8192, 6144]⟩
abbrev S1x2048 : Shape := ⟨2, ![1, 2048]⟩
abbrev S256x1024 : Shape := ⟨2, ![256, 1024]⟩
abbrev S256x2048 : Shape := ⟨2, ![256, 2048]⟩
abbrev S256x6144 : Shape := ⟨2, ![256, 6144]⟩
abbrev S8x8x128 : Shape := ⟨3, ![8, 8, 128]⟩
abbrev S256 : Shape := ⟨1, ![256]⟩
abbrev S256x1 : Shape := ⟨2, ![256, 1]⟩
abbrev S128x128 : Shape := ⟨2, ![128, 128]⟩
abbrev S1x128x128 : Shape := ⟨3, ![1, 128, 128]⟩
abbrev S128x1 : Shape := ⟨2, ![128, 1]⟩
abbrev S128x256 : Shape := ⟨2, ![128, 256]⟩
abbrev S8x256 : Shape := ⟨2, ![8, 256]⟩
abbrev S1x8x128 : Shape := ⟨3, ![1, 8, 128]⟩
abbrev S1x1x128 : Shape := ⟨3, ![1, 1, 128]⟩
abbrev S1x128 : Shape := ⟨2, ![1, 128]⟩

abbrev nBuf : Space → Nat
  | .hbm => 20
  | .vmem => 25
  | .smem => 0
  | _ => 0

abbrev bufTy : (tb : Table) → Fin (tcTables nBuf tb) → BufTy
  | .hbm, ⟨0, _⟩ => ⟨S2x4096x1024, .f32⟩
  | .hbm, ⟨1, _⟩ => ⟨S2x4096x6144, .f32⟩
  | .hbm, ⟨2, _⟩ => ⟨S2048x1024, .f32⟩
  | .hbm, ⟨3, _⟩ => ⟨S2048, .f32⟩
  | .hbm, ⟨4, _⟩ => ⟨S2048, .f32⟩
  | .hbm, ⟨5, _⟩ => ⟨S8x128x128, .f32⟩
  | .hbm, ⟨6, _⟩ => ⟨S8x128, .f32⟩
  | .hbm, ⟨7, _⟩ => ⟨S8x128x128, .f32⟩
  | .hbm, ⟨8, _⟩ => ⟨S128x8, .f32⟩
  | .hbm, ⟨9, _⟩ => ⟨S8192x1024, .f32⟩
  | .hbm, ⟨10, _⟩ => ⟨S8192x6144, .f32⟩
  | .hbm, ⟨11, _⟩ => ⟨S2048x1024, .bf16⟩
  | .hbm, ⟨12, _⟩ => ⟨S1x2048, .f32⟩
  | .hbm, ⟨13, _⟩ => ⟨S1x2048, .f32⟩
  | .hbm, ⟨14, _⟩ => ⟨S8192x6144, .bf16⟩
  | .hbm, ⟨15, _⟩ => ⟨S2048x1024, .bf16⟩
  | .hbm, ⟨16, _⟩ => ⟨S8x128x128, .f32⟩
  | .hbm, ⟨17, _⟩ => ⟨S8x128, .f32⟩
  | .hbm, ⟨18, _⟩ => ⟨S1x2048, .f32⟩
  | .hbm, ⟨19, _⟩ => ⟨S1x2048, .f32⟩
  | .local _ .vmem, ⟨0, _⟩ => ⟨S256x1024, .f32⟩
  | .local _ .vmem, ⟨1, _⟩ => ⟨S256x1024, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S2048x1024, .bf16⟩
  | .local _ .vmem, ⟨9, _⟩ => ⟨S1x2048, .f32⟩
  | .local _ .vmem, ⟨10, _⟩ => ⟨S1x2048, .f32⟩
  | .local _ .vmem, ⟨11, _⟩ => ⟨S8x128x128, .f32⟩
  | .local _ .vmem, ⟨12, _⟩ => ⟨S8x128x128, .f32⟩
  | .local _ .vmem, ⟨13, _⟩ => ⟨S128x8, .f32⟩
  | .local _ .vmem, ⟨14, _⟩ => ⟨S256x6144, .bf16⟩
  | .local _ .vmem, ⟨15, _⟩ => ⟨S256x6144, .bf16⟩
  | .local _ .vmem, ⟨16, _⟩ => ⟨S2048x1024, .bf16⟩
  | .local _ .vmem, ⟨17, _⟩ => ⟨S8x128x128, .f32⟩
  | .local _ .vmem, ⟨18, _⟩ => ⟨S8x128, .f32⟩
  | .local _ .vmem, ⟨19, _⟩ => ⟨S1x2048, .f32⟩
  | .local _ .vmem, ⟨20, _⟩ => ⟨S1x2048, .f32⟩
  | .local _ .vmem, ⟨21, _⟩ => ⟨S256x2048, .f32⟩
  | .local _ .vmem, ⟨22, _⟩ => ⟨S256x2048, .f32⟩
  | .local _ .vmem, ⟨23, _⟩ => ⟨S8x8x128, .f32⟩
  | .local _ .vmem, ⟨24, _⟩ => ⟨S2048x1024, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev main_v7_3 : Ref sig .tc := ⟨.hbm, 17, rfl⟩
abbrev main_v7_4 : Ref sig .tc := ⟨.hbm, 18, rfl⟩
abbrev main_v7_5 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v682 : BitVec 1 := Scalar.cmpi .eq arg0 c31_i32
  let v683 : BitVec 32 := Scalar.extui v682
  let c0_i32_448 : BitVec 32 := 0#32
  let v684 : BitVec 1 := Scalar.cmpi .ne v683 c0_i32_448
  v684

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x8 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x6144 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S2048x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x2048 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== KernelIdeal.lean ====
variable {F : FTy → Type} [FloatOps F] [Named F]
def κ : String → Option EReal := fun
  | "gelu_slope" => some (((9465531 / 16777216) * (Real.sqrt 2)⁻¹ : ℝ) : EReal)
  | "inv_sqrt2" => some (((Real.sqrt 2)⁻¹ : ℝ) : EReal)
  | _ => none
-- ==== ReferenceIdeal.lean ====
abbrev S2x4096x1024 : Shape := ⟨3, ![2, 4096, 1024]⟩
abbrev S2x4096x6144 : Shape := ⟨3, ![2, 4096, 6144]⟩
abbrev S2048x1024 : Shape := ⟨2, ![2048, 1024]⟩
abbrev S2048 : Shape := ⟨1, ![2048]⟩
abbrev S8x128x128 : Shape := ⟨3, ![8, 128, 128]⟩
abbrev S8x128 : Shape := ⟨2, ![8, 128]⟩
abbrev S2x4096x2048 : Shape := ⟨3, ![2, 4096, 2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2x32x128x8x256 : Shape := ⟨5, ![2, 32, 128, 8, 256]⟩
abbrev S128x128 : Shape := ⟨2, ![128, 128]⟩
abbrev S1x128x128 : Shape := ⟨3, ![1, 128, 128]⟩
abbrev S8x2x32x256x128 : Shape := ⟨5, ![8, 2, 32, 256, 128]⟩
abbrev S128x8 : Shape := ⟨2, ![128, 8]⟩
abbrev S1x1x128x8x1 : Shape := ⟨5, ![1, 1, 128, 8, 1]⟩
abbrev S1024x2048 : Shape := ⟨2, ![1024, 2048]⟩
abbrev S8192x6144 : Shape := ⟨2, ![8192, 6144]⟩
abbrev S1x2048 : Shape := ⟨2, ![1, 2048]⟩

abbrev nBuf : Space → Nat
  | .hbm => 210
  | .vmem => 0
  | .smem => 0
  | _ => 0

abbrev hbmTy0_0 (i : Nat) : BufTy := match i % 128 with
  | 0 => ⟨S2x4096x1024, .f32⟩
  | 1 => ⟨S2x4096x6144, .f32⟩
  | 2 => ⟨S2048x1024, .f32⟩
  | 3 => ⟨S2048, .f32⟩
  | 4 => ⟨S2048, .f32⟩
  | 5 => ⟨S8x128x128, .f32⟩
  | 6 => ⟨S8x128, .f32⟩
  | 7 => ⟨S2x4096x2048, .f32⟩
  | 8 => ⟨S2x4096x2048, .f32⟩
  | 9 => ⟨S2x4096x2048, .f32⟩
  | 10 => ⟨S_, .f32⟩
  | 11 => ⟨S2x4096x2048, .f32⟩
  | 12 => ⟨S2x4096x2048, .f32⟩
  | 13 => ⟨S_, .f32⟩
  | 14 => ⟨S_, .f32⟩
  | 15 => ⟨S2x4096x2048, .f32⟩
  | 16 => ⟨S2x4096x2048, .f32⟩
  | 17 => ⟨S2x4096x2048, .f32⟩
  | 18 => ⟨S2x4096x2048, .f32⟩
  | 19 => ⟨S2x4096x2048, .f32⟩
  | 20 => ⟨S2x4096x2048, .f32⟩
  | 21 => ⟨S_, .f32⟩
  | 22 => ⟨S2x4096x2048, .f32⟩
  | 23 => ⟨S2x4096x2048, .f32⟩
  | 24 => ⟨S2x4096x2048, .f32⟩
  | 25 => ⟨S_, .f32⟩
  | 26 => ⟨S2x4096x2048, .f32⟩
  | 27 => ⟨S2x4096x2048, .f32⟩
  | 28 => ⟨S_, .f32⟩
  | 29 => ⟨S_, .f32⟩
  | 30 => ⟨S2x4096x2048, .f32⟩
  | 31 => ⟨S2x4096x2048, .f32⟩
  | 32 => ⟨S2x4096x2048, .f32⟩
  | 33 => ⟨S2x4096x2048, .f32⟩
  | 34 => ⟨S2x4096x2048, .f32⟩
  | 35 => ⟨S2x4096x2048, .f32⟩
  | 36 => ⟨S_, .f32⟩
  | 37 => ⟨S2x4096x2048, .f32⟩
  | 38 => ⟨S2x4096x2048, .f32⟩
  | 39 => ⟨S2x4096x2048, .f32⟩
  | 40 => ⟨S_, .f32⟩
  | 41 => ⟨S2x4096, .f32⟩
  | 42 => ⟨S2x4096x1, .f32⟩
  | 43 => ⟨S_, .f32⟩
  | 44 => ⟨S2x4096x1, .f32⟩
  | 45 => ⟨S2x4096x1, .f32⟩
  | 46 => ⟨S2x4096x2048, .f32⟩
  | 47 => ⟨S2x4096x2048, .f32⟩
  | 48 => ⟨S2x4096x2048, .f32⟩
  | 49 => ⟨S_, .f32⟩
  | 50 => ⟨S2x4096, .f32⟩
  | 51 => ⟨S2x4096x1, .f32⟩
  | 52 => ⟨S_, .f32⟩
  | 53 => ⟨S2x4096x1, .f32⟩
  | 54 => ⟨S2x4096x1, .f32⟩
  | 55 => ⟨S_, .f32⟩
  | 56 => ⟨S2x4096x1, .f32⟩
  | 57 => ⟨S2x4096x1, .f32⟩
  | 58 => ⟨S2x4096x1, .f32⟩
  | 59 => ⟨S2x4096x1, .f32⟩
  | 60 => ⟨S_, .f32⟩
  | 61 => ⟨S2x4096x1, .f32⟩
  | 62 => ⟨S2x4096x1, .f32⟩
  | 63 => ⟨S2x4096x2048, .f32⟩
  | 64 => ⟨S2x4096x2048, .f32⟩
  | 65 => ⟨S1x1x2048, .f32⟩
  | 66 => ⟨S2x4096x2048, .f32⟩
  | 67 => ⟨S2x4096x2048, .f32⟩
  | 68 => ⟨S1x1x2048, .f32⟩
  | 69 => ⟨S2x4096x2048, .f32⟩
  | 70 => ⟨S2x4096x2048, .f32⟩
  | 71 => ⟨S2x32x128x8x256, .f32⟩
  | 72 => ⟨S_, .i1⟩
  | 73 => ⟨S128x128, .i1⟩
  | 74 => ⟨S128x128, .i32⟩
  | 75 => ⟨S_, .i32⟩
  | 76 => ⟨S128x128, .i32⟩
  | 77 => ⟨S128x128, .i32⟩
  | 78 => ⟨S128x128, .i32⟩
  | 79 => ⟨S128x128, .i1⟩
  | 80 => ⟨S_, .i1⟩
  | 81 => ⟨S128x128, .i1⟩
  | 82 => ⟨S128x128, .i1⟩
  | 83 => ⟨S1x128x128, .i1⟩
  | 84 => ⟨S_, .f32⟩
  | 85 => ⟨S8x128x128, .i1⟩
  | 86 => ⟨S8x128x128, .f32⟩
  | 87 => ⟨S8x128x128, .f32⟩
  | 88 => ⟨S_, .f32⟩
  | 89 => ⟨S8x128x128, .f32⟩
  | 90 => ⟨S8x2x32x256x128, .f32⟩
  | 91 => ⟨S2x32x128x8x256, .f32⟩
  | 92 => ⟨S128x8, .f32⟩
  | 93 => ⟨S1x1x128x8x1, .f32⟩
  | 94 => ⟨S2x32x128x8x256, .f32⟩
  | 95 => ⟨S2x32x128x8x256, .f32⟩
  | 96 => ⟨S2x4096x2048, .f32⟩
  | 97 => ⟨S2x4096x2048, .f32⟩
  | 98 => ⟨S2x4096x2048, .f32⟩
  | 99 => ⟨S2x4096x2048, .f32⟩
  | 100 => ⟨S_, .f32⟩
  | 101 => ⟨S2x4096x2048, .f32⟩
  | 102 => ⟨S2x4096x2048, .f32⟩
  | 103 => ⟨S_, .f32⟩
  | 104 => ⟨S2x4096x2048, .f32⟩
  | 105 => ⟨S2x4096x2048, .f32⟩
  | 106 => ⟨S_, .f32⟩
  | 107 => ⟨S2x4096x2048, .f32⟩
  | 108 => ⟨S2x4096x2048, .f32⟩
  | 109 => ⟨S2x4096x2048, .f32⟩
  | 110 => ⟨S2x4096x2048, .f32⟩
  | 111 => ⟨S2x4096x2048, .f32⟩
  | 112 => ⟨S2x4096x1024, .f32⟩
  | 113 => ⟨S1024x2048, .f32⟩
  | 114 => ⟨S2048x1024, .f32⟩
  | 115 => ⟨S2x4096x2048, .f32⟩
  | 116 => ⟨S2x4096x2048, .f32⟩
  | 117 => ⟨S2x4096x2048, .f32⟩
  | 118 => ⟨S2x4096x2048, .f32⟩
  | 119 => ⟨S2x4096x2048, .f32⟩
  | 120 => ⟨S2x4096x2048, .f32⟩
  | 121 => ⟨S2x4096x2048, .f32⟩
  | 122 => ⟨S2x4096x2048, .f32⟩
  | 123 => ⟨S2x4096x2048, .f32⟩
  | 124 => ⟨S2x32x128x8x256, .f32⟩
  | 125 => ⟨S_, .f32⟩
  | 126 => ⟨S128x8, .f32⟩
  | 127 => ⟨S1x1x128x8x1, .f32⟩
  | _ => ⟨S2x4096x1024, .f32⟩

abbrev hbmTy0_1 (i : Nat) : BufTy := match i % 128 with
  | 0 => ⟨S_, .f32⟩
  | 1 => ⟨S128x8, .f32⟩
  | 2 => ⟨S8x128, .f32⟩
  | 3 => ⟨S8x2x32x256x128, .f32⟩
  | 4 => ⟨S8x128x128, .f32⟩
  | 5 => ⟨S8x2x32x256x128, .f32⟩
  | 6 => ⟨S2x32x128x8x256, .f32⟩
  | 7 => ⟨S_, .f32⟩
  | 8 => ⟨S8x128x128, .f32⟩
  | 9 => ⟨S8x128x128, .f32⟩
  | 10 => ⟨S2x4096x2048, .f32⟩
  | 11 => ⟨S_, .f32⟩
  | 12 => ⟨S2048, .f32⟩
  | 13 => ⟨S1x1x2048, .f32⟩
  | 14 => ⟨S_, .f32⟩
  | 15 => ⟨S2048, .f32⟩
  | 16 => ⟨S2x4096x2048, .f32⟩
  | 17 => ⟨S_, .f32⟩
  | 18 => ⟨S2048, .f32⟩
  | 19 => ⟨S1x1x2048, .f32⟩
  | 20 => ⟨S2x4096x2048, .f32⟩
  | 21 => ⟨S2x4096x2048, .f32⟩
  | 22 => ⟨S_, .f32⟩
  | 23 => ⟨S2048, .f32⟩
  | 24 => ⟨S2x4096x2048, .f32⟩
  | 25 => ⟨S_, .f32⟩
  | 26 => ⟨S2x4096, .f32⟩
  | 27 => ⟨S2x4096x1, .f32⟩
  | 28 => ⟨S2x4096x2048, .f32⟩
  | 29 => ⟨S2x4096x2048, .f32⟩
  | 30 => ⟨S2x4096x1, .f32⟩
  | 31 => ⟨S_, .f32⟩
  | 32 => ⟨S2x4096x1, .f32⟩
  | 33 => ⟨S2x4096x1, .f32⟩
  | 34 => ⟨S_, .f32⟩
  | 35 => ⟨S2x4096, .f32⟩
  | 36 => ⟨S2x4096x2048, .f32⟩
  | 37 => ⟨S2x4096x2048, .f32⟩
  | 38 => ⟨S2x4096x2048, .f32⟩
  | 39 => ⟨S2x4096x2048, .f32⟩
  | 40 => ⟨S2x4096x2048, .f32⟩
  | 41 => ⟨S2x4096x2048, .f32⟩
  | 42 => ⟨S_, .f32⟩
  | 43 => ⟨S2x4096, .f32⟩
  | 44 => ⟨S2x4096x1, .f32⟩
  | 45 => ⟨S_, .f32⟩
  | 46 => ⟨S2x4096x1, .f32⟩
  | 47 => ⟨S2x4096x1, .f32⟩
  | 48 => ⟨S_, .f32⟩
  | 49 => ⟨S2x4096, .f32⟩
  | 50 => ⟨S2x4096x2048, .f32⟩
  | 51 => ⟨S2x4096x2048, .f32⟩
  | 52 => ⟨S2x4096x2048, .f32⟩
  | 53 => ⟨S2x4096x2048, .f32⟩
  | 54 => ⟨S_, .f32⟩
  | 55 => ⟨S2x4096x2048, .f32⟩
  | 56 => ⟨S2x4096x2048, .f32⟩
  | 57 => ⟨S2x4096x2048, .f32⟩
  | 58 => ⟨S2x4096x2048, .f32⟩
  | 59 => ⟨S2x4096x2048, .f32⟩
  | 60 => ⟨S_, .f32⟩
  | 61 => ⟨S2x4096x2048, .f32⟩
  | 62 => ⟨S2x4096x2048, .f32⟩
  | 63 => ⟨S2x4096x2048, .f32⟩
  | 64 => ⟨S2x4096x2048, .f32⟩
  | 65 => ⟨S2x4096x2048, .f32⟩
  | 66 => ⟨S_, .f32⟩
  | 67 => ⟨S2x4096x2048, .f32⟩
  | 68 => ⟨S2x4096x2048, .f32⟩
  | 69 => ⟨S2x4096x2048, .f32⟩
  | 70 => ⟨S2x4096x2048, .f32⟩
  | 71 => ⟨S2x4096x2048, .f32⟩
  | 72 => ⟨S_, .f32⟩
  | 73 => ⟨S2x4096x2048, .f32⟩
  | 74 => ⟨S2x4096x2048, .f32⟩
  | 75 => ⟨S2x4096x2048, .f32⟩
  | 76 => ⟨S2x4096x6144, .f32⟩
  | 77 => ⟨S8192x6144, .f32⟩
  | 78 => ⟨S8192x6144, .bf16⟩
  | 79 => ⟨S2048x1024, .bf16⟩
  | 80 => ⟨S1x2048, .f32⟩
  | 81 => ⟨S1x2048, .f32⟩
  | _ => ⟨S2x4096x1024, .f32⟩

abbrev hbmTy (i : Nat) : BufTy := match i / 128 with
  | 0 => hbmTy0_0 i
  | 1 => hbmTy0_1 i
  | _ => ⟨S2x4096x1024, .f32⟩

abbrev bufTy : (tb : Table) → Fin (tcTables nBuf tb) → BufTy
  | .hbm, ⟨i, _⟩ => hbmTy i
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_cst_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_7 : Ref sig .tc := ⟨.hbm, 49, rfl⟩
abbrev main_v34 : Ref sig .tc := ⟨.hbm, 50, rfl⟩
abbrev main_v35 : Ref sig .tc := ⟨.hbm, 51, rfl⟩
abbrev main_cst_8 : Ref sig .tc := ⟨.hbm, 52, rfl⟩
abbrev main_v36 : Ref sig .tc := ⟨.hbm, 53, rfl⟩
abbrev main_v37 : Ref sig .tc := ⟨.hbm, 54, rfl⟩
abbrev main_cst_9 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_10 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_c : Ref sig .tc := ⟨.hbm, 72, rfl⟩
abbrev main_v53 : Ref sig .tc := ⟨.hbm, 73, rfl⟩
abbrev main_call0_v0 : Ref sig .tc := ⟨.hbm, 74, rfl⟩
abbrev main_call0_c : Ref sig .tc := ⟨.hbm, 75, rfl⟩
abbrev main_call0_v1 : Ref sig .tc := ⟨.hbm, 76, rfl⟩
abbrev main_call0_v2 : Ref sig .tc := ⟨.hbm, 77, rfl⟩
abbrev main_call0_v3 : Ref sig .tc := ⟨.hbm, 78, rfl⟩
abbrev main_call0_v4 : Ref sig .tc := ⟨.hbm, 79, rfl⟩
abbrev main_call0_c_0 : Ref sig .tc := ⟨.hbm, 80, rfl⟩
abbrev main_call0_v5 : Ref sig .tc := ⟨.hbm, 81, rfl⟩
abbrev main_v54 : Ref sig .tc := ⟨.hbm, 82, rfl⟩
abbrev main_v55 : Ref sig .tc := ⟨.hbm, 83, rfl⟩
abbrev main_cst_11 : Ref sig .tc := ⟨.hbm, 84, rfl⟩
abbrev main_v56_1 : Ref sig .tc := ⟨.hbm, 85, rfl⟩
abbrev main_call1_v1 : Ref sig .tc := ⟨.hbm, 86, rfl⟩
abbrev main_v56_0 : Ref sig .tc := ⟨.hbm, 87, rfl⟩
abbrev main_call1_cst : Ref sig .tc := ⟨.hbm, 88, rfl⟩
abbrev main_v56_2 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_call2_v0 : Ref sig .tc := ⟨.hbm, 98, rfl⟩
abbrev main_call2_v1 : Ref sig .tc := ⟨.hbm, 99, rfl⟩
abbrev main_call2_cst : Ref sig .tc := ⟨.hbm, 100, rfl⟩
abbrev main_call2_v2 : Ref sig .tc := ⟨.hbm, 101, rfl⟩
abbrev main_call2_v3 : Ref sig .tc := ⟨.hbm, 102, rfl⟩
abbrev main_call2_cst_0 : Ref sig .tc := ⟨.hbm, 103, rfl⟩
abbrev main_call2_v4 : Ref sig .tc := ⟨.hbm, 104, rfl⟩
abbrev main_v65_2 : Ref sig .tc := ⟨.hbm, 105, rfl⟩
abbrev main_call2_cst_1 : Ref sig .tc := ⟨.hbm, 106, rfl⟩
abbrev main_call2_v6 : Ref sig .tc := ⟨.hbm, 107, rfl⟩
abbrev main_call2_v7 : Ref sig .tc := ⟨.hbm, 108, rfl⟩
abbrev main_v65_1 : Ref sig .tc := ⟨.hbm, 109, rfl⟩
abbrev main_v65_0 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_call3_v0 : Ref sig .tc := ⟨.hbm, 118, rfl⟩
abbrev main_call3_v1 : Ref sig .tc := ⟨.hbm, 119, rfl⟩
abbrev main_call3_v2 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_cst_12 : Ref sig .tc := ⟨.hbm, 125, rfl⟩
abbrev main_v77 : Ref sig .tc := ⟨.hbm, 126, rfl⟩
abbrev main_v78 : Ref sig .tc := ⟨.hbm, 127, rfl⟩
abbrev main_cst_13 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_call4_cst : Ref sig .tc := ⟨.hbm, 135, rfl⟩
abbrev main_call4_v0 : Ref sig .tc := ⟨.hbm, 136, rfl⟩
abbrev main_v85 : Ref sig .tc := ⟨.hbm, 137, rfl⟩
abbrev main_v86 : Ref sig .tc := ⟨.hbm, 138, rfl⟩
abbrev main_cst_14 : Ref sig .tc := ⟨.hbm, 139, rfl⟩
abbrev main_v87 : Ref sig .tc := ⟨.hbm, 140, rfl⟩
abbrev main_v88 : Ref sig .tc := ⟨.hbm, 141, rfl⟩
abbrev main_cst_15 : Ref sig .tc := ⟨.hbm, 142, rfl⟩
abbrev main_v89 : Ref sig .tc := ⟨.hbm, 143, rfl⟩
abbrev main_v90 : Ref sig .tc := ⟨.hbm, 144, rfl⟩
abbrev main_cst_16 : Ref sig .tc := ⟨.hbm, 145, rfl⟩
abbrev main_v91 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_cst_17 : Ref sig .tc := ⟨.hbm, 150, rfl⟩
abbrev main_v95 : Ref sig .tc := ⟨.hbm, 151, rfl⟩
abbrev main_v96 : Ref sig .tc := ⟨.hbm, 152, rfl⟩
abbrev main_cst_18 : Ref sig .tc := ⟨.hbm, 153, rfl⟩
abbrev main_v97 : Ref sig .tc := ⟨.hbm, 154, rfl⟩
abbrev main_v98 : Ref sig .tc := ⟨.hbm, 155, rfl⟩
abbrev main_v99 : Ref sig .tc := ⟨.hbm, 156, rfl⟩
abbrev main_v100 : Ref sig .tc := ⟨.hbm, 157, rfl⟩
abbrev main_v101 : Ref sig .tc := ⟨.hbm, 158, rfl⟩
abbrev main_cst_19 : Ref sig .tc := ⟨.hbm, 159, rfl⟩
abbrev main_v102 : Ref sig .tc := ⟨.hbm, 160, rfl⟩
abbrev main_v103 : Ref sig .tc := ⟨.hbm, 161, rfl⟩
abbrev main_cst_20 : Ref sig .tc := ⟨.hbm, 162, rfl⟩
abbrev main_v104 : Ref sig .tc := ⟨.hbm, 163, rfl⟩
abbrev main_v105 : Ref sig .tc := ⟨.hbm, 164, rfl⟩
abbrev main_v106 : Ref sig .tc := ⟨.hbm, 165, rfl⟩
abbrev main_v107 : Ref sig .tc := ⟨.hbm, 166, rfl⟩
abbrev main_v108 : Ref sig .tc := ⟨.hbm, 167, rfl⟩
abbrev main_v109 : Ref sig .tc := ⟨.hbm, 168, rfl⟩
abbrev main_v110 : Ref sig .tc := ⟨.hbm, 169, rfl⟩
abbrev main_cst_21 : Ref sig .tc := ⟨.hbm, 170, rfl⟩
abbrev main_v111 : Ref sig .tc := ⟨.hbm, 171, rfl⟩
abbrev main_v112 : Ref sig .tc := ⟨.hbm, 172, rfl⟩
abbrev main_cst_22 : Ref sig .tc := ⟨.hbm, 173, rfl⟩
abbrev main_v113 : Ref sig .tc := ⟨.hbm, 174, rfl⟩
abbrev main_v114 : Ref sig .tc := ⟨.hbm, 175, rfl⟩
abbrev main_cst_23 : Ref sig .tc := ⟨.hbm, 176, rfl⟩
abbrev main_v115 : Ref sig .tc := ⟨.hbm, 177, rfl⟩
abbrev main_v116 : Ref sig .tc := ⟨.hbm, 178, rfl⟩
abbrev main_v117 : Ref sig .tc := ⟨.hbm, 179, rfl⟩
abbrev main_v118 : Ref sig .tc := ⟨.hbm, 180, rfl⟩
abbrev main_v119 : Ref sig .tc := ⟨.hbm, 181, rfl⟩
abbrev main_cst_24 : Ref sig .tc := ⟨.hbm, 182, rfl⟩
abbrev main_v120 : Ref sig .tc := ⟨.hbm, 183, rfl⟩
abbrev main_v121 : Ref sig .tc := ⟨.hbm, 184, rfl⟩
abbrev main_v122 : Ref sig .tc := ⟨.hbm, 185, rfl⟩
abbrev main_v123 : Ref sig .tc := ⟨.hbm, 186, rfl⟩
abbrev main_v124 : Ref sig .tc := ⟨.hbm, 187, rfl⟩
abbrev main_cst_25 : Ref sig .tc := ⟨.hbm, 188, rfl⟩
abbrev main_v125 : Ref sig .tc := ⟨.hbm, 189, rfl⟩
abbrev main_v126 : Ref sig .tc := ⟨.hbm, 190, rfl⟩
abbrev main_v127 : Ref sig .tc := ⟨.hbm, 191, rfl⟩
abbrev main_v128 : Ref sig .tc := ⟨.hbm, 192, rfl⟩
abbrev main_v129 : Ref sig .tc := ⟨.hbm, 193, rfl⟩
abbrev main_cst_26 : Ref sig .tc := ⟨.hbm, 194, rfl⟩
abbrev main_v130 : Ref sig .tc := ⟨.hbm, 195, rfl⟩
abbrev main_v131 : Ref sig .tc := ⟨.hbm, 196, rfl⟩
abbrev main_v132 : Ref sig .tc := ⟨.hbm, 197, rfl⟩
abbrev main_v133 : Ref sig .tc := ⟨.hbm, 198, rfl⟩
abbrev main_v134 : Ref sig .tc := ⟨.hbm, 199, rfl⟩
abbrev main_cst_27 : Ref sig .tc := ⟨.hbm, 200, rfl⟩
abbrev main_v135 : Ref sig .tc := ⟨.hbm, 201, rfl⟩
abbrev main_v136 : Ref sig .tc := ⟨.hbm, 202, rfl⟩
abbrev main_v137 : Ref sig .tc := ⟨.hbm, 203, rfl⟩
abbrev main_v138 : Ref sig .tc := ⟨.hbm, 204, rfl⟩
abbrev main_v139 : Ref sig .tc := ⟨.hbm, 205, rfl⟩
abbrev main_v140 : Ref sig .tc := ⟨.hbm, 206, rfl⟩
abbrev main_v141 : Ref sig .tc := ⟨.hbm, 207, rfl⟩
abbrev main_v142 : Ref sig .tc := ⟨.hbm, 208, rfl⟩
abbrev main_v143 : Ref sig .tc := ⟨.hbm, 209, rfl⟩

abbrev nD : Nat := 1
abbrev τ : Topo := Topo.v7x

variable {F : FTy → Type} [FloatOps F]
-- ==== InX.lean ====
abbrev S2x4096x1024 : Shape := ⟨3, ![2, 4096, 1024]⟩
abbrev S2x4096x6144 : Shape := ⟨3, ![2, 4096, 6144]⟩
abbrev S1024 : Shape := ⟨1, ![1024]⟩
abbrev S1024x6144 : Shape := ⟨2, ![1024, 6144]⟩
abbrev S1024x8x768 : Shape := ⟨3, ![1024, 8, 768]⟩
abbrev S8x1024x768 : Shape := ⟨3, ![8, 1024, 768]⟩
abbrev S8192x6144 : Shape := ⟨2, ![8192, 6144]⟩
abbrev S8192x1024 : Shape := ⟨2, ![8192, 1024]⟩
abbrev S1x1024 : Shape := ⟨2, ![1, 1024]⟩
abbrev S512x6144 : Shape := ⟨2, ![512, 6144]⟩
abbrev S512x1024 : Shape := ⟨2, ![512, 1024]⟩
abbrev S512x768 : Shape := ⟨2, ![512, 768]⟩
abbrev S1x1024x768 : Shape := ⟨3, ![1, 1024, 768]⟩
abbrev S1024x768 : Shape := ⟨2, ![1024, 768]⟩
abbrev S512 : Shape := ⟨1, ![512]⟩
abbrev S512x1 : Shape := ⟨2, ![512, 1]⟩

abbrev nBuf : Space → Nat
  | .hbm => 14
  | .vmem => 11
  | .smem => 0
  | _ => 0

abbrev bufTy : (tb : Table) → Fin (tcTables nBuf tb) → BufTy
  | .hbm, ⟨0, _⟩ => ⟨S2x4096x1024, .f32⟩
  | .hbm, ⟨1, _⟩ => ⟨S2x4096x6144, .bf16⟩
  | .hbm, ⟨2, _⟩ => ⟨S2x4096x1024, .f32⟩
  | .hbm, ⟨3, _⟩ => ⟨S1024, .f32⟩
  | .hbm, ⟨4, _⟩ => ⟨S1024x6144, .f32⟩
  | .hbm, ⟨5, _⟩ => ⟨S1024x6144, .bf16⟩
  | .hbm, ⟨6, _⟩ => ⟨S1024x8x768, .bf16⟩
  | .hbm, ⟨7, _⟩ => ⟨S8x1024x768, .bf16⟩
  | .hbm, ⟨8, _⟩ => ⟨S8192x6144, .bf16⟩
  | .hbm, ⟨9, _⟩ => ⟨S8192x1024, .f32⟩
  | .hbm, ⟨10, _⟩ => ⟨S8192x1024, .f32⟩
  | .hbm, ⟨11, _⟩ => ⟨S1x1024, .f32⟩
  | .hbm, ⟨12, _⟩ => ⟨S8192x1024, .f32⟩
  | .hbm, ⟨13, _⟩ => ⟨S1x1024, .f32⟩
  | .local _ .vmem, ⟨0, _⟩ => ⟨S512x6144, .bf16⟩
  | .local _ .vmem, ⟨1, _⟩ => ⟨S512x6144, .bf16⟩
  | .local _ .vmem, ⟨2, _⟩ => ⟨S8x1024x768, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== InXRefIdeal.lean ====
abbrev S2x4096x1024 : Shape := ⟨3, ![2, 4096, 1024]⟩
abbrev S2x4096x6144 : Shape := ⟨3, ![2, 4096, 6144]⟩
abbrev S1024 : Shape := ⟨1, ![1024]⟩
abbrev S1024x6144 : Shape := ⟨2, ![1024, 6144]⟩
abbrev S_ : Shape := ⟨0, ![]⟩
abbrev S2x4096 : Shape := ⟨2, ![2, 4096]⟩
abbrev S2x4096x1 : Shape := ⟨3, ![2, 4096, 1]⟩
abbrev S1x1x1024 : Shape := ⟨3, ![1, 1, 1024]⟩
abbrev S8192x1024 : Shape := ⟨2, ![8192, 1024]⟩
abbrev S1x1024 : Shape := ⟨2, ![1, 1024]⟩

abbrev nBuf : Space → Nat
  | .hbm => 56
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S2x4096x6144, .bf16⟩
  | .hbm, ⟨2, _⟩ => ⟨S2x4096x1024, .f32⟩
  | .hbm, ⟨3, _⟩ => ⟨S1024, .f32⟩
  | .hbm, ⟨4, _⟩ => ⟨S1024x6144, .f32⟩
  | .hbm, ⟨5, _⟩ => ⟨S2x4096x1024, .f32⟩
  | .hbm, ⟨6, _⟩ => ⟨S_, .f32⟩
  | .hbm, ⟨7, _⟩ => ⟨S2x4096, .f32⟩
  | .hbm, ⟨8, _⟩ => ⟨S2x4096x1, .f32⟩
  | .hbm, ⟨9, _⟩ => ⟨S_, .f32⟩
  | .hbm, ⟨10, _⟩ => ⟨S2x4096x1, .f32⟩
  | .hbm, ⟨11, _⟩ => ⟨S2x4096x1, .f32⟩
  | .hbm, ⟨12, _⟩ => ⟨S_, .f32⟩
  | .hbm, ⟨13, _⟩ => ⟨S2x4096x1, .f32⟩
  | .hbm, ⟨14, _⟩ => ⟨S2x4096x1, .f32⟩
  | .hbm, ⟨15, _⟩ => ⟨S2x4096x1, .f32⟩
  | .hbm, ⟨16, _⟩ => ⟨S2x4096x1, .f32⟩
  | .hbm, ⟨17, _⟩ => ⟨S_, .f32⟩
  | .hbm, ⟨18, _⟩ => ⟨S2x4096x1, .f32⟩
  | .hbm, ⟨19, _⟩ => ⟨S2x4096x1, .f32⟩
  | .hbm, ⟨20, _⟩ => ⟨S2x4096x1024, .f32⟩
  | .hbm, ⟨21, _⟩ => ⟨S2x4096x1024, .f32⟩
  | .hbm, ⟨22, _⟩ => ⟨S1x1x1024, .f32⟩
  | .hbm, ⟨23, _⟩ => ⟨S2x4096x1024, .f32⟩
  | .hbm, ⟨24, _⟩ => ⟨S2x4096x1024, .f32⟩
  | .hbm, ⟨25, _⟩ => ⟨S2x4096x6144, .f32⟩
  | .hbm, ⟨26, _⟩ => ⟨S2x4096x6144, .f32⟩
  | .hbm, ⟨27, _⟩ => ⟨S2x4096x1024, .f32⟩
  | .hbm, ⟨28, _⟩ => ⟨S2x4096x1024, .f32⟩
  | .hbm, ⟨29, _⟩ => ⟨S_, .f32⟩
  | .hbm, ⟨30, _⟩ => ⟨S1024, .f32⟩
  | .hbm, ⟨31, _⟩ => ⟨S1x1x1024, .f32⟩
  | .hbm, ⟨32, _⟩ => ⟨S2x4096x1024, .f32⟩
  | .hbm, ⟨33, _⟩ => ⟨S2x4096x1024, .f32⟩
  | .hbm, ⟨34, _⟩ => ⟨S_, .f32⟩
  | .hbm, ⟨35, _⟩ => ⟨S1024, .f32⟩
  | .hbm, ⟨36, _⟩ => ⟨S2x4096x1024, .f32⟩
  | .hbm, ⟨37, _⟩ => ⟨S_, .f32⟩
  | .hbm, ⟨38, _⟩ => ⟨S2x4096, .f32⟩
  | .hbm, ⟨39, _⟩ => ⟨S2x4096x1, .f32⟩
  | .hbm, ⟨40, _⟩ => ⟨S2x4096x1024, .f32⟩
  | .hbm, ⟨41, _⟩ => ⟨S2x4096x1024, .f32⟩
  | .hbm, ⟨42, _⟩ => ⟨S2x4096x1024, .f32⟩
  | .hbm, ⟨43, _⟩ => ⟨S2x4096x1, .f32⟩
  | .hbm, ⟨44, _⟩ => ⟨S_, .f32⟩
  | .hbm, ⟨45, _⟩ => ⟨S2x4096x1, .f32⟩
  | .hbm, ⟨46, _⟩ => ⟨S2x4096x1, .f32⟩
  | .hbm, ⟨47, _⟩ => ⟨S_, .f32⟩
  | .hbm, ⟨48, _⟩ => ⟨S2x4096, .f32⟩
  | .hbm, ⟨49, _⟩ => ⟨S2x4096x1024, .f32⟩
  | .hbm, ⟨50, _⟩ => ⟨S2x4096x1024, .f32⟩
  | .hbm, ⟨51, _⟩ => ⟨S2x4096x1024, .f32⟩
  | .hbm, ⟨52, _⟩ => ⟨S2x4096x1024, .f32⟩
  | .hbm, ⟨53, _⟩ => ⟨S2x4096x1024, .f32⟩
  | .hbm, ⟨54, _⟩ => ⟨S8192x1024, .f32⟩
  | .hbm, ⟨55, _⟩ => ⟨S1x1024, .f32⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== InW.lean ====
abbrev S2x4096x6144 : Shape := ⟨3, ![2, 4096, 6144]⟩
abbrev S2x4096x1024 : Shape := ⟨3, ![2, 4096, 1024]⟩
abbrev S1024 : Shape := ⟨1, ![1024]⟩
abbrev S_ : Shape := ⟨0, ![]⟩
abbrev S2x4096 : Shape := ⟨2, ![2, 4096]⟩
abbrev S2x4096x1 : Shape := ⟨3, ![2, 4096, 1]⟩
abbrev S1x1x1024 : Shape := ⟨3, ![1, 1, 1024]⟩
abbrev S8192x1024 : Shape := ⟨2, ![8192, 1024]⟩
abbrev S8192x6144 : Shape := ⟨2, ![8192, 6144]⟩
abbrev S8x1024x768 : Shape := ⟨3, ![8, 1024, 768]⟩
abbrev S512x1024 : Shape := ⟨2, ![512, 1024]⟩
abbrev S512x3072 : Shape := ⟨2, ![512, 3072]⟩
abbrev S4x1024x768 : Shape := ⟨3, ![4, 1024, 768]⟩
abbrev S1x1024x768 : Shape := ⟨3, ![1, 1024, 768]⟩
abbrev S1024x768 : Shape := ⟨2, ![1024, 768]⟩
abbrev S512x768 : Shape := ⟨2, ![512, 768]⟩

abbrev nBuf : Space → Nat
  | .hbm => 23
  | .vmem => 7
  | .smem => 0
  | _ => 0

abbrev bufTy : (tb : Table) → Fin (tcTables nBuf tb) → BufTy
  | .hbm, ⟨0, _⟩ => ⟨S2x4096x6144, .bf16⟩
  | .hbm, ⟨1, _⟩ => ⟨S2x4096x1024, .f32⟩
  | .hbm, ⟨2, _⟩ => ⟨S1024, .f32⟩
  | .hbm, ⟨3, _⟩ => ⟨S2x4096x1024, .f32⟩
  | .hbm, ⟨4, _⟩ => ⟨S_, .f32⟩
  | .hbm, ⟨5, _⟩ => ⟨S2x4096, .f32⟩
  | .hbm, ⟨6, _⟩ => ⟨S2x4096x1, .f32⟩
  | .hbm, ⟨7, _⟩ => ⟨S_, .f32⟩
  | .hbm, ⟨8, _⟩ => ⟨S2x4096x1, .f32⟩
  | .hbm, ⟨9, _⟩ => ⟨S2x4096x1, .f32⟩
  | .hbm, ⟨10, _⟩ => ⟨S_, .f32⟩
  | .hbm, ⟨11, _⟩ => ⟨S2x4096x1, .f32⟩
  | .hbm, ⟨12, _⟩ => ⟨S2x4096x1, .f32⟩
  | .hbm, ⟨13, _⟩ => ⟨S2x4096x1, .f32⟩
  | .hbm, ⟨14, _⟩ => ⟨S2x4096x1024, .f32⟩
  | .hbm, ⟨15, _⟩ => ⟨S2x4096x1024, .f32⟩
  | .hbm, ⟨16, _⟩ => ⟨S1x1x1024, .f32⟩
  | .hbm, ⟨17, _⟩ => ⟨S2x4096x1024, .f32⟩
  | .hbm, ⟨18, _⟩ => ⟨S2x4096x1024, .f32⟩
  | .hbm, ⟨19, _⟩ => ⟨S2x4096x1024, .bf16⟩
  | .hbm, ⟨20, _⟩ => ⟨S8192x1024, .bf16⟩
  | .hbm, ⟨21, _⟩ => ⟨S8192x6144, .bf16⟩
  | .hbm, ⟨22, _⟩ => ⟨S8x1024x768, .bf16⟩
  | .local _ .vmem, ⟨0, _⟩ => ⟨S512x1024, .bf16⟩
  | .local _ .vmem, ⟨1, _⟩ => ⟨S512x1024, .bf16⟩
  | .local _ .vmem, ⟨2, _⟩ => ⟨S512x3072, .bf16⟩
  | .local _ .vmem, ⟨3, _⟩ => ⟨S512x3072, .bf16⟩
  | .local _ .vmem, ⟨4, _⟩ => ⟨S4x1024x768, .bf16⟩
  | .local _ .vmem, ⟨5, _⟩ => ⟨S4x1024x768, .bf16⟩
  | .local _ .vmem, ⟨6, _⟩ => ⟨S4x1024x768, .f32⟩
  | _, _ => ⟨S2x4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v41 : BitVec 1 := Scalar.cmpi .eq arg1 c15_i32
  let v42 : BitVec 32 := Scalar.extui v41
  let c0_i32_31 : BitVec 32 := 0#32
  let v43 : BitVec 1 := Scalar.cmpi .ne v42 c0_i32_31
  v43

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== InWRefIdeal.lean ====
abbrev S2x4096x6144 : Shape := ⟨3, ![2, 4096, 6144]⟩
abbrev S2x4096x1024 : Shape := ⟨3, ![2, 4096, 1024]⟩
abbrev S1024 : Shape := ⟨1, ![1024]⟩
abbrev S_ : Shape := ⟨0, ![]⟩
abbrev S1024x6144 : Shape := ⟨2, ![1024, 6144]⟩
abbrev S2x4096 : Shape := ⟨2, ![2, 4096]⟩
abbrev S2x4096x1 : Shape := ⟨3, ![2, 4096, 1]⟩
abbrev S1x1x1024 : Shape := ⟨3, ![1, 1, 1024]⟩
abbrev S6144x1024 : Shape := ⟨2, ![6144, 1024]⟩
abbrev S1024x8x768 : Shape := ⟨3, ![1024, 8, 768]⟩
abbrev S8x1024x768 : Shape := ⟨3, ![8, 1024, 768]⟩

abbrev nBuf : Space → Nat
  | .hbm => 28
  | .vmem => 0
  | .smem => 0
  | _ => 0

abbrev bufTy : (tb : Table) → Fin (tcTables nBuf tb) → BufTy
  | .hbm, ⟨0, _⟩ => ⟨S2x4096x6144, .bf16⟩
  | .hbm, ⟨1, _⟩ => ⟨S2x4096x1024, .f32⟩
  | .hbm, ⟨2, _⟩ => ⟨S1024, .f32⟩
  | .hbm, ⟨3, _⟩ => ⟨S_, .f32⟩
  | .hbm, ⟨4, _⟩ => ⟨S1024x6144, .f32⟩
  | .hbm, ⟨5, _⟩ => ⟨S2x4096x1024, .f32⟩
  | .hbm, ⟨6, _⟩ => ⟨S_, .f32⟩
  | .hbm, ⟨7, _⟩ => ⟨S2x4096, .f32⟩
  | .hbm, ⟨8, _⟩ => ⟨S2x4096x1, .f32⟩
  | .hbm, ⟨9, _⟩ => ⟨S_, .f32⟩
  | .hbm, ⟨10, _⟩ => ⟨S2x4096x1, .f32⟩
  | .hbm, ⟨11, _⟩ => ⟨S2x4096x1, .f32⟩
  | .hbm, ⟨12, _⟩ => ⟨S_, .f32⟩
  | .hbm, ⟨13, _⟩ => ⟨S2x4096x1, .f32⟩
  | .hbm, ⟨14, _⟩ => ⟨S2x4096x1, .f32⟩
  | .hbm, ⟨15, _⟩ => ⟨S2x4096x1, .f32⟩
  | .hbm, ⟨16, _⟩ => ⟨S2x4096x1024, .f32⟩
  | .hbm, ⟨17, _⟩ => ⟨S2x4096x1024, .f32⟩
  | .hbm, ⟨18, _⟩ => ⟨S1x1x1024, .f32⟩
  | .hbm, ⟨19, _⟩ => ⟨S2x4096x1024, .f32⟩
  | .hbm, ⟨20, _⟩ => ⟨S2x4096x1024, .f32⟩
  | .hbm, ⟨21, _⟩ => ⟨S2x4096x6144, .f32⟩
  | .hbm, ⟨22, _⟩ => ⟨S2x4096x6144, .f32⟩
  | .hbm, ⟨23, _⟩ => ⟨S6144x1024, .f32⟩
  | .hbm, ⟨24, _⟩ => ⟨S1024x6144, .f32⟩
  | .hbm, ⟨25, _⟩ => ⟨S1024x8x768, .f32⟩
  | .hbm, ⟨26, _⟩ => ⟨S8x1024x768, .f32⟩
  | .hbm, ⟨27, _⟩ => ⟨S8x1024x768, .bf16⟩
  | _, _ => ⟨S2x4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Ple.lean ====
abbrev S2x4096x1024 : Shape := ⟨3, ![2, 4096, 1024]⟩
abbrev S4x2x4096x256 : Shape := ⟨4, ![4, 2, 4096, 256]⟩
abbrev S1024 : Shape := ⟨1, ![1024]⟩
abbrev S1024x1024 : Shape := ⟨2, ![1024, 1024]⟩
abbrev S256x1024 : Shape := ⟨2, ![256, 1024]⟩
abbrev S_ : Shape := ⟨0, ![]⟩
abbrev S2x4096 : Shape := ⟨2, ![2, 4096]⟩
abbrev S2x4096x1 : Shape := ⟨3, ![2, 4096, 1]⟩
abbrev S1x1x1024 : Shape := ⟨3, ![1, 1, 1024]⟩
abbrev S8192x1024 : Shape := ⟨2, ![8192, 1024]⟩
abbrev S4x8192x256 : Shape := ⟨3, ![4, 8192, 256]⟩
abbrev S1x1024 : Shape := ⟨2, ![1, 1024]⟩
abbrev S8x256x128 : Shape := ⟨3, ![8, 256, 128]⟩
abbrev S512x1024 : Shape := ⟨2, ![512, 1024]⟩
abbrev S1x512x256 : Shape := ⟨3, ![1, 512, 256]⟩
abbrev S512 : Shape := ⟨1, ![512]⟩
abbrev S512x1 : Shape := ⟨2, ![512, 1]⟩
abbrev S512x256 : Shape := ⟨2, ![512, 256]⟩
abbrev S256x128 : Shape := ⟨2, ![256, 128]⟩
abbrev S1x256x128 : Shape := ⟨3, ![1, 256, 128]⟩

abbrev nBuf : Space → Nat
  | .hbm => 42
  | .vmem => 18
  | .smem => 0
  | _ => 0

abbrev bufTy : (tb : Table) → Fin (tcTables nBuf tb) → BufTy
  | .hbm, ⟨0, _⟩ => ⟨S2x4096x1024, .f32⟩
  | .hbm, ⟨1, _⟩ => ⟨S2x4096x1024, .f32⟩
  | .hbm, ⟨2, _⟩ => ⟨S4x2x4096x256, .f32⟩
  | .hbm, ⟨3, _⟩ => ⟨S1024, .f32⟩
  | .hbm, ⟨4, _⟩ => ⟨S1024x1024, .f32⟩
  | .hbm, ⟨5, _⟩ => ⟨S256x1024, .f32⟩
  | .hbm, ⟨6, _⟩ => ⟨S2x4096x1024, .f32⟩
  | .hbm, ⟨7, _⟩ => ⟨S_, .f32⟩
  | .hbm, ⟨8, _⟩ => ⟨S2x4096, .f32⟩
  | .hbm, ⟨9, _⟩ => ⟨S2x4096x1, .f32⟩
  | .hbm, ⟨10, _⟩ => ⟨S_, .f32⟩
  | .hbm, ⟨11, _⟩ => ⟨S2x4096x1, .f32⟩
  | .hbm, ⟨12, _⟩ => ⟨S2x4096x1, .f32⟩
  | .hbm, ⟨13, _⟩ => ⟨S_, .f32⟩
  | .hbm, ⟨14, _⟩ => ⟨S2x4096x1, .f32⟩
  | .hbm, ⟨15, _⟩ => ⟨S2x4096x1, .f32⟩
  | .hbm, ⟨16, _⟩ => ⟨S2x4096x1, .f32⟩
  | .hbm, ⟨17, _⟩ => ⟨S2x4096x1024, .f32⟩
  | .hbm, ⟨18, _⟩ => ⟨S2x4096x1024, .f32⟩
  | .hbm, ⟨19, _⟩ => ⟨S1x1x1024, .f32⟩
  | .hbm, ⟨20, _⟩ => ⟨S2x4096x1024, .f32⟩
  | .hbm, ⟨21, _⟩ => ⟨S2x4096x1024, .f32⟩
  | .hbm, ⟨22, _⟩ => ⟨S2x4096x1024, .f32⟩
  | .hbm, ⟨23, _⟩ => ⟨S2x4096x1024, .f32⟩
  | .hbm, ⟨24, _⟩ => ⟨S2x4096x1024, .f32⟩
  | .hbm, ⟨25, _⟩ => ⟨S_, .f32⟩
  | .hbm, ⟨26, _⟩ => ⟨S2x4096x1024, .f32⟩
  | .hbm, ⟨27, _⟩ => ⟨S2x4096x1024, .f32⟩
  | .hbm, ⟨28, _⟩ => ⟨S_, .f32⟩
  | .hbm, ⟨29, _⟩ => ⟨S2x4096x1024, .f32⟩
  | .hbm, ⟨30, _⟩ => ⟨S2x4096x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S4x8192x256, .f32⟩
  | .hbm, ⟨35, _⟩ => ⟨S1x1024, .f32⟩
  | .hbm, ⟨36, _⟩ => ⟨S1024x1024, .bf16⟩
  | .hbm, ⟨37, _⟩ => ⟨S256x1024, .bf16⟩
  | .hbm, ⟨38, _⟩ => ⟨S8192x1024, .f32⟩
  | .hbm, ⟨39, _⟩ => ⟨S1024x1024, .bf16⟩
  | .hbm, ⟨40, _⟩ => ⟨S8x256x128, .bf16⟩
  | .hbm, ⟨41, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x512x256, .f32⟩
  | .local _ .vmem, ⟨7, _⟩ => ⟨S1x512x256, .f32⟩
  | .local _ .vmem, ⟨8, _⟩ => ⟨S1x1024, .f32⟩
  | .local _ .vmem, ⟨9, _⟩ => ⟨S1024x1024, .bf16⟩
  | .local _ .vmem, ⟨10, _⟩ => ⟨S256x1024, .bf16⟩
  | .local _ .vmem, ⟨11, _⟩ => ⟨S512x1024, .f32⟩
  | .local _ .vmem, ⟨12, _⟩ => ⟨S512x1024, .f32⟩
  | .local _ .vmem, ⟨13, _⟩ => ⟨S1024x1024, .bf16⟩
  | .local _ .vmem, ⟨14, _⟩ => ⟨S8x256x128, .bf16⟩
  | .local _ .vmem, ⟨15, _⟩ => ⟨S1x1024, .f32⟩
  | .local _ .vmem, ⟨16, _⟩ => ⟨S1024x1024, .f32⟩
  | .local _ .vmem, ⟨17, _⟩ => ⟨S256x1024, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27_0 : Ref sig .tc := ⟨.hbm, 38, rfl⟩
abbrev main_v27_1 : Ref sig .tc := ⟨.hbm, 39, rfl⟩
abbrev main_v27_2 : Ref sig .tc := ⟨.hbm, 40, rfl⟩
abbrev main_v27_3 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v76 : BitVec 1 := Scalar.cmpi .eq arg0 c15_i32
  let v77 : BitVec 32 := Scalar.extui v76
  let c0_i32_39 : BitVec 32 := 0#32
  let v78 : BitVec 1 := Scalar.cmpi .ne v77 c0_i32_39
  v78

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x256x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== PleRefIdeal.lean ====
abbrev S2x4096x1024 : Shape := ⟨3, ![2, 4096, 1024]⟩
abbrev S4x2x4096x256 : Shape := ⟨4, ![4, 2, 4096, 256]⟩
abbrev S1024 : Shape := ⟨1, ![1024]⟩
abbrev S1024x1024 : Shape := ⟨2, ![1024, 1024]⟩
abbrev S256x1024 : Shape := ⟨2, ![256, 1024]⟩
abbrev S_ : Shape := ⟨0, ![]⟩
abbrev S2x4096 : Shape := ⟨2, ![2, 4096]⟩
abbrev S2x4096x1 : Shape := ⟨3, ![2, 4096, 1]⟩
abbrev S1x1x1024 : Shape := ⟨3, ![1, 1, 1024]⟩
abbrev S1x2x4096x256 : Shape := ⟨4, ![1, 2, 4096, 256]⟩
abbrev S2x4096x256 : Shape := ⟨3, ![2, 4096, 256]⟩
abbrev S1024x256 : Shape := ⟨2, ![1024, 256]⟩
abbrev S256x8x128 : Shape := ⟨3, ![256, 8, 128]⟩
abbrev S8x256x128 : Shape := ⟨3, ![8, 256, 128]⟩
abbrev S8192x1024 : Shape := ⟨2, ![8192, 1024]⟩
abbrev S1x1024 : Shape := ⟨2, ![1, 1024]⟩

abbrev nBuf : Space → Nat
  | .hbm => 85
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S2x4096x1024, .f32⟩
  | .hbm, ⟨2, _⟩ => ⟨S4x2x4096x256, .f32⟩
  | .hbm, ⟨3, _⟩ => ⟨S1024, .f32⟩
  | .hbm, ⟨4, _⟩ => ⟨S1024x1024, .f32⟩
  | .hbm, ⟨5, _⟩ => ⟨S256x1024, .f32⟩
  | .hbm, ⟨6, _⟩ => ⟨S2x4096x1024, .f32⟩
  | .hbm, ⟨7, _⟩ => ⟨S_, .f32⟩
  | .hbm, ⟨8, _⟩ => ⟨S2x4096, .f32⟩
  | .hbm, ⟨9, _⟩ => ⟨S2x4096x1, .f32⟩
  | .hbm, ⟨10, _⟩ => ⟨S_, .f32⟩
  | .hbm, ⟨11, _⟩ => ⟨S2x4096x1, .f32⟩
  | .hbm, ⟨12, _⟩ => ⟨S2x4096x1, .f32⟩
  | .hbm, ⟨13, _⟩ => ⟨S_, .f32⟩
  | .hbm, ⟨14, _⟩ => ⟨S2x4096x1, .f32⟩
  | .hbm, ⟨15, _⟩ => ⟨S2x4096x1, .f32⟩
  | .hbm, ⟨16, _⟩ => ⟨S2x4096x1, .f32⟩
  | .hbm, ⟨17, _⟩ => ⟨S2x4096x1, .f32⟩
  | .hbm, ⟨18, _⟩ => ⟨S_, .f32⟩
  | .hbm, ⟨19, _⟩ => ⟨S2x4096x1, .f32⟩
  | .hbm, ⟨20, _⟩ => ⟨S2x4096x1, .f32⟩
  | .hbm, ⟨21, _⟩ => ⟨S2x4096x1024, .f32⟩
  | .hbm, ⟨22, _⟩ => ⟨S2x4096x1024, .f32⟩
  | .hbm, ⟨23, _⟩ => ⟨S1x1x1024, .f32⟩
  | .hbm, ⟨24, _⟩ => ⟨S2x4096x1024, .f32⟩
  | .hbm, ⟨25, _⟩ => ⟨S2x4096x1024, .f32⟩
  | .hbm, ⟨26, _⟩ => ⟨S2x4096x1024, .f32⟩
  | .hbm, ⟨27, _⟩ => ⟨S2x4096x1024, .f32⟩
  | .hbm, ⟨28, _⟩ => ⟨S2x4096x1024, .f32⟩
  | .hbm, ⟨29, _⟩ => ⟨S_, .f32⟩
  | .hbm, ⟨30, _⟩ => ⟨S2x4096x1024, .f32⟩
  | .hbm, ⟨31, _⟩ => ⟨S2x4096x1024, .f32⟩
  | .hbm, ⟨32, _⟩ => ⟨S_, .f32⟩
  | .hbm, ⟨33, _⟩ => ⟨S2x4096x1024, .f32⟩
  | .hbm, ⟨34, _⟩ => ⟨S2x4096x1024, .f32⟩
  | .hbm, ⟨35, _⟩ => ⟨S_, .f32⟩
  | .hbm, ⟨36, _⟩ => ⟨S2x4096x1024, .f32⟩
  | .hbm, ⟨37, _⟩ => ⟨S2x4096x1024, .f32⟩
  | .hbm, ⟨38, _⟩ => ⟨S2x4096x1024, .f32⟩
  | .hbm, ⟨39, _⟩ => ⟨S1x2x4096x256, .f32⟩
  | .hbm, ⟨40, _⟩ => ⟨S2x4096x256, .f32⟩
  | .hbm, ⟨41, _⟩ => ⟨S2x4096x1024, .f32⟩
  | .hbm, ⟨42, _⟩ => ⟨S2x4096x1024, .f32⟩
  | .hbm, ⟨43, _⟩ => ⟨S2x4096x1024, .f32⟩
  | .hbm, ⟨44, _⟩ => ⟨S2x4096x1024, .f32⟩
  | .hbm, ⟨45, _⟩ => ⟨S2x4096x1024, .f32⟩
  | .hbm, ⟨46, _⟩ => ⟨S2x4096x1024, .f32⟩
  | .hbm, ⟨47, _⟩ => ⟨S1024x256, .f32⟩
  | .hbm, ⟨48, _⟩ => ⟨S256x1024, .f32⟩
  | .hbm, ⟨49, _⟩ => ⟨S2x4096x1024, .f32⟩
  | .hbm, ⟨50, _⟩ => ⟨S1024x1024, .f32⟩
  | .hbm, ⟨51, _⟩ => ⟨S1024x1024, .f32⟩
  | .hbm, ⟨52, _⟩ => ⟨S2x4096x1024, .f32⟩
  | .hbm, ⟨53, _⟩ => ⟨S2x4096x1024, .f32⟩
  | .hbm, ⟨54, _⟩ => ⟨S_, .f32⟩
  | .hbm, ⟨55, _⟩ => ⟨S1024, .f32⟩
  | .hbm, ⟨56, _⟩ => ⟨S1x1x1024, .f32⟩
  | .hbm, ⟨57, _⟩ => ⟨S2x4096x1024, .f32⟩
  | .hbm, ⟨58, _⟩ => ⟨S2x4096x1024, .f32⟩
  | .hbm, ⟨59, _⟩ => ⟨S_, .f32⟩
  | .hbm, ⟨60, _⟩ => ⟨S1024, .f32⟩
  | .hbm, ⟨61, _⟩ => ⟨S2x4096x1024, .f32⟩
  | .hbm, ⟨62, _⟩ => ⟨S_, .f32⟩
  | .hbm, ⟨63, _⟩ => ⟨S2x4096, .f32⟩
  | .hbm, ⟨64, _⟩ => ⟨S2x4096x1, .f32⟩
  | .hbm, ⟨65, _⟩ => ⟨S2x4096x1024, .f32⟩
  | .hbm, ⟨66, _⟩ => ⟨S2x4096x1024, .f32⟩
  | .hbm, ⟨67, _⟩ => ⟨S2x4096x1024, .f32⟩
  | .hbm, ⟨68, _⟩ => ⟨S2x4096x1, .f32⟩
  | .hbm, ⟨69, _⟩ => ⟨S_, .f32⟩
  | .hbm, ⟨70, _⟩ => ⟨S2x4096x1, .f32⟩
  | .hbm, ⟨71, _⟩ => ⟨S2x4096x1, .f32⟩
  | .hbm, ⟨72, _⟩ => ⟨S_, .f32⟩
  | .hbm, ⟨73, _⟩ => ⟨S2x4096, .f32⟩
  | .hbm, ⟨74, _⟩ => ⟨S2x4096x1024, .f32⟩
  | .hbm, ⟨75, _⟩ => ⟨S2x4096x1024, .f32⟩
  | .hbm, ⟨76, _⟩ => ⟨S2x4096x1024, .f32⟩
  | .hbm, ⟨77, _⟩ => ⟨S2x4096x1024, .f32⟩
  | .hbm, ⟨78, _⟩ => ⟨S2x4096x1024, .f32⟩
  | .hbm, ⟨79, _⟩ => ⟨S256x8x128, .f32⟩
  | .hbm, ⟨80, _⟩ => ⟨S8x256x128, .f32⟩
  | .hbm, ⟨81, _⟩ => ⟨S8192x1024, .f32⟩
  | .hbm, ⟨82, _⟩ => ⟨S1024x1024, .bf16⟩
  | .hbm, ⟨83, _⟩ => ⟨S8x256x128, .bf16⟩
  | .hbm, ⟨84, _⟩ => ⟨S1x1024, .f32⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_6 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_7 : Ref sig .tc := ⟨.hbm, 59, rfl⟩
abbrev main_v45 : Ref sig .tc := ⟨.hbm, 60, rfl⟩
abbrev main_v46 : Ref sig .tc := ⟨.hbm, 61, rfl⟩
abbrev main_cst_8 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_9 : Ref sig .tc := ⟨.hbm, 69, rfl⟩
abbrev main_v53 : Ref sig .tc := ⟨.hbm, 70, rfl⟩
abbrev main_v54 : Ref sig .tc := ⟨.hbm, 71, rfl⟩
abbrev main_cst_10 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩

abbrev nD : Nat := 1
abbrev τ : Topo := Topo.v7x

variable {F : FTy → Type} [FloatOps F]
-- ==== OutC.lean ====
abbrev S2x4096x1024 : Shape := ⟨3, ![2, 4096, 1024]⟩
abbrev S2x4096x2048 : Shape := ⟨3, ![2, 4096, 2048]⟩
abbrev S2048 : Shape := ⟨1, ![2048]⟩
abbrev S2x4096x6144 : Shape := ⟨3, ![2, 4096, 6144]⟩
abbrev S2048x1024 : Shape := ⟨2, ![2048, 1024]⟩
abbrev S8192x1024 : Shape := ⟨2, ![8192, 1024]⟩
abbrev S1x1x2048 : Shape := ⟨3, ![1, 1, 2048]⟩
abbrev S8192x2048 : Shape := ⟨2, ![8192, 2048]⟩
abbrev S8192x6144 : Shape := ⟨2, ![8192, 6144]⟩
abbrev S1x2048 : Shape := ⟨2, ![1, 2048]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩

abbrev nBuf : Space → Nat
  | .hbm => 22
  | .vmem => 18
  | .smem => 0
  | _ => 0

abbrev bufTy : (tb : Table) → Fin (tcTables nBuf tb) → BufTy
  | .hbm, ⟨0, _⟩ => ⟨S2x4096x1024, .f32⟩
  | .hbm, ⟨1, _⟩ => ⟨S2x4096x2048, .f32⟩
  | .hbm, ⟨2, _⟩ => ⟨S2048, .f32⟩
  | .hbm, ⟨3, _⟩ => ⟨S2x4096x6144, .f32⟩
  | .hbm, ⟨4, _⟩ => ⟨S2048, .f32⟩
  | .hbm, ⟨5, _⟩ => ⟨S2048, .f32⟩
  | .hbm, ⟨6, _⟩ => ⟨S2048x1024, .f32⟩
  | .hbm, ⟨7, _⟩ => ⟨S8192x1024, .f32⟩
  | .hbm, ⟨8, _⟩ => ⟨S1x1x2048, .f32⟩
  | .hbm, ⟨9, _⟩ => ⟨S2x4096x2048, .f32⟩
  | .hbm, ⟨10, _⟩ => ⟨S2x4096x2048, .f32⟩
  | .hbm, ⟨11, _⟩ => ⟨S8192x2048, .f32⟩
  | .hbm, ⟨12, _⟩ => ⟨S8192x6144, .f32⟩
  | .hbm, ⟨13, _⟩ => ⟨S2048x1024, .bf16⟩
  | .hbm, ⟨14, _⟩ => ⟨S1x2048, .f32⟩
  | .hbm, ⟨15, _⟩ => ⟨S1x2048, .f32⟩
  | .hbm, ⟨16, _⟩ => ⟨S8192x2048, .f32⟩
  | .hbm, ⟨17, _⟩ => ⟨S8192x2048, .bf16⟩
  | .hbm, ⟨18, _⟩ => ⟨S2048x1024, .bf16⟩
  | .hbm, ⟨19, _⟩ => ⟨S1x2048, .f32⟩
  | .hbm, ⟨20, _⟩ => ⟨S1x2048, .f32⟩
  | .hbm, ⟨21, _⟩ => ⟨S1x2048, .f32⟩
  | .local _ .vmem, ⟨0, _⟩ => ⟨S256x1024, .f32⟩
  | .local _ .vmem, ⟨1, _⟩ => ⟨S256x1024, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S2048x1024, .bf16⟩
  | .local _ .vmem, ⟨7, _⟩ => ⟨S1x2048, .f32⟩
  | .local _ .vmem, ⟨8, _⟩ => ⟨S1x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .bf16⟩
  | .local _ .vmem, ⟨12, _⟩ => ⟨S256x2048, .bf16⟩
  | .local _ .vmem, ⟨13, _⟩ => ⟨S2048x1024, .bf16⟩
  | .local _ .vmem, ⟨14, _⟩ => ⟨S1x2048, .f32⟩
  | .local _ .vmem, ⟨15, _⟩ => ⟨S1x2048, .f32⟩
  | .local _ .vmem, ⟨16, _⟩ => ⟨S1x2048, .f32⟩
  | .local _ .vmem, ⟨17, _⟩ => ⟨S2048x1024, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev main_v9_3 : Ref sig .tc := ⟨.hbm, 19, rfl⟩
abbrev main_v9_4 : Ref sig .tc := ⟨.hbm, 20, rfl⟩
abbrev main_v9_5 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15
abbrev cc0_sem11_0 : DmaSem sig := 16

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v105 : BitVec 1 := Scalar.cmpi .eq arg0 c31_i32
  let v106 : BitVec 32 := Scalar.extui v105
  let c0_i32_49 : BitVec 32 := 0#32
  let v107 : BitVec 1 := Scalar.cmpi .ne v106 c0_i32_49
  v107

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S2048x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== OutCRefIdeal.lean ====
abbrev S2x4096x1024 : Shape := ⟨3, ![2, 4096, 1024]⟩
abbrev S2x4096x2048 : Shape := ⟨3, ![2, 4096, 2048]⟩
abbrev S2048 : Shape := ⟨1, ![2048]⟩
abbrev S2x4096x6144 : Shape := ⟨3, ![2, 4096, 6144]⟩
abbrev S2048x1024 : Shape := ⟨2, ![2048, 1024]⟩
abbrev S1x1x2048 : Shape := ⟨3, ![1, 1, 2048]⟩
abbrev S_ : Shape := ⟨0, ![]⟩
abbrev S2x4096 : Shape := ⟨2, ![2, 4096]⟩
abbrev S2x4096x1 : Shape := ⟨3, ![2, 4096, 1]⟩
abbrev S1024x2048 : Shape := ⟨2, ![1024, 2048]⟩
abbrev S8192x2048 : Shape := ⟨2, ![8192, 2048]⟩
abbrev S1x2048 : Shape := ⟨2, ![1, 2048]⟩

abbrev nBuf : Space → Nat
  | .hbm => 138
  | .vmem => 0
  | .smem => 0
  | _ => 0

abbrev hbmTy0_0 (i : Nat) : BufTy := match i % 128 with
  | 0 => ⟨S2x4096x1024, .f32⟩
  | 1 => ⟨S2x4096x2048, .f32⟩
  | 2 => ⟨S2048, .f32⟩
  | 3 => ⟨S2x4096x6144, .f32⟩
  | 4 => ⟨S2048, .f32⟩
  | 5 => ⟨S2048, .f32⟩
  | 6 => ⟨S2048x1024, .f32⟩
  | 7 => ⟨S2x4096x2048, .f32⟩
  | 8 => ⟨S2x4096x2048, .f32⟩
  | 9 => ⟨S2x4096x2048, .f32⟩
  | 10 => ⟨S1x1x2048, .f32⟩
  | 11 => ⟨S2x4096x2048, .f32⟩
  | 12 => ⟨S2x4096x2048, .f32⟩
  | 13 => ⟨S_, .f32⟩
  | 14 => ⟨S2x4096, .f32⟩
  | 15 => ⟨S2x4096x1, .f32⟩
  | 16 => ⟨S_, .f32⟩
  | 17 => ⟨S2x4096x1, .f32⟩
  | 18 => ⟨S2x4096x1, .f32⟩
  | 19 => ⟨S2x4096x2048, .f32⟩
  | 20 => ⟨S2x4096x2048, .f32⟩
  | 21 => ⟨S2x4096x2048, .f32⟩
  | 22 => ⟨S_, .f32⟩
  | 23 => ⟨S2x4096, .f32⟩
  | 24 => ⟨S2x4096x1, .f32⟩
  | 25 => ⟨S_, .f32⟩
  | 26 => ⟨S2x4096x1, .f32⟩
  | 27 => ⟨S2x4096x1, .f32⟩
  | 28 => ⟨S_, .f32⟩
  | 29 => ⟨S2x4096x1, .f32⟩
  | 30 => ⟨S2x4096x1, .f32⟩
  | 31 => ⟨S2x4096x1, .f32⟩
  | 32 => ⟨S2x4096x1, .f32⟩
  | 33 => ⟨S_, .f32⟩
  | 34 => ⟨S2x4096x1, .f32⟩
  | 35 => ⟨S2x4096x1, .f32⟩
  | 36 => ⟨S2x4096x2048, .f32⟩
  | 37 => ⟨S2x4096x2048, .f32⟩
  | 38 => ⟨S1x1x2048, .f32⟩
  | 39 => ⟨S2x4096x2048, .f32⟩
  | 40 => ⟨S2x4096x2048, .f32⟩
  | 41 => ⟨S1x1x2048, .f32⟩
  | 42 => ⟨S2x4096x2048, .f32⟩
  | 43 => ⟨S2x4096x2048, .f32⟩
  | 44 => ⟨S2x4096x2048, .f32⟩
  | 45 => ⟨S2x4096x2048, .f32⟩
  | 46 => ⟨S_, .f32⟩
  | 47 => ⟨S2x4096x2048, .f32⟩
  | 48 => ⟨S2x4096x2048, .f32⟩
  | 49 => ⟨S_, .f32⟩
  | 50 => ⟨S2x4096x2048, .f32⟩
  | 51 => ⟨S2x4096x2048, .f32⟩
  | 52 => ⟨S_, .f32⟩
  | 53 => ⟨S2x4096x2048, .f32⟩
  | 54 => ⟨S2x4096x2048, .f32⟩
  | 55 => ⟨S2x4096x2048, .f32⟩
  | 56 => ⟨S2x4096x2048, .f32⟩
  | 57 => ⟨S2x4096x2048, .f32⟩
  | 58 => ⟨S2x4096x2048, .f32⟩
  | 59 => ⟨S_, .f32⟩
  | 60 => ⟨S2x4096x2048, .f32⟩
  | 61 => ⟨S2x4096x2048, .f32⟩
  | 62 => ⟨S_, .f32⟩
  | 63 => ⟨S2x4096x2048, .f32⟩
  | 64 => ⟨S2x4096x2048, .f32⟩
  | 65 => ⟨S_, .f32⟩
  | 66 => ⟨S2x4096x2048, .f32⟩
  | 67 => ⟨S2x4096x2048, .f32⟩
  | 68 => ⟨S2x4096x2048, .f32⟩
  | 69 => ⟨S2x4096x2048, .f32⟩
  | 70 => ⟨S2x4096x2048, .f32⟩
  | 71 => ⟨S2x4096x1024, .f32⟩
  | 72 => ⟨S1024x2048, .f32⟩
  | 73 => ⟨S2048x1024, .f32⟩
  | 74 => ⟨S2x4096x2048, .f32⟩
  | 75 => ⟨S2x4096x2048, .f32⟩
  | 76 => ⟨S2x4096x2048, .f32⟩
  | 77 => ⟨S2x4096x2048, .f32⟩
  | 78 => ⟨S2x4096x2048, .f32⟩
  | 79 => ⟨S2x4096x2048, .f32⟩
  | 80 => ⟨S2x4096x2048, .f32⟩
  | 81 => ⟨S2x4096x2048, .f32⟩
  | 82 => ⟨S2x4096x2048, .f32⟩
  | 83 => ⟨S2x4096x2048, .f32⟩
  | 84 => ⟨S2x4096x2048, .f32⟩
  | 85 => ⟨S_, .f32⟩
  | 86 => ⟨S2048, .f32⟩
  | 87 => ⟨S1x1x2048, .f32⟩
  | 88 => ⟨S_, .f32⟩
  | 89 => ⟨S2048, .f32⟩
  | 90 => ⟨S2x4096x2048, .f32⟩
  | 91 => ⟨S_, .f32⟩
  | 92 => ⟨S2048, .f32⟩
  | 93 => ⟨S1x1x2048, .f32⟩
  | 94 => ⟨S2x4096x2048, .f32⟩
  | 95 => ⟨S2x4096x2048, .f32⟩
  | 96 => ⟨S_, .f32⟩
  | 97 => ⟨S2048, .f32⟩
  | 98 => ⟨S2x4096x2048, .f32⟩
  | 99 => ⟨S_, .f32⟩
  | 100 => ⟨S2x4096, .f32⟩
  | 101 => ⟨S2x4096x1, .f32⟩
  | 102 => ⟨S2x4096x2048, .f32⟩
  | 103 => ⟨S2x4096x2048, .f32⟩
  | 104 => ⟨S2x4096x1, .f32⟩
  | 105 => ⟨S_, .f32⟩
  | 106 => ⟨S2x4096x1, .f32⟩
  | 107 => ⟨S2x4096x1, .f32⟩
  | 108 => ⟨S_, .f32⟩
  | 109 => ⟨S2x4096, .f32⟩
  | 110 => ⟨S2x4096x2048, .f32⟩
  | 111 => ⟨S2x4096x2048, .f32⟩
  | 112 => ⟨S2x4096x2048, .f32⟩
  | 113 => ⟨S2x4096x2048, .f32⟩
  | 114 => ⟨S2x4096x2048, .f32⟩
  | 115 => ⟨S2x4096x2048, .f32⟩
  | 116 => ⟨S_, .f32⟩
  | 117 => ⟨S2x4096, .f32⟩
  | 118 => ⟨S2x4096x1, .f32⟩
  | 119 => ⟨S_, .f32⟩
  | 120 => ⟨S2x4096x1, .f32⟩
  | 121 => ⟨S2x4096x1, .f32⟩
  | 122 => ⟨S_, .f32⟩
  | 123 => ⟨S2x4096, .f32⟩
  | 124 => ⟨S2x4096x2048, .f32⟩
  | 125 => ⟨S2x4096x2048, .f32⟩
  | 126 => ⟨S_, .f32⟩
  | 127 => ⟨S2048, .f32⟩
  | _ => ⟨S2x4096x1024, .f32⟩

abbrev hbmTy0_1 (i : Nat) : BufTy := match i % 128 with
  | 0 => ⟨S1x1x2048, .f32⟩
  | 1 => ⟨S_, .f32⟩
  | 2 => ⟨S2048, .f32⟩
  | 3 => ⟨S8192x2048, .f32⟩
  | 4 => ⟨S8192x2048, .f32⟩
  | 5 => ⟨S8192x2048, .bf16⟩
  | 6 => ⟨S2048x1024, .bf16⟩
  | 7 => ⟨S1x2048, .f32⟩
  | 8 => ⟨S1x2048, .f32⟩
  | 9 => ⟨S1x2048, .f32⟩
  | _ => ⟨S2x4096x1024, .f32⟩

abbrev hbmTy (i : Nat) : BufTy := match i / 128 with
  | 0 => hbmTy0_0 i
  | 1 => hbmTy0_1 i
  | _ => ⟨S2x4096x1024, .f32⟩

abbrev bufTy : (tb : Table) → Fin (tcTables nBuf tb) → BufTy
  | .hbm, ⟨i, _⟩ => hbmTy i
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_call0_v0 : Ref sig .tc := ⟨.hbm, 44, rfl⟩
abbrev main_call0_v1 : Ref sig .tc := ⟨.hbm, 45, rfl⟩
abbrev main_call0_cst : Ref sig .tc := ⟨.hbm, 46, rfl⟩
abbrev main_call0_v2 : Ref sig .tc := ⟨.hbm, 47, rfl⟩
abbrev main_call0_v3 : Ref sig .tc := ⟨.hbm, 48, rfl⟩
abbrev main_call0_cst_0 : Ref sig .tc := ⟨.hbm, 49, rfl⟩
abbrev main_call0_v4 : Ref sig .tc := ⟨.hbm, 50, rfl⟩
abbrev main_v31_2 : Ref sig .tc := ⟨.hbm, 51, rfl⟩
abbrev main_call0_cst_1 : Ref sig .tc := ⟨.hbm, 52, rfl⟩
abbrev main_call0_v6 : Ref sig .tc := ⟨.hbm, 53, rfl⟩
abbrev main_call0_v7 : Ref sig .tc := ⟨.hbm, 54, rfl⟩
abbrev main_v31_1 : Ref sig .tc := ⟨.hbm, 55, rfl⟩
abbrev main_v31_0 : Ref sig .tc := ⟨.hbm, 56, rfl⟩
abbrev main_call1_v0 : Ref sig .tc := ⟨.hbm, 57, rfl⟩
abbrev main_call1_v1 : Ref sig .tc := ⟨.hbm, 58, rfl⟩
abbrev main_call1_cst : Ref sig .tc := ⟨.hbm, 59, rfl⟩
abbrev main_call1_v2 : Ref sig .tc := ⟨.hbm, 60, rfl⟩
abbrev main_call1_v3 : Ref sig .tc := ⟨.hbm, 61, rfl⟩
abbrev main_call1_cst_0 : Ref sig .tc := ⟨.hbm, 62, rfl⟩
abbrev main_call1_v4 : Ref sig .tc := ⟨.hbm, 63, rfl⟩
abbrev main_v32_2 : Ref sig .tc := ⟨.hbm, 64, rfl⟩
abbrev main_call1_cst_1 : Ref sig .tc := ⟨.hbm, 65, rfl⟩
abbrev main_call1_v6 : Ref sig .tc := ⟨.hbm, 66, rfl⟩
abbrev main_call1_v7 : Ref sig .tc := ⟨.hbm, 67, rfl⟩
abbrev main_v32_1 : Ref sig .tc := ⟨.hbm, 68, rfl⟩
abbrev main_v32_0 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_call2_v0 : Ref sig .tc := ⟨.hbm, 77, rfl⟩
abbrev main_call2_v1 : Ref sig .tc := ⟨.hbm, 78, rfl⟩
abbrev main_call2_v2 : Ref sig .tc := ⟨.hbm, 79, rfl⟩
abbrev main_v40 : Ref sig .tc := ⟨.hbm, 80, rfl⟩
abbrev main_call3_v0 : Ref sig .tc := ⟨.hbm, 81, rfl⟩
abbrev main_call3_v1 : Ref sig .tc := ⟨.hbm, 82, rfl⟩
abbrev main_call3_v2 : Ref sig .tc := ⟨.hbm, 83, rfl⟩
abbrev main_v41 : Ref sig .tc := ⟨.hbm, 84, rfl⟩
abbrev main_cst_5 : Ref sig .tc := ⟨.hbm, 85, rfl⟩
abbrev main_v42 : Ref sig .tc := ⟨.hbm, 86, rfl⟩
abbrev main_v43 : Ref sig .tc := ⟨.hbm, 87, rfl⟩
abbrev main_cst_6 : Ref sig .tc := ⟨.hbm, 88, rfl⟩
abbrev main_v44 : Ref sig .tc := ⟨.hbm, 89, rfl⟩
abbrev main_v45 : Ref sig .tc := ⟨.hbm, 90, rfl⟩
abbrev main_cst_7 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_cst_8 : Ref sig .tc := ⟨.hbm, 96, rfl⟩
abbrev main_v50 : Ref sig .tc := ⟨.hbm, 97, rfl⟩
abbrev main_v51 : Ref sig .tc := ⟨.hbm, 98, rfl⟩
abbrev main_cst_9 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_cst_10 : Ref sig .tc := ⟨.hbm, 105, rfl⟩
abbrev main_v57 : Ref sig .tc := ⟨.hbm, 106, rfl⟩
abbrev main_v58 : Ref sig .tc := ⟨.hbm, 107, rfl⟩
abbrev main_cst_11 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_cst_12 : Ref sig .tc := ⟨.hbm, 116, rfl⟩
abbrev main_v66 : Ref sig .tc := ⟨.hbm, 117, rfl⟩
abbrev main_v67 : Ref sig .tc := ⟨.hbm, 118, rfl⟩
abbrev main_cst_13 : Ref sig .tc := ⟨.hbm, 119, rfl⟩
abbrev main_v68 : Ref sig .tc := ⟨.hbm, 120, rfl⟩
abbrev main_v69 : Ref sig .tc := ⟨.hbm, 121, rfl⟩
abbrev main_cst_14 : Ref sig .tc := ⟨.hbm, 122, rfl⟩
abbrev main_v70 : Ref sig .tc := ⟨.hbm, 123, rfl⟩
abbrev main_v71 : Ref sig .tc := ⟨.hbm, 124, rfl⟩
abbrev main_v72 : Ref sig .tc := ⟨.hbm, 125, rfl⟩
abbrev main_cst_15 : Ref sig .tc := ⟨.hbm, 126, rfl⟩
abbrev main_v73 : Ref sig .tc := ⟨.hbm, 127, rfl⟩
abbrev main_v74 : Ref sig .tc := ⟨.hbm, 128, rfl⟩
abbrev main_cst_16 : Ref sig .tc := ⟨.hbm, 129, rfl⟩
abbrev main_v75 : Ref sig .tc := ⟨.hbm, 130, rfl⟩
abbrev main_v76 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩

abbrev nD : Nat := 1
abbrev τ : Topo := Topo.v7x

variable {F : FTy → Type} [FloatOps F]
-- ==== Proof.Spec.lean ====
/- The backward pass of a spatial-gating layer, as plain formulas over the extended reals.

   One CHUNK is 128 consecutive positions of one sequence: the cotangent `ct` of the layer's output and the three saved
   thirds `a`, `b`, `z` of the projected input at those positions. The layer is rowwise except for the causal mixing
   over the positions of one chunk, so a chunk's gradients depend on that chunk alone; the gradients of the parameters
   are sums over all chunks. -/
module

public import Idealize.ShloMosaic.PureOps
public import Idealize.ShloMosaic.PureOps.Ideal.Laws

@[expose] public section

noncomputable section

open Idealize.ShloMosaic

namespace Cert.Sgu

/-- The parameters: output projection, normalisation scale and shift, mixing weights, their transposes as handed to the
    backward pass, and the mixing bias. -/
structure Params where
  wo : Fin 2048 → Fin 1024 → EReal
  lg : Fin 2048 → EReal
  lb : Fin 2048 → EReal
  sw : Fin 8 → Fin 128 → Fin 128 → EReal
  swt : Fin 8 → Fin 128 → Fin 128 → EReal
  sb : Fin 8 → Fin 128 → EReal

/-- One chunk of 128 positions. -/
structure Chunk where
  ct : Fin 128 → Fin 1024 → EReal
  a : Fin 128 → Fin 2048 → EReal
  b : Fin 128 → Fin 2048 → EReal
  z : Fin 128 → Fin 2048 → EReal

/-- The literals: ½, −½, 2048, the variance offset, the reciprocal root of two, the slope of the exact GELU. -/
abbrev half : EReal := Ideal.ofBits .f32 0x3F000000#32
abbrev mhalf : EReal := Ideal.ofBits .f32 0xBF000000#32
abbrev width : EReal := Ideal.ofBits .f32 0x45000000#32
abbrev eps : EReal := Ideal.ofBits .f32 0x358637BD#32
abbrev rt : EReal := (((Real.sqrt 2)⁻¹ : ℝ) : EReal)
abbrev pdf : EReal := (((9465531 / 16777216) * (Real.sqrt 2)⁻¹ : ℝ) : EReal)

/-- The exact GELU and its derivative. -/
def gelu (x : EReal) : EReal := half * x * (1 + Ideal.erf (x * rt))
def geluSlope (x : EReal) : EReal := half * (1 + Ideal.erf (x * rt)) + x * (Ideal.exp (mhalf * x * x) * pdf)
/-- The derivative of `z · σ(z)`. -/
def siluSlope (z : EReal) : EReal := Ideal.logistic z * (1 + z * (1 - Ideal.logistic z))

/-- Column `j` belongs to group `j / 256`; column `k` of group `g` is `g · 256 + k`. -/
abbrev grp (j : Fin 2048) : Fin 8 := ⟨j.val / 256, by omega⟩
abbrev col (g : Fin 8) (k : Fin 256) : Fin 2048 := ⟨g.val * 256 + k.val, by omega⟩

/-- Mean of a row of length 2048. -/
def mean (f : Fin 2048 → EReal) : EReal := Ideal.div (∑ j, f j) width
/-- Centred row, its reciprocal deviation, and the normalised row. -/
def cent (f : Fin 2048 → EReal) (j : Fin 2048) : EReal := f j - mean f
def var (f : Fin 2048 → EReal) : EReal := mean fun j => cent f j * cent f j
def rstd (f : Fin 2048 → EReal) : EReal := Ideal.rsqrt (var f + eps)
def hat (f : Fin 2048 → EReal) (j : Fin 2048) : EReal := cent f j * rstd f
/-- The gradient of the normalised row: `d` the cotangent of `hat f`. -/
def normBwd (f d : Fin 2048 → EReal) (j : Fin 2048) : EReal :=
  rstd f * (d j - mean d - hat f j * mean fun i => d i * hat f i)

variable (W : Params) (k : Chunk)

def u (t : Fin 128) (j : Fin 2048) : EReal := gelu (k.a t j)
def v0 (t : Fin 128) (j : Fin 2048) : EReal := gelu (k.b t j)
def v (t : Fin 128) (j : Fin 2048) : EReal := hat (v0 k t) j * W.lg j + W.lb j
/-- The causal mixing weight of source position `s` for target position `t`, and its transpose. -/
def wt (g : Fin 8) (t s : Fin 128) : EReal := if s ≤ t then W.sw g t s else 0
def wtt (g : Fin 8) (s t : Fin 128) : EReal := if s ≤ t then W.swt g s t else 0
def mixed (t : Fin 128) (j : Fin 2048) : EReal := ∑ s, wt W (grp j) t s * v W k s j + W.sb (grp j) t
def y (t : Fin 128) (j : Fin 2048) : EReal := u k t j * mixed W k t j
def sz (t : Fin 128) (j : Fin 2048) : EReal := k.z t j * Ideal.logistic (k.z t j)
def dq (t : Fin 128) (j : Fin 2048) : EReal := ∑ d, k.ct t d * W.wo j d
def dy (t : Fin 128) (j : Fin 2048) : EReal := dq W k t j * sz k t j
def du (t : Fin 128) (j : Fin 2048) : EReal := dy W k t j * mixed W k t j
def dm (t : Fin 128) (j : Fin 2048) : EReal := dy W k t j * u k t j
def dv (s : Fin 128) (j : Fin 2048) : EReal := ∑ t, wtt W (grp j) s t * dm W k t j
def dv0 (t : Fin 128) (j : Fin 2048) : EReal := normBwd (v0 k t) (fun i => dv W k t i * W.lg i) j

/-- The three gradients of the projected input. -/
def da (t : Fin 128) (j : Fin 2048) : EReal := du W k t j * geluSlope (k.a t j)
def db (t : Fin 128) (j : Fin 2048) : EReal := dv0 W k t j * geluSlope (k.b t j)
def dz (t : Fin 128) (j : Fin 2048) : EReal := dq W k t j * y W k t j * siluSlope (k.z t j)

/-- The three gradients side by side. -/
def dproj (t : Fin 128) (c : Fin 6144) : EReal :=
  if h : c.val < 2048 then da W k t ⟨c.val, h⟩
  else if h : c.val - 2048 < 2048 then db W k t ⟨c.val - 2048, h⟩
  else dz W k t ⟨c.val - 2048 - 2048, by omega⟩

/-- A chunk's share of the gradients of the parameters. -/
def dwo (e : Fin 2048) (d : Fin 1024) : EReal := ∑ t, y W k t e * sz k t e * k.ct t d
def dsw (g : Fin 8) (t s : Fin 128) : EReal := ∑ c, dm W k t (col g c) * v W k s (col g c)
def dsb (g : Fin 8) (t : Fin 128) : EReal := ∑ c, dm W k t (col g c)
def dlg (j : Fin 2048) : EReal := ∑ t, dv W k t j * hat (v0 k t) j
def dlb (j : Fin 2048) : EReal := ∑ t, dv W k t j

end Cert.Sgu

end
-- ==== Proof.Block.lean ====
/- One block of 256 positions, as the kernel's body sees it: two chunks of 128 positions, and the parameters as they
   arrive. Each payload of the body is read at an index as the formula of `Proof/Spec.lean`. -/
module

public import proofs.«01_k».proof.Proof.Gen.KernelIdeal.Value
public import proofs.«01_k».proof.Proof.Spec
public import Idealize.ShloMosaic.Lib.Pointwise
public import Idealize.ShloMosaic.Lib.Pipeline.ReadBack
public import Idealize.ShloMosaic.Lib.Pipeline.ValueKit

@[expose] public section

set_option maxRecDepth 16384

noncomputable section

open Cert.KernelIdeal Cert.KernelIdeal.Gen Idealize.ShloMosaic Idealize.ShloMosaic.TcCoe Idealize.SL.Sem

namespace Cert.Sgu

/-- Row `ρ` of a block is position `tk ρ` of its chunk `ch ρ`; `brow` is the way back. -/
abbrev ch (ρ : Fin 256) : Fin 2 := ⟨ρ.val / 128, by omega⟩
abbrev tk (ρ : Fin 256) : Fin 128 := ⟨ρ.val % 128, by omega⟩
abbrev brow (h : Fin 2) (t : Fin 128) : Fin 256 := ⟨128 * h.val + t.val, by omega⟩

theorem brow_ch (ρ : Fin 256) : brow (ch ρ) (tk ρ) = ρ := Fin.ext (Nat.div_add_mod _ _)

/-- The parameters, and the two chunks, of a block. -/
def bparams (x4 : Vec Ideal S2048x1024 EltTy.bf16) (x5 x6 : Vec Ideal S1x2048 EltTy.f32)
    (x7 x8 : Vec Ideal S8x128x128 EltTy.f32) (x9 : Vec Ideal S128x8 EltTy.f32) : Params where
  wo e d := x4 (ix2 e d)
  lg j := x5 (ix2 0 j)
  lb j := x6 (ix2 0 j)
  sw g t s := x7 (ix3 g t s)
  swt g s t := x8 (ix3 g s t)
  sb g t := x9 (ix2 t g)

def bchunk (x0 : Vec Ideal S256x1024 EltTy.f32) (x1 x2 x3 : Vec Ideal S256x2048 EltTy.f32) (h : Fin 2) : Chunk where
  ct t d := x0 (ix2 (brow h t) d)
  a t j := x1 (ix2 (brow h t) j)
  b t j := x2 (ix2 (brow h t) j)
  z t j := x3 (ix2 (brow h t) j)

theorem named_rt : Named.named (F := Ideal) Cert.KernelIdeal.κ "inv_sqrt2" (φ := .f32) 0x3F3504F3#32 = rt :=
  IdealRules.named_const.ideal_named_scalar _ _ _ _ rfl
theorem named_pdf : Named.named (F := Ideal) Cert.KernelIdeal.κ "gelu_slope" (φ := .f32) 0x3ECC422A#32 = pdf :=
  IdealRules.named_const.ideal_named_scalar _ _ _ _ rfl

section
variable (x0 : Vec Ideal S256x1024 EltTy.f32) (x1 x2 x3 : Vec Ideal S256x2048 EltTy.f32)
  (x4 : Vec Ideal S2048x1024 EltTy.bf16) (x5 x6 : Vec Ideal S1x2048 EltTy.f32)
  (x7 x8 : Vec Ideal S8x128x128 EltTy.f32) (x9 : Vec Ideal S128x8 EltTy.f32)

theorem chunk_a (ρ : Fin 256) (j : Fin 2048) : (bchunk x0 x1 x2 x3 (ch ρ)).a (tk ρ) j = x1 (ix2 ρ j) := by simp only [bchunk, brow_ch]
theorem chunk_b (ρ : Fin 256) (j : Fin 2048) : (bchunk x0 x1 x2 x3 (ch ρ)).b (tk ρ) j = x2 (ix2 ρ j) := by simp only [bchunk, brow_ch]
theorem chunk_z (ρ : Fin 256) (j : Fin 2048) : (bchunk x0 x1 x2 x3 (ch ρ)).z (tk ρ) j = x3 (ix2 ρ j) := by simp only [bchunk, brow_ch]
theorem chunk_ct (ρ : Fin 256) (d : Fin 1024) : (bchunk x0 x1 x2 x3 (ch ρ)).ct (tk ρ) d = x0 (ix2 ρ d) := by simp only [bchunk, brow_ch]

theorem u_at (ρ : Fin 256) (j : Fin 2048) : k0_pay31 (F := Ideal) x1 (ix2 ρ j) = u (bchunk x0 x1 x2 x3 (ch ρ)) (tk ρ) j := by
  pointwise [k0_pay31, k0_pay25, k0_pay29]
  rw [named_rt, u, chunk_a]; rfl
theorem cent_at (ρ : Fin 256) (j : Fin 2048) : k0_pay32 (F := Ideal) x2 (ix2 ρ j) = cent (v0 (bchunk x0 x1 x2 x3 (ch ρ)) (tk ρ)) j := by
  pointwise [k0_pay32, k0_pay26, k0_pay30]
  simp only [named_rt, cent, mean, v0, chunk_b]; rfl
theorem var_at (ρ : Fin 256) : k0_pay33 (F := Ideal) x2 (ix2 ρ 0) = var (v0 (bchunk x0 x1 x2 x3 (ch ρ)) (tk ρ)) := by
  pointwise [k0_pay33]
  simp only [cent_at x0 x1 x2 x3]; rfl
theorem rstd_at (ρ : Fin 256) : k0_pay34 (F := Ideal) (k0_pay33 x2) (ix2 ρ 0) = rstd (v0 (bchunk x0 x1 x2 x3 (ch ρ)) (tk ρ)) := by
  pointwise [k0_pay34]
  rw [var_at x0 x1 x2 x3]; rfl
theorem hat_at (ρ : Fin 256) (j : Fin 2048) : k0_pay35 (F := Ideal) (k0_pay32 x2) (k0_pay33 x2) (ix2 ρ j) = hat (v0 (bchunk x0 x1 x2 x3 (ch ρ)) (tk ρ)) j := by
  pointwise [k0_pay35]
  rw [cent_at x0 x1 x2 x3, rstd_at x0 x1 x2 x3]; rfl
theorem v_at (ρ : Fin 256) (j : Fin 2048) : k0_pay36 (F := Ideal) (k0_pay27 x5) (k0_pay28 x6) (k0_pay32 x2) (k0_pay33 x2) (ix2 ρ j)
    = v (bparams x4 x5 x6 x7 x8 x9) (bchunk x0 x1 x2 x3 (ch ρ)) (tk ρ) j := by
  pointwise [k0_pay36, k0_pay27, k0_pay28]
  rw [hat_at x0 x1 x2 x3]; rfl

theorem sz_at (ρ : Fin 256) (j : Fin 2048) : k0_pay75 (F := Ideal) x3 (ix2 ρ j) = sz (bchunk x0 x1 x2 x3 (ch ρ)) (tk ρ) j := by
  pointwise [k0_pay75, k0_pay74, k0_pay73]
  rw [sz, chunk_z]
theorem dq_at (ρ : Fin 256) (j : Fin 2048) : k0_pay78 (F := Ideal) x0 x4 (ix2 ρ j) = dq (bparams x4 x5 x6 x7 x8 x9) (bchunk x0 x1 x2 x3 (ch ρ)) (tk ρ) j := by
  pointwise [k0_pay78, k0_pay76]
  simp only [dq, chunk_ct]; rfl
theorem dy_at (ρ : Fin 256) (j : Fin 2048) : k0_pay80 (F := Ideal) x3 x0 x4 (ix2 ρ j) = dy (bparams x4 x5 x6 x7 x8 x9) (bchunk x0 x1 x2 x3 (ch ρ)) (tk ρ) j := by
  pointwise [k0_pay80]
  rw [dq_at x0 x1 x2 x3 x4 x5 x6 x7 x8 x9, sz_at x0 x1 x2 x3]; rfl
theorem dm_at (ρ : Fin 256) (j : Fin 2048) : k0_pay82 (F := Ideal) (k0_pay31 x1) x3 x0 x4 (ix2 ρ j) = dm (bparams x4 x5 x6 x7 x8 x9) (bchunk x0 x1 x2 x3 (ch ρ)) (tk ρ) j := by
  pointwise [k0_pay82]
  rw [dy_at x0 x1 x2 x3 x4 x5 x6 x7 x8 x9, u_at x0 x1 x2 x3]; rfl
theorem slope_a (ρ : Fin 256) (j : Fin 2048) :
    k0_pay174 (F := Ideal) (k0_pay29 x1) (ix2 ρ j) + x1 (ix2 ρ j) * k0_pay172 (F := Ideal) (k0_pay25 x1) (ix2 ρ j)
      = geluSlope ((bchunk x0 x1 x2 x3 (ch ρ)).a (tk ρ) j) := by
  pointwise [k0_pay174, k0_pay29, k0_pay25, k0_pay172]
  rw [named_rt, named_pdf, chunk_a]; rfl

/-- The tile of group `g`, chunk `o / 128` of the causal mixing: row `t` of the masked weights against the rows of the chunk. -/
theorem mix_close (g : Fin 8) (o : ℕ) (ho : o = 0 ∨ o = 128) (t : Fin 128) (ρ : Fin 256) (j : Fin 2048) (A : Fin 128 → Fin 256)
    (hA : ∀ s, (A s).val = o + s.val) (hρ : ρ.val = o + t.val)
    (hj : j.val / 256 = g.val) :
    (∑ s, Scalar.select (IntOp.cmpi CmpIPredicate.sge (BitVec.ofNat 32 t.val) (BitVec.ofNat 32 s.val))
        ((x7 (ix3 g t s) : EReal) * (k0_pay36 (F := Ideal) (k0_pay27 x5) (k0_pay28 x6) (k0_pay32 x2) (k0_pay33 x2) (ix2 (A s) j) : EReal)) (0 : EReal))
      + (x9 (ix2 t g) : EReal) = mixed (bparams x4 x5 x6 x7 x8 x9) (bchunk x0 x1 x2 x3 (ch ρ)) (tk ρ) j := by
  obtain rfl : grp j = g := Fin.ext hj
  have h2 : tk ρ = t := Fin.ext (by show ρ.val % 128 = _; omega)
  rw [h2]
  refine congrArg (· + _) (Finset.sum_congr rfl fun s _ => ?_)
  have h3 : ch (A s) = ch ρ := Fin.ext (by show (A s).val / 128 = ρ.val / 128; rw [hA]; omega)
  have h4 : tk (A s) = s := Fin.ext (by show (A s).val % 128 = _; rw [hA]; omega)
  rw [v_at x0 x1 x2 x3 x4 x5 x6 x7 x8 x9, h3, h4, wt]
  have hb : IntOp.cmpi CmpIPredicate.sge (BitVec.ofNat 32 t.val) (BitVec.ofNat 32 s.val) = if s ≤ t then 1#1 else 0#1 := by
    clear * -; revert t s; decide +kernel
  rw [hb]
  by_cases hs : s ≤ t
  · rw [if_pos hs, if_pos hs]; rfl
  · rw [if_neg hs, if_neg hs, zero_mul]; rfl

/-- The tile of group `g`, chunk `o / 128` of the transposed mixing. -/
theorem dv_close (g : Fin 8) (o : ℕ) (ho : o = 0 ∨ o = 128) (s : Fin 128) (ρ : Fin 256) (j : Fin 2048) (A : Fin 128 → Fin 256)
    (hA : ∀ t, (A t).val = o + t.val) (hρ : ρ.val = o + s.val)
    (hj : j.val / 256 = g.val) :
    (∑ t, Scalar.select (IntOp.cmpi CmpIPredicate.sle (BitVec.ofNat 32 s.val) (BitVec.ofNat 32 t.val))
        ((x8 (ix3 g s t) : EReal) * (k0_pay82 (F := Ideal) (k0_pay31 x1) x3 x0 x4 (ix2 (A t) j) : EReal)) (0 : EReal))
      = dv (bparams x4 x5 x6 x7 x8 x9) (bchunk x0 x1 x2 x3 (ch ρ)) (tk ρ) j := by
  obtain rfl : grp j = g := Fin.ext hj
  have h2 : tk ρ = s := Fin.ext (by show ρ.val % 128 = _; omega)
  rw [h2]
  refine Finset.sum_congr rfl fun t _ => ?_
  have h3 : ch (A t) = ch ρ := Fin.ext (by show (A t).val / 128 = ρ.val / 128; rw [hA]; omega)
  have h4 : tk (A t) = t := Fin.ext (by show (A t).val % 128 = _; rw [hA]; omega)
  rw [dm_at x0 x1 x2 x3 x4 x5 x6 x7 x8 x9, h3, h4, wtt]
  have hb : IntOp.cmpi CmpIPredicate.sle (BitVec.ofNat 32 s.val) (BitVec.ofNat 32 t.val) = if s ≤ t then 1#1 else 0#1 := by
    clear * -; revert t s; decide +kernel
  rw [hb]
  by_cases hs : s ≤ t
  · rw [if_pos hs, if_pos hs]; rfl
  · rw [if_neg hs, if_neg hs, zero_mul]; rfl

end

end Cert.Sgu

end
-- ==== Proof.Tiles.lean ====
/- What the body keeps in its two scratch buffers of 256 × 2048: sixteen tiles each, one for every group and chunk. The
   mixing of the values, and the gradient that comes back through it. -/
module

public import proofs.«01_k».proof.Proof.Block

@[expose] public section

set_option maxRecDepth 16384

noncomputable section

open Cert.KernelIdeal Cert.KernelIdeal.Gen Idealize.ShloMosaic Idealize.ShloMosaic.TcCoe Idealize.SL.Sem

namespace Cert.Sgu

/-- The sixteen stores of the mixing, last first, over the normalised values `V`. -/
abbrev mixTiles (V : Vec Ideal S256x2048 EltTy.bf16) (x2 : Vec Ideal S256x2048 EltTy.f32) (x5 x6 : Vec Ideal S1x2048 EltTy.f32)
    (x7 : Vec Ideal S8x128x128 EltTy.f32) (x9 : Vec Ideal S128x8 EltTy.f32) : List (View.Piece (Elt Ideal) S256x2048 EltTy.f32) :=
   [⟨Rect.unit ![128, 1792] ![128, 256] inb_S256x2048_S128x256_128_1792, k0_pay71 V k0_pay37 (View.ld x7 (Rect.unit ![7, 0, 0] ![1, 128, 128] inb_S8x128x128_S1x128x128_7_0_0)) (View.ld x9 (Rect.unit ![0, 7] ![128, 1] inb_S128x8_S128x1_0_7))⟩,
    ⟨Rect.unit ![0, 1792] ![128, 256] inb_S256x2048_S128x256_0_1792, k0_pay70 V k0_pay37 (View.ld x7 (Rect.unit ![7, 0, 0] ![1, 128, 128] inb_S8x128x128_S1x128x128_7_0_0)) (View.ld x9 (Rect.unit ![0, 7] ![128, 1] inb_S128x8_S128x1_0_7))⟩,
    ⟨Rect.unit ![128, 1536] ![128, 256] inb_S256x2048_S128x256_128_1536, k0_pay67 V (k0_pay63 k0_pay37 (View.ld x7 (Rect.unit ![6, 0, 0] ![1, 128, 128] inb_S8x128x128_S1x128x128_6_0_0))) (k0_pay64 (View.ld x9 (Rect.unit ![0, 6] ![128, 1] inb_S128x8_S128x1_0_6)))⟩,
    ⟨Rect.unit ![0, 1536] ![128, 256] inb_S256x2048_S128x256_0_1536, k0_pay66 (k0_pay64 (View.ld x9 (Rect.unit ![0, 6] ![128, 1] inb_S128x8_S128x1_0_6))) (k0_pay65 V k0_pay37 (View.ld x7 (Rect.unit ![6, 0, 0] ![1, 128, 128] inb_S8x128x128_S1x128x128_6_0_0)))⟩,
    ⟨Rect.unit ![128, 1280] ![128, 256] inb_S256x2048_S128x256_128_1280, k0_pay62 V k0_pay37 (View.ld x7 (Rect.unit ![5, 0, 0] ![1, 128, 128] inb_S8x128x128_S1x128x128_5_0_0)) (View.ld x9 (Rect.unit ![0, 5] ![128, 1] inb_S128x8_S128x1_0_5))⟩,
    ⟨Rect.unit ![0, 1280] ![128, 256] inb_S256x2048_S128x256_0_1280, k0_pay61 V k0_pay37 (View.ld x7 (Rect.unit ![5, 0, 0] ![1, 128, 128] inb_S8x128x128_S1x128x128_5_0_0)) (View.ld x9 (Rect.unit ![0, 5] ![128, 1] inb_S128x8_S128x1_0_5))⟩,
    ⟨Rect.unit ![128, 1024] ![128, 256] inb_S256x2048_S128x256_128_1024, k0_pay58 (k0_pay54 k0_pay37 (View.ld x7 (Rect.unit ![4, 0, 0] ![1, 128, 128] inb_S8x128x128_S1x128x128_4_0_0))) (k0_pay55 (View.ld x9 (Rect.unit ![0, 4] ![128, 1] inb_S128x8_S128x1_0_4))) (k0_pay57 V) (constant S128x256 FTy.f32 0#32)⟩,
    ⟨Rect.unit ![0, 1024] ![128, 256] inb_S256x2048_S128x256_0_1024, k0_pay56 V k0_pay37 (View.ld x7 (Rect.unit ![4, 0, 0] ![1, 128, 128] inb_S8x128x128_S1x128x128_4_0_0)) (View.ld x9 (Rect.unit ![0, 4] ![128, 1] inb_S128x8_S128x1_0_4))⟩,
    ⟨Rect.unit ![128, 768] ![128, 256] inb_S256x2048_S128x256_128_768, k0_pay53 V k0_pay37 (View.ld x7 (Rect.unit ![3, 0, 0] ![1, 128, 128] inb_S8x128x128_S1x128x128_3_0_0)) (View.ld x9 (Rect.unit ![0, 3] ![128, 1] inb_S128x8_S128x1_0_3))⟩,
    ⟨Rect.unit ![0, 768] ![128, 256] inb_S256x2048_S128x256_0_768, k0_pay52 V k0_pay37 (View.ld x7 (Rect.unit ![3, 0, 0] ![1, 128, 128] inb_S8x128x128_S1x128x128_3_0_0)) (View.ld x9 (Rect.unit ![0, 3] ![128, 1] inb_S128x8_S128x1_0_3))⟩,
    ⟨Rect.unit ![128, 512] ![128, 256] inb_S256x2048_S128x256_128_512, k0_pay49 V k0_pay37 (View.ld x7 (Rect.unit ![2, 0, 0] ![1, 128, 128] inb_S8x128x128_S1x128x128_2_0_0)) (View.ld x9 (Rect.unit ![0, 2] ![128, 1] inb_S128x8_S128x1_0_2))⟩,
    ⟨Rect.unit ![0, 512] ![128, 256] inb_S256x2048_S128x256_0_512, k0_pay48 V k0_pay37 (View.ld x7 (Rect.unit ![2, 0, 0] ![1, 128, 128] inb_S8x128x128_S1x128x128_2_0_0)) (View.ld x9 (Rect.unit ![0, 2] ![128, 1] inb_S128x8_S128x1_0_2))⟩,
    ⟨Rect.unit ![128, 256] ![128, 256] inb_S256x2048_S128x256_128_256, k0_pay45 V (k0_pay42 (View.ld x7 (Rect.unit ![1, 0, 0] ![1, 128, 128] inb_S8x128x128_S1x128x128_1_0_0))) (View.ld x9 (Rect.unit ![0, 1] ![128, 1] inb_S128x8_S128x1_0_1))⟩,
    ⟨Rect.unit ![0, 256] ![128, 256] inb_S256x2048_S128x256_0_256, k0_pay44 V (k0_pay42 (View.ld x7 (Rect.unit ![1, 0, 0] ![1, 128, 128] inb_S8x128x128_S1x128x128_1_0_0))) (View.ld x9 (Rect.unit ![0, 1] ![128, 1] inb_S128x8_S128x1_0_1))⟩,
    ⟨Rect.unit ![128, 0] ![128, 256] inb_S256x2048_S128x256_128_0, k0_pay41 (k0_pay27 x5) (k0_pay28 x6) (k0_pay32 x2) (k0_pay33 x2) (View.ld x7 (Rect.unit ![0, 0, 0] ![1, 128, 128] inb_S8x128x128_S1x128x128_0_0_0)) (View.ld x9 (Rect.unit ![0, 0] ![128, 1] inb_S128x8_S128x1_0_0))⟩,
    ⟨Rect.unit ![0, 0] ![128, 256] inb_S256x2048_S128x256_0_0, k0_pay40 (k0_pay27 x5) (k0_pay28 x6) (k0_pay32 x2) (k0_pay33 x2) (View.ld x7 (Rect.unit ![0, 0, 0] ![1, 128, 128] inb_S8x128x128_S1x128x128_0_0_0)) (View.ld x9 (Rect.unit ![0, 0] ![128, 1] inb_S128x8_S128x1_0_0))⟩]

/-- The sixteen stores of the gradient, last first, over the gradient `D` of the mixed values. -/
abbrev dvTiles (D : Vec Ideal S256x2048 EltTy.bf16) (x8 : Vec Ideal S8x128x128 EltTy.f32) : List (View.Piece (Elt Ideal) S256x2048 EltTy.f32) :=
   [⟨Rect.unit ![128, 1792] ![128, 256] inb_S256x2048_S128x256_128_1792, k0_pay166 D (k0_pay158 k0_pay84 (View.ld x8 (Rect.unit ![7, 0, 0] ![1, 128, 128] inb_S8x128x128_S1x128x128_7_0_0)))⟩,
    ⟨Rect.unit ![0, 1792] ![128, 256] inb_S256x2048_S128x256_0_1792, k0_pay160 D k0_pay84 (View.ld x8 (Rect.unit ![7, 0, 0] ![1, 128, 128] inb_S8x128x128_S1x128x128_7_0_0))⟩,
    ⟨Rect.unit ![128, 1536] ![128, 256] inb_S256x2048_S128x256_128_1536, k0_pay154 D (k0_pay148 k0_pay84 (View.ld x8 (Rect.unit ![6, 0, 0] ![1, 128, 128] inb_S8x128x128_S1x128x128_6_0_0)))⟩,
    ⟨Rect.unit ![0, 1536] ![128, 256] inb_S256x2048_S128x256_0_1536, k0_pay150 (k0_pay148 k0_pay84 (View.ld x8 (Rect.unit ![6, 0, 0] ![1, 128, 128] inb_S8x128x128_S1x128x128_6_0_0))) (k0_pay149 D)⟩,
    ⟨Rect.unit ![128, 1280] ![128, 256] inb_S256x2048_S128x256_128_1280, k0_pay145 D (k0_pay138 k0_pay84 (View.ld x8 (Rect.unit ![5, 0, 0] ![1, 128, 128] inb_S8x128x128_S1x128x128_5_0_0)))⟩,
    ⟨Rect.unit ![0, 1280] ![128, 256] inb_S256x2048_S128x256_0_1280, k0_pay140 D k0_pay84 (View.ld x8 (Rect.unit ![5, 0, 0] ![1, 128, 128] inb_S8x128x128_S1x128x128_5_0_0))⟩,
    ⟨Rect.unit ![128, 1024] ![128, 256] inb_S256x2048_S128x256_128_1024, k0_pay134 D (k0_pay127 k0_pay84 (View.ld x8 (Rect.unit ![4, 0, 0] ![1, 128, 128] inb_S8x128x128_S1x128x128_4_0_0)))⟩,
    ⟨Rect.unit ![0, 1024] ![128, 256] inb_S256x2048_S128x256_0_1024, k0_pay130 D (k0_pay127 k0_pay84 (View.ld x8 (Rect.unit ![4, 0, 0] ![1, 128, 128] inb_S8x128x128_S1x128x128_4_0_0)))⟩,
    ⟨Rect.unit ![128, 768] ![128, 256] inb_S256x2048_S128x256_128_768, k0_pay124 D (k0_pay118 k0_pay84 (View.ld x8 (Rect.unit ![3, 0, 0] ![1, 128, 128] inb_S8x128x128_S1x128x128_3_0_0)))⟩,
    ⟨Rect.unit ![0, 768] ![128, 256] inb_S256x2048_S128x256_0_768, k0_pay120 D k0_pay84 (View.ld x8 (Rect.unit ![3, 0, 0] ![1, 128, 128] inb_S8x128x128_S1x128x128_3_0_0))⟩,
    ⟨Rect.unit ![128, 512] ![128, 256] inb_S256x2048_S128x256_128_512, k0_pay113 D k0_pay84 (k0_pay106 (View.ld x8 (Rect.unit ![2, 0, 0] ![1, 128, 128] inb_S8x128x128_S1x128x128_2_0_0))) (FloatOps.ofBits FTy.f32 0#32)⟩,
    ⟨Rect.unit ![0, 512] ![128, 256] inb_S256x2048_S128x256_0_512, k0_pay109 D k0_pay84 (k0_pay106 (View.ld x8 (Rect.unit ![2, 0, 0] ![1, 128, 128] inb_S8x128x128_S1x128x128_2_0_0))) (FloatOps.ofBits FTy.f32 0#32)⟩,
    ⟨Rect.unit ![128, 256] ![128, 256] inb_S256x2048_S128x256_128_256, k0_pay103 D (k0_pay97 k0_pay84 (View.ld x8 (Rect.unit ![1, 0, 0] ![1, 128, 128] inb_S8x128x128_S1x128x128_1_0_0)))⟩,
    ⟨Rect.unit ![0, 256] ![128, 256] inb_S256x2048_S128x256_0_256, k0_pay99 D k0_pay84 (View.ld x8 (Rect.unit ![1, 0, 0] ![1, 128, 128] inb_S8x128x128_S1x128x128_1_0_0))⟩,
    ⟨Rect.unit ![128, 0] ![128, 256] inb_S256x2048_S128x256_128_0, k0_pay92 D k0_pay84 (View.ld x8 (Rect.unit ![0, 0, 0] ![1, 128, 128] inb_S8x128x128_S1x128x128_0_0_0))⟩,
    ⟨Rect.unit ![0, 0] ![128, 256] inb_S256x2048_S128x256_0_0, k0_pay88 D k0_pay84 (View.ld x8 (Rect.unit ![0, 0, 0] ![1, 128, 128] inb_S8x128x128_S1x128x128_0_0_0))⟩]

/-- A buffer read back whole is what its stores left. -/
theorem read_tiles {κ : Kind} {sp : Space} (b : View sig κ sp S256x2048 EltTy.f32) (L : List (View.Piece (Elt Ideal) S256x2048 EltTy.f32)) (G : Vec Ideal S256x2048 EltTy.f32)
    (h : View.canon L = G) :
    b.readCov L (Rect.unit ![0, 0] ![256, 2048] inb_S256x2048_S256x2048_0_0).toLoadRect = G := by
  rw [View.readCov_eq_canon', h]
  funext ix
  refine View.ld_unit_apply_of G _ _ _ ix ix fun a => ?_
  fin_cases a <;> exact (Nat.zero_add _).symm

section
variable (x0 : Vec Ideal S256x1024 EltTy.f32) (x1 x2 x3 : Vec Ideal S256x2048 EltTy.f32)
  (x4 : Vec Ideal S2048x1024 EltTy.bf16) (x5 x6 : Vec Ideal S1x2048 EltTy.f32)
  (x7 x8 : Vec Ideal S8x128x128 EltTy.f32) (x9 : Vec Ideal S128x8 EltTy.f32)

/-- The mixed values, and the gradient through the mixing, of a block. -/
def mixBlock : Vec Ideal S256x2048 EltTy.f32 := fun ix =>
  mixed (bparams x4 x5 x6 x7 x8 x9) (bchunk x0 x1 x2 x3 (ch (ix 0))) (tk (ix 0)) (ix 1)
def dvBlock : Vec Ideal S256x2048 EltTy.f32 := fun ix =>
  dv (bparams x4 x5 x6 x7 x8 x9) (bchunk x0 x1 x2 x3 (ch (ix 0))) (tk (ix 0)) (ix 1)

set_option maxHeartbeats 800000 in
theorem mix_canon : View.canon (mixTiles (k0_pay36 (k0_pay27 x5) (k0_pay28 x6) (k0_pay32 x2) (k0_pay33 x2)) x2 x5 x6 x7 x9)
    = mixBlock x0 x1 x2 x3 x4 x5 x6 x7 x8 x9 := by
  funext y
  rw [mixTiles]
  canon_tiles x h
  all_goals
    obtain ⟨ρ, j, rfl⟩ : ∃ ρ j, y = ix2 ρ j := ⟨y 0, y 1, eq_ix2 y⟩
    obtain ⟨t, c, rfl⟩ : ∃ t c, x = ix2 t c := ⟨x 0, x 1, eq_ix2 x⟩
    obtain ⟨o, ho⟩ : ∃ o, o = ρ.val - t.val := ⟨_, rfl⟩
    simp only [ix2_0, ix2_1] at h0 h1
    have hc := c.isLt
    clear x0_lt x1_lt
    show _ = mixed (bparams x4 x5 x6 x7 x8 x9) (bchunk x0 x1 x2 x3 (ch ρ)) (tk ρ) j
    pointwise [k0_pay71, k0_pay70, k0_pay67, k0_pay66, k0_pay65, k0_pay62, k0_pay61, k0_pay58, k0_pay57, k0_pay56, k0_pay53, k0_pay52,
      k0_pay49, k0_pay48, k0_pay45, k0_pay44, k0_pay41, k0_pay40, k0_pay69, k0_pay68, k0_pay64, k0_pay63, k0_pay60, k0_pay59, k0_pay55,
      k0_pay54, k0_pay51, k0_pay50, k0_pay47, k0_pay46, k0_pay43, k0_pay42, k0_pay39, k0_pay38, k0_pay37]
    simp only [← h1, Fin.eta]
    refine mix_close x0 x1 x2 x3 x4 x5 x6 x7 x8 x9 _ o ?_ t ρ j _ (fun s => ?_) ?_ ?_ <;> (try dsimp only) <;> omega

set_option maxHeartbeats 800000 in
theorem dv_canon : View.canon (dvTiles (k0_pay82 (k0_pay31 x1) x3 x0 x4) x8) = dvBlock x0 x1 x2 x3 x4 x5 x6 x7 x8 x9 := by
  funext y
  rw [dvTiles]
  canon_tiles x h
  all_goals
    obtain ⟨ρ, j, rfl⟩ : ∃ ρ j, y = ix2 ρ j := ⟨y 0, y 1, eq_ix2 y⟩
    obtain ⟨s, c, rfl⟩ : ∃ s c, x = ix2 s c := ⟨x 0, x 1, eq_ix2 x⟩
    obtain ⟨o, ho⟩ : ∃ o, o = ρ.val - s.val := ⟨_, rfl⟩
    simp only [ix2_0, ix2_1] at h0 h1
    have hc := c.isLt
    clear x0_lt x1_lt
    show _ = dv (bparams x4 x5 x6 x7 x8 x9) (bchunk x0 x1 x2 x3 (ch ρ)) (tk ρ) j
    pointwise [k0_pay166, k0_pay165, k0_pay160, k0_pay159, k0_pay158, k0_pay154, k0_pay153, k0_pay150, k0_pay149, k0_pay148, k0_pay145, k0_pay144,
      k0_pay140, k0_pay139, k0_pay138, k0_pay134, k0_pay133, k0_pay130, k0_pay129, k0_pay128, k0_pay127, k0_pay124, k0_pay123, k0_pay120, k0_pay119,
      k0_pay118, k0_pay113, k0_pay112, k0_pay109, k0_pay108, k0_pay107, k0_pay106, k0_pay103, k0_pay102, k0_pay99, k0_pay98, k0_pay97,
      k0_pay92, k0_pay91, k0_pay88, k0_pay87, k0_pay86, k0_pay84]
    simp only [← h1, Fin.eta]
    refine dv_close x0 x1 x2 x3 x4 x5 x6 x7 x8 x9 _ o ?_ s ρ j _ (fun t => ?_) ?_ ?_ <;> (try dsimp only) <;> omega

end
end Cert.Sgu

end
-- ==== Proof.Grads.lean ====
/- The gradients one block leaves: the three gradients of the projected input, and the block's shares of the gradients of
   the parameters, each read off the body's payloads. -/
module

public import proofs.«01_k».proof.Proof.Tiles

@[expose] public section

set_option maxRecDepth 16384

noncomputable section

open Cert.KernelIdeal Cert.KernelIdeal.Gen Idealize.ShloMosaic Idealize.ShloMosaic.TcCoe Idealize.SL.Sem

namespace Cert.Sgu

/-- A store over the same rectangle hides the one before it, whatever came earlier. -/
theorem canon_shadow {S : Shape} {e : EltTy} {r : Rect S} {w w' : r.shape.Idx → Elt Ideal e} {L L' : List (View.Piece (Elt Ideal) S e)}
    (h : View.canon L = View.canon L') :
    View.canon (⟨r, w⟩ :: ⟨r, w'⟩ :: L) = View.canon (⟨r, w⟩ :: L') := by
  funext y
  by_cases hy : y ∈ r.set
  · obtain ⟨x, rfl⟩ : ∃ x, r.emb x = y := r.exists_idx_of_mem hy
    rw [View.canon_cons_emb, View.canon_cons_emb]
  · rw [View.canon_cons_of_not_mem _ _ hy, View.canon_cons_of_not_mem _ _ hy, View.canon_cons_of_not_mem _ _ hy, h]

/-- Eight buffers, each stored twice. -/
theorem canon_shadow8 {S : Shape} {e : EltTy} {r1 r2 r3 r4 r5 r6 r7 r8 : Rect S} {w1 v1 : r1.shape.Idx → Elt Ideal e}
    {w2 v2 : r2.shape.Idx → Elt Ideal e} {w3 v3 : r3.shape.Idx → Elt Ideal e} {w4 v4 : r4.shape.Idx → Elt Ideal e}
    {w5 v5 : r5.shape.Idx → Elt Ideal e} {w6 v6 : r6.shape.Idx → Elt Ideal e} {w7 v7 : r7.shape.Idx → Elt Ideal e}
    {w8 v8 : r8.shape.Idx → Elt Ideal e} (L : List (View.Piece (Elt Ideal) S e)) :
    View.canon (⟨r1, w1⟩ :: ⟨r1, v1⟩ :: ⟨r2, w2⟩ :: ⟨r2, v2⟩ :: ⟨r3, w3⟩ :: ⟨r3, v3⟩ :: ⟨r4, w4⟩ :: ⟨r4, v4⟩ :: ⟨r5, w5⟩ :: ⟨r5, v5⟩ ::
        ⟨r6, w6⟩ :: ⟨r6, v6⟩ :: ⟨r7, w7⟩ :: ⟨r7, v7⟩ :: ⟨r8, w8⟩ :: ⟨r8, v8⟩ :: L)
      = View.canon (⟨r1, w1⟩ :: ⟨r2, w2⟩ :: ⟨r3, w3⟩ :: ⟨r4, w4⟩ :: ⟨r5, w5⟩ :: ⟨r6, w6⟩ :: ⟨r7, w7⟩ :: ⟨r8, w8⟩ :: L) :=
  canon_shadow (canon_shadow (canon_shadow (canon_shadow (canon_shadow (canon_shadow (canon_shadow (canon_shadow rfl)))))))

/-- Stores that cover the buffer hide whatever came before them. -/
theorem canon_tail {S : Shape} {e : EltTy} (L' : List (View.Piece (Elt Ideal) S e)) :
    ∀ (L : List (View.Piece (Elt Ideal) S e)) (y : S.Idx) (_ : ∃ q ∈ L, y ∈ q.1.set), View.canon (L ++ L') y = View.canon L y
  | [], _, h => by obtain ⟨_, hq, _⟩ := h; simp at hq
  | p :: L, y, h => by
    by_cases hm : y ∈ p.1.set
    · obtain ⟨x, rfl⟩ : ∃ x, p.1.emb x = y := p.1.exists_idx_of_mem hm
      rw [List.cons_append, View.canon_cons_emb, View.canon_cons_emb]
    · rw [List.cons_append, View.canon_cons_of_not_mem _ _ hm, View.canon_cons_of_not_mem _ _ hm]
      obtain ⟨q, hq, hy⟩ := h
      rcases List.mem_cons.mp hq with rfl | hq'
      · exact absurd hy hm
      · exact canon_tail L' L y ⟨q, hq', hy⟩

/-- Eight tiles hide whatever came before them. -/
theorem canon_tail8 {S : Shape} {e : EltTy} {r1 r2 r3 r4 r5 r6 r7 r8 : Rect S} {w1 : r1.shape.Idx → Elt Ideal e}
    {w2 : r2.shape.Idx → Elt Ideal e} {w3 : r3.shape.Idx → Elt Ideal e} {w4 : r4.shape.Idx → Elt Ideal e}
    {w5 : r5.shape.Idx → Elt Ideal e} {w6 : r6.shape.Idx → Elt Ideal e} {w7 : r7.shape.Idx → Elt Ideal e}
    {w8 : r8.shape.Idx → Elt Ideal e} (L : List (View.Piece (Elt Ideal) S e))
    (h : View.Piece.tiled [(⟨r1, w1⟩ : View.Piece (Elt Ideal) S e), ⟨r2, w2⟩, ⟨r3, w3⟩, ⟨r4, w4⟩, ⟨r5, w5⟩, ⟨r6, w6⟩, ⟨r7, w7⟩, ⟨r8, w8⟩] r1.size = true) :
    View.canon (⟨r1, w1⟩ :: ⟨r2, w2⟩ :: ⟨r3, w3⟩ :: ⟨r4, w4⟩ :: ⟨r5, w5⟩ :: ⟨r6, w6⟩ :: ⟨r7, w7⟩ :: ⟨r8, w8⟩ :: L)
      = View.canon [⟨r1, w1⟩, ⟨r2, w2⟩, ⟨r3, w3⟩, ⟨r4, w4⟩, ⟨r5, w5⟩, ⟨r6, w6⟩, ⟨r7, w7⟩, ⟨r8, w8⟩] :=
  funext fun y => canon_tail L _ y (View.cover_of_tiled_head _ _ _ h y)

/-- A sum over the rows of a block is a sum over its two chunks. -/
theorem sum_rows (f : Fin 2 → Fin 128 → EReal) : ∑ ρ : Fin 256, f (ch ρ) (tk ρ) = ∑ t, f 0 t + ∑ t, f 1 t := by
  rw [Fin.sum_univ_tiles 2 128 rfl, Fin.sum_univ_two]
  refine congrArg₂ _ (Finset.sum_congr rfl fun t _ => ?_) (Finset.sum_congr rfl fun t _ => ?_) <;>
    exact congrArg₂ f (Fin.ext (by simp; try omega)) (Fin.ext (by simp; try omega))

section
variable (x0 : Vec Ideal S256x1024 EltTy.f32) (x1 x2 x3 : Vec Ideal S256x2048 EltTy.f32)
  (x4 : Vec Ideal S2048x1024 EltTy.bf16) (x5 x6 : Vec Ideal S1x2048 EltTy.f32)
  (x7 x8 : Vec Ideal S8x128x128 EltTy.f32) (x9 : Vec Ideal S128x8 EltTy.f32)

theorem y_at (ρ : Fin 256) (j : Fin 2048) : k0_pay72 (F := Ideal) (k0_pay31 x1) (mixBlock x0 x1 x2 x3 x4 x5 x6 x7 x8 x9) (ix2 ρ j)
    = y (bparams x4 x5 x6 x7 x8 x9) (bchunk x0 x1 x2 x3 (ch ρ)) (tk ρ) j := by
  pointwise [k0_pay72]
  rw [u_at x0 x1 x2 x3]; rfl
theorem dz_at (ρ : Fin 256) (j : Fin 2048) :
    k0_pay79 (F := Ideal) (k0_pay72 (k0_pay31 x1) (mixBlock x0 x1 x2 x3 x4 x5 x6 x7 x8 x9)) x3 x0 x4 (ix2 ρ j)
    = dz (bparams x4 x5 x6 x7 x8 x9) (bchunk x0 x1 x2 x3 (ch ρ)) (tk ρ) j := by
  pointwise [k0_pay79, k0_pay74, k0_pay73]
  rw [dq_at x0 x1 x2 x3 x4 x5 x6 x7 x8 x9, y_at x0 x1 x2 x3 x4 x5 x6 x7 x8 x9, dz, siluSlope, chunk_z]
theorem da_at (ρ : Fin 256) (j : Fin 2048) :
    k0_pay1 (F := Ideal) (k0_pay25 x1) (k0_pay81 (mixBlock x0 x1 x2 x3 x4 x5 x6 x7 x8 x9) x3 x0 x4) (k0_pay172 (k0_pay25 x1))
      (k0_pay174 (k0_pay29 x1)) (ix2 ρ j)
    = da (bparams x4 x5 x6 x7 x8 x9) (bchunk x0 x1 x2 x3 (ch ρ)) (tk ρ) j := by
  have h : k0_pay25 (F := Ideal) x1 (ix2 ρ j) = x1 (ix2 ρ j) := by pointwise [k0_pay25]
  pointwise [k0_pay1, k0_pay81]
  rw [dy_at x0 x1 x2 x3 x4 x5 x6 x7 x8 x9, h, slope_a x0 x1 x2 x3]; rfl
theorem dhat_at (ρ : Fin 256) (j : Fin 2048) :
    k0_pay171 (F := Ideal) (k0_pay27 x5) (k0_pay34 (k0_pay33 x2)) (k0_pay35 (k0_pay32 x2) (k0_pay33 x2))
      (dvBlock x0 x1 x2 x3 x4 x5 x6 x7 x8 x9) (ix2 ρ j)
    = dv0 (bparams x4 x5 x6 x7 x8 x9) (bchunk x0 x1 x2 x3 (ch ρ)) (tk ρ) j := by
  pointwise [k0_pay171, k0_pay27]
  simp only [hat_at x0 x1 x2 x3, rstd_at x0 x1 x2 x3]
  rfl
theorem db_at (ρ : Fin 256) (j : Fin 2048) :
    k0_pay2 (F := Ideal) (k0_pay26 x2) (k0_pay30 x2) (k0_pay171 (k0_pay27 x5) (k0_pay34 (k0_pay33 x2)) (k0_pay35 (k0_pay32 x2) (k0_pay33 x2))
      (dvBlock x0 x1 x2 x3 x4 x5 x6 x7 x8 x9)) (k0_pay173 (k0_pay26 x2)) (ix2 ρ j)
    = db (bparams x4 x5 x6 x7 x8 x9) (bchunk x0 x1 x2 x3 (ch ρ)) (tk ρ) j := by
  pointwise [k0_pay2, k0_pay30, k0_pay26, k0_pay173]
  rw [dhat_at x0 x1 x2 x3 x4 x5 x6 x7 x8 x9, named_rt, named_pdf, db, chunk_b]; rfl

/-- What the block adds to the gradient of the output projection, and to the gradients of the normalisation. -/
theorem dwo_at (P : Vec Ideal S2048x1024 EltTy.f32) (e : Fin 2048) (d : Fin 1024) :
    k0_pay77 (F := Ideal) (k0_pay72 (k0_pay31 x1) (mixBlock x0 x1 x2 x3 x4 x5 x6 x7 x8 x9)) x3 x0 P (ix2 e d)
    = P (ix2 e d) + (dwo (bparams x4 x5 x6 x7 x8 x9) (bchunk x0 x1 x2 x3 0) e d + dwo (bparams x4 x5 x6 x7 x8 x9) (bchunk x0 x1 x2 x3 1) e d) := by
  pointwise [k0_pay77, k0_pay76]
  simp only [y_at x0 x1 x2 x3 x4 x5 x6 x7 x8 x9, sz_at x0 x1 x2 x3, ← chunk_ct x0 x1 x2 x3]
  exact congrArg (_ + ·) (sum_rows fun h t => y (bparams x4 x5 x6 x7 x8 x9) (bchunk x0 x1 x2 x3 h) t e * sz (bchunk x0 x1 x2 x3 h) t e * (bchunk x0 x1 x2 x3 h).ct t d)
theorem dlg_at (P : Vec Ideal S1x2048 EltTy.f32) (j : Fin 2048) :
    k0_pay169 (F := Ideal) (k0_pay35 (k0_pay32 x2) (k0_pay33 x2)) (dvBlock x0 x1 x2 x3 x4 x5 x6 x7 x8 x9) P (ix2 0 j)
    = P (ix2 0 j) + (dlg (bparams x4 x5 x6 x7 x8 x9) (bchunk x0 x1 x2 x3 0) j + dlg (bparams x4 x5 x6 x7 x8 x9) (bchunk x0 x1 x2 x3 1) j) := by
  pointwise [k0_pay169]
  simp only [hat_at x0 x1 x2 x3]
  exact congrArg (_ + ·) (sum_rows fun h t => dv (bparams x4 x5 x6 x7 x8 x9) (bchunk x0 x1 x2 x3 h) t j * hat (v0 (bchunk x0 x1 x2 x3 h) t) j)
theorem dlb_at (P : Vec Ideal S1x2048 EltTy.f32) (j : Fin 2048) :
    k0_pay170 (F := Ideal) (dvBlock x0 x1 x2 x3 x4 x5 x6 x7 x8 x9) P (ix2 0 j)
    = P (ix2 0 j) + (dlb (bparams x4 x5 x6 x7 x8 x9) (bchunk x0 x1 x2 x3 0) j + dlb (bparams x4 x5 x6 x7 x8 x9) (bchunk x0 x1 x2 x3 1) j) := by
  pointwise [k0_pay170]
  exact congrArg (_ + ·) (sum_rows fun h t => dv (bparams x4 x5 x6 x7 x8 x9) (bchunk x0 x1 x2 x3 h) t j)

/-- One chunk's share of the gradient of the mixing weights, and of the mixing bias, for one group. -/
theorem dsw_part (g : Fin 8) (h : Fin 2) (t s : Fin 128) (A A' : Fin 256) (B : Fin 256 → Fin 2048)
    (hA : A.val = 128 * h.val + t.val) (hA' : A'.val = 128 * h.val + s.val) (hB : ∀ c, (B c).val = 256 * g.val + c.val) :
    ∑ c, (k0_pay82 (F := Ideal) (k0_pay31 x1) x3 x0 x4 (ix2 A (B c)) : EReal)
        * (k0_pay36 (F := Ideal) (k0_pay27 x5) (k0_pay28 x6) (k0_pay32 x2) (k0_pay33 x2) (ix2 A' (B c)) : EReal)
      = dsw (bparams x4 x5 x6 x7 x8 x9) (bchunk x0 x1 x2 x3 h) g t s := by
  obtain rfl : A = brow h t := Fin.ext hA
  obtain rfl : A' = brow h s := Fin.ext hA'
  obtain rfl : B = fun c => col g c := funext fun c => Fin.ext ((hB c).trans (by show _ = g.val * 256 + _; omega))
  have hr : ∀ r : Fin 128, ch (brow h r) = h ∧ tk (brow h r) = r := fun r =>
    ⟨Fin.ext (by show (128 * h.val + r.val) / 128 = _; omega), Fin.ext (by show (128 * h.val + r.val) % 128 = _; omega)⟩
  simp only [dm_at x0 x1 x2 x3 x4 x5 x6 x7 x8 x9, v_at x0 x1 x2 x3 x4 x5 x6 x7 x8 x9, hr]
  rfl
theorem dsb_part (g : Fin 8) (h : Fin 2) (t : Fin 128) (A : Fin 256) (B : Fin 256 → Fin 2048)
    (hA : A.val = 128 * h.val + t.val) (hB : ∀ c, (B c).val = 256 * g.val + c.val) :
    ∑ c, (k0_pay82 (F := Ideal) (k0_pay31 x1) x3 x0 x4 (ix2 A (B c)) : EReal) = dsb (bparams x4 x5 x6 x7 x8 x9) (bchunk x0 x1 x2 x3 h) g t := by
  obtain rfl : A = brow h t := Fin.ext hA
  obtain rfl : B = fun c => col g c := funext fun c => Fin.ext ((hB c).trans (by show _ = g.val * 256 + _; omega))
  have hr : ∀ r : Fin 128, ch (brow h r) = h ∧ tk (brow h r) = r := fun r =>
    ⟨Fin.ext (by show (128 * h.val + r.val) / 128 = _; omega), Fin.ext (by show (128 * h.val + r.val) % 128 = _; omega)⟩
  simp only [dm_at x0 x1 x2 x3 x4 x5 x6 x7 x8 x9, hr]
  rfl

end

end Cert.Sgu

end
-- ==== Proof.Points.lean ====
/- What the body leaves after each point of the grid, component by component: the point's block of the gradient of the
   projected input, and the running sums of the gradients of the parameters. -/
module

public import proofs.«01_k».proof.Proof.Grads

@[expose] public section

set_option maxRecDepth 16384

noncomputable section

open Cert.KernelIdeal Cert.KernelIdeal.Gen Idealize.ShloMosaic Idealize.ShloMosaic.TcCoe Idealize.SL.Sem

namespace Cert.Sgu

variable (m : (ℓ : Loc nD τ sig) → Buf (Elt Ideal) ℓ)

/-- The parameters and the chunks that point `t` reads. -/
abbrev PW (c : Dev nD) (t : Fin cfg0.N) : Params :=
  bparams (iblk m c 4 t) (iblk m c 5 t) (iblk m c 6 t) (iblk m c 7 t) (iblk m c 8 t) (iblk m c 9 t)
abbrev PK (c : Dev nD) (t : Fin cfg0.N) (h : Fin 2) : Chunk :=
  bchunk (iblk m c 0 t) (iblk m c 1 t) (iblk m c 2 t) (iblk m c 3 t) h

/-- The three pieces of a block of the gradient of the projected input. -/
theorem proj_pieces (x0 : Vec Ideal S256x1024 EltTy.f32) (x1 x2 x3 : Vec Ideal S256x2048 EltTy.f32)
    (x4 : Vec Ideal S2048x1024 EltTy.bf16) (x5 x6 : Vec Ideal S1x2048 EltTy.f32)
    (x7 x8 : Vec Ideal S8x128x128 EltTy.f32) (x9 : Vec Ideal S128x8 EltTy.f32) (ρ : Fin 256) (k : Fin 6144) :
    View.canon ([⟨Rect.unit ![0, 2048] ![256, 2048] inb_S256x6144_S256x2048_0_2048,
        k0_pay2 (F := Ideal) (k0_pay26 x2) (k0_pay30 x2) (k0_pay171 (k0_pay27 x5) (k0_pay34 (k0_pay33 x2)) (k0_pay35 (k0_pay32 x2) (k0_pay33 x2))
          (dvBlock x0 x1 x2 x3 x4 x5 x6 x7 x8 x9)) (k0_pay173 (k0_pay26 x2))⟩,
      ⟨Rect.unit ![0, 0] ![256, 2048] inb_S256x6144_S256x2048_0_0,
        k0_pay1 (F := Ideal) (k0_pay25 x1) (k0_pay81 (mixBlock x0 x1 x2 x3 x4 x5 x6 x7 x8 x9) x3 x0 x4) (k0_pay172 (k0_pay25 x1))
          (k0_pay174 (k0_pay29 x1))⟩,
      ⟨Rect.unit ![0, 4096] ![256, 2048] inb_S256x6144_S256x2048_0_4096,
        k0_pay79 (F := Ideal) (k0_pay72 (k0_pay31 x1) (mixBlock x0 x1 x2 x3 x4 x5 x6 x7 x8 x9)) x3 x0 x4⟩] :
        List (View.Piece (Elt Ideal) S256x6144 EltTy.bf16)) (ix2 ρ k)
      = dproj (bparams x4 x5 x6 x7 x8 x9) (bchunk x0 x1 x2 x3 (ch ρ)) (tk ρ) k := by
  canon_tiles x h
  all_goals
    obtain ⟨r, j, rfl⟩ : ∃ r j, x = ix2 r j := ⟨x 0, x 1, eq_ix2 x⟩
    simp only [ix2_0, ix2_1] at h0 h1
    obtain rfl : r = ρ := Fin.ext h0.symm
    have hj := j.isLt
    clear x0_lt x1_lt
    rw [dproj]
  · rw [db_at x0 x1 x2 x3 x4 x5 x6 x7 x8 x9, dif_neg (by omega), dif_pos (by omega)]
    exact congrArg _ (Fin.ext (by dsimp only; omega))
  · rw [da_at x0 x1 x2 x3 x4 x5 x6 x7 x8 x9, dif_pos (by omega)]
    exact congrArg _ (Fin.ext (by dsimp only; omega))
  · rw [dz_at x0 x1 x2 x3 x4 x5 x6 x7 x8 x9, dif_neg (by omega), dif_neg (by omega)]
    exact congrArg _ (Fin.ext (by dsimp only; omega))

/-- The two scratch buffers read back at point `t`. -/
theorem mix_read (c : Dev nD) (t : Fin cfg0.N) :
    (View.whole cc0_scratch0).readCov (mixTiles (k0_pay36 (k0_pay27 (iblk m c 5 t)) (k0_pay28 (iblk m c 6 t)) (k0_pay32 (iblk m c 2 t)) (k0_pay33 (iblk m c 2 t)))
        (iblk m c 2 t) (iblk m c 5 t) (iblk m c 6 t) (iblk m c 7 t) (iblk m c 9 t))
      (Rect.unit ![0, 0] ![256, 2048] inb_S256x2048_S256x2048_0_0).toLoadRect
      = mixBlock (iblk m c 0 t) (iblk m c 1 t) (iblk m c 2 t) (iblk m c 3 t) (iblk m c 4 t) (iblk m c 5 t) (iblk m c 6 t) (iblk m c 7 t) (iblk m c 8 t) (iblk m c 9 t) :=
  read_tiles _ _ _ (mix_canon _ _ _ _ _ _ _ _ _ _)
theorem dv_read (c : Dev nD) (t : Fin cfg0.N) :
    (View.whole cc0_scratch1).readCov (dvTiles (k0_pay82 (k0_pay31 (iblk m c 1 t)) (iblk m c 3 t) (iblk m c 0 t) (iblk m c 4 t)) (iblk m c 8 t))
      (Rect.unit ![0, 0] ![256, 2048] inb_S256x2048_S256x2048_0_0).toLoadRect
      = dvBlock (iblk m c 0 t) (iblk m c 1 t) (iblk m c 2 t) (iblk m c 3 t) (iblk m c 4 t) (iblk m c 5 t) (iblk m c 6 t) (iblk m c 7 t) (iblk m c 8 t) (iblk m c 9 t) :=
  read_tiles _ _ _ (dv_canon _ _ _ _ _ _ _ _ _ _)

/-- The block's gradient of the mixed channels. -/
@[irreducible] def blkDm (c : Dev nD) (t : Fin cfg0.N) : Vec Ideal S256x2048 EltTy.f32 :=
  k0_pay82 (F := Ideal) (k0_pay31 (iblk m c 1 t)) (iblk m c 3 t) (iblk m c 0 t) (iblk m c 4 t)
/-- The block's gate channels after the normalisation. -/
@[irreducible] def blkV (c : Dev nD) (t : Fin cfg0.N) : Vec Ideal S256x2048 EltTy.f32 :=
  k0_pay36 (F := Ideal) (k0_pay27 (iblk m c 5 t)) (k0_pay28 (iblk m c 6 t)) (k0_pay32 (iblk m c 2 t)) (k0_pay33 (iblk m c 2 t))
theorem blkDm_eq (c : Dev nD) (t : Fin cfg0.N) :
    k0_pay82 (F := Ideal) (k0_pay31 (iblk m c 1 t)) (iblk m c 3 t) (iblk m c 0 t) (iblk m c 4 t) = blkDm m c t := by
  unfold blkDm; rfl
theorem blkV_eq (c : Dev nD) (t : Fin cfg0.N) :
    k0_pay36 (F := Ideal) (k0_pay27 (iblk m c 5 t)) (k0_pay28 (iblk m c 6 t)) (k0_pay32 (iblk m c 2 t)) (k0_pay33 (iblk m c 2 t)) = blkV m c t := by
  unfold blkV; rfl

/-- Column `k` of group `g`, under a name; an index written out from a literal offset is one. -/
def colOf (g : Fin 8) (k : Fin 256) : Fin 2048 := col g k
theorem colOf_mk (g : Fin 8) (k : Fin 256) (n : ℕ) (p : n + k.val < 2048) (h : n = 256 * g.val) : (⟨n + k.val, p⟩ : Fin 2048) = colOf g k :=
  Fin.ext (by show n + k.val = g.val * 256 + k.val; omega)
theorem colOf_mk0 (g : Fin 8) (k : Fin 256) (p : k.val < 2048) (h : g.val = 0) : (⟨k.val, p⟩ : Fin 2048) = colOf g k :=
  Fin.ext (by show k.val = g.val * 256 + k.val; omega)

/-- One group's tile of the running sum of the gradient of the mixing weights: what was there, and the two chunks. -/
theorem dsw_close (c : Dev nD) (t : Fin cfg0.N) (P : Vec Ideal S8x128x128 EltTy.f32) (g G : Fin 8) (r s : Fin 128)
    (A0 A0' A1 A1' : Fin 256)
    (hG : G.val = g.val) (hA0 : A0.val = r.val) (hA0' : A0'.val = s.val) (hA1 : A1.val = 128 + r.val) (hA1' : A1'.val = 128 + s.val) :
    (P (ix3 G r s) : EReal)
      + ∑ k, (blkDm m c t (ix2 A0 (colOf g k)) : EReal)
        * (blkV m c t (ix2 A0' (colOf g k)) : EReal)
      + ∑ k, (blkDm m c t (ix2 A1 (colOf g k)) : EReal)
        * (blkV m c t (ix2 A1' (colOf g k)) : EReal)
      = P (ix3 g r s) + (dsw (PW m c t) (PK m c t 0) g r s + dsw (PW m c t) (PK m c t 1) g r s) := by
  obtain rfl : G = g := Fin.ext hG
  rw [← blkDm_eq, ← blkV_eq, dsw_part (iblk m c 0 t) (iblk m c 1 t) (iblk m c 2 t) (iblk m c 3 t) (iblk m c 4 t) (iblk m c 5 t) (iblk m c 6 t) (iblk m c 7 t) (iblk m c 8 t) (iblk m c 9 t) G 0 r s A0 A0' (colOf G) (by simp [hA0]) (by simp [hA0']) (fun k => by show G.val * 256 + _ = _; omega),
    dsw_part (iblk m c 0 t) (iblk m c 1 t) (iblk m c 2 t) (iblk m c 3 t) (iblk m c 4 t) (iblk m c 5 t) (iblk m c 6 t) (iblk m c 7 t) (iblk m c 8 t) (iblk m c 9 t) G 1 r s A1 A1' (colOf G) (by simp [hA1]) (by simp [hA1']) (fun k => by show G.val * 256 + _ = _; omega), add_assoc]

/-- One group's tile of the running sum of the gradient of the mixing bias. -/
theorem dsb_close (c : Dev nD) (t : Fin cfg0.N) (P : Vec Ideal S8x8x128 EltTy.f32) (g G q : Fin 8) (r : Fin 128)
    (A0 A1 : Fin 256)
    (hG : G.val = g.val) (hA0 : A0.val = r.val) (hA1 : A1.val = 128 + r.val) :
    (P (ix3 G q r) : EReal)
      + ∑ k, (blkDm m c t (ix2 A0 (colOf g k)) : EReal)
      + ∑ k, (blkDm m c t (ix2 A1 (colOf g k)) : EReal)
      = P (ix3 g q r) + (dsb (PW m c t) (PK m c t 0) g r + dsb (PW m c t) (PK m c t 1) g r) := by
  obtain rfl : G = g := Fin.ext hG
  rw [← blkDm_eq, dsb_part (iblk m c 0 t) (iblk m c 1 t) (iblk m c 2 t) (iblk m c 3 t) (iblk m c 4 t) (iblk m c 5 t) (iblk m c 6 t) (iblk m c 7 t) (iblk m c 8 t) (iblk m c 9 t) G 0 r A0 (colOf G) (by simp [hA0]) (fun k => by show G.val * 256 + _ = _; omega),
    dsb_part (iblk m c 0 t) (iblk m c 1 t) (iblk m c 2 t) (iblk m c 3 t) (iblk m c 4 t) (iblk m c 5 t) (iblk m c 6 t) (iblk m c 7 t) (iblk m c 8 t) (iblk m c 9 t) G 1 r A1 (colOf G) (by simp [hA1]) (fun k => by show G.val * 256 + _ = _; omega), add_assoc]

theorem proj_A (c : Dev nD) (t : Fin cfg0.N) (h0 : t.val % 32 = 0) (h1 : ¬t.val % 32 = 31) (ρ : Fin 256) (k : Fin 6144) :
    (outsAt0 m c t.val t.isLt).1 (ix2 ρ k) = dproj (PW m c t) (PK m c t (ch ρ)) (tk ρ) k := by
  rw [outsAt0_A m c t h0 h1]
  frame_open
  simp (disch := decide) only [↓ View.readCov_skip, ↓ View.readCov_cons_toLoadRect, ↓ View.readCov_fill]
  frame_out
  rw [mix_read, dv_read]
  exact proj_pieces _ _ _ _ _ _ _ _ _ _ ρ k

theorem proj_B (c : Dev nD) (t : Fin cfg0.N) (h0 : ¬t.val % 32 = 0) (h1 : ¬t.val % 32 = 31) (ρ : Fin 256) (k : Fin 6144) :
    (outsAt0 m c t.val t.isLt).1 (ix2 ρ k) = dproj (PW m c t) (PK m c t (ch ρ)) (tk ρ) k := by
  rw [outsAt0_B m c t h0 h1]
  frame_open
  simp (disch := decide) only [↓ View.readCov_skip, ↓ View.readCov_cons_toLoadRect, ↓ View.readCov_fill]
  frame_out
  rw [mix_read, dv_read]
  exact proj_pieces _ _ _ _ _ _ _ _ _ _ ρ k

theorem proj_C (c : Dev nD) (t : Fin cfg0.N) (h0 : ¬t.val % 32 = 0) (h1 : t.val % 32 = 31) (ρ : Fin 256) (k : Fin 6144) :
    (outsAt0 m c t.val t.isLt).1 (ix2 ρ k) = dproj (PW m c t) (PK m c t (ch ρ)) (tk ρ) k := by
  rw [outsAt0_C m c t h0 h1]
  frame_open
  simp (disch := decide) only [↓ View.readCov_skip, ↓ View.readCov_cons_toLoadRect, ↓ View.readCov_fill]
  frame_out
  rw [mix_read, dv_read]
  exact proj_pieces _ _ _ _ _ _ _ _ _ _ ρ k

theorem wo_A (c : Dev nD) (t : Fin cfg0.N) (h0 : t.val % 32 = 0) (h1 : ¬t.val % 32 = 31) (e : Fin 2048) (d : Fin 1024) :
    (outsAt0 m c t.val t.isLt).2.2.2.2.2.2.2 (ix2 e d) = k0_pay20 (F := Ideal) (ix2 e d)
      + (dwo (PW m c t) (PK m c t 0) e d + dwo (PW m c t) (PK m c t 1) e d) := by
  rw [outsAt0_A m c t h0 h1]
  frame_open
  simp (disch := decide) only [↓ View.readCov_skip, ↓ View.readCov_cons_toLoadRect, ↓ View.readCov_fill]
  frame_out
  rw [mix_read]

  exact dwo_at _ _ _ _ _ _ _ _ _ _ _ e d

theorem wo_B (c : Dev nD) (t : Fin cfg0.N) (h0 : ¬t.val % 32 = 0) (h1 : ¬t.val % 32 = 31) (e : Fin 2048) (d : Fin 1024) :
    (outsAt0 m c t.val t.isLt).2.2.2.2.2.2.2 (ix2 e d) = (outsAt0 m c (t.val - 1) (by omega)).2.2.2.2.2.2.2 (ix2 e d)
      + (dwo (PW m c t) (PK m c t 0) e d + dwo (PW m c t) (PK m c t 1) e d) := by
  rw [outsAt0_B m c t h0 h1]
  frame_open
  simp (disch := decide) only [↓ View.readCov_skip, ↓ View.readCov_cons_toLoadRect, ↓ View.readCov_fill]
  frame_out
  rw [mix_read, read_unread_whole]

  exact dwo_at _ _ _ _ _ _ _ _ _ _ _ e d

theorem wo_C (c : Dev nD) (t : Fin cfg0.N) (h0 : ¬t.val % 32 = 0) (h1 : t.val % 32 = 31) (e : Fin 2048) (d : Fin 1024) :
    (outsAt0 m c t.val t.isLt).2.1 (ix2 e d) = (outsAt0 m c (t.val - 1) (by omega)).2.2.2.2.2.2.2 (ix2 e d)
      + (dwo (PW m c t) (PK m c t 0) e d + dwo (PW m c t) (PK m c t 1) e d) := by
  rw [outsAt0_C m c t h0 h1]
  frame_open
  simp (disch := decide) only [↓ View.readCov_skip, ↓ View.readCov_cons_toLoadRect, ↓ View.readCov_fill]
  frame_out
  rw [mix_read, read_unread_whole]
  pointwise [k0_pay5]
  exact dwo_at _ _ _ _ _ _ _ _ _ _ _ e d

theorem lg_A (c : Dev nD) (t : Fin cfg0.N) (h0 : t.val % 32 = 0) (h1 : ¬t.val % 32 = 31) (j : Fin 2048) :
    (outsAt0 m c t.val t.isLt).2.2.2.2.1 (ix2 0 j) = k0_pay23 (F := Ideal) (ix2 0 j)
      + (dlg (PW m c t) (PK m c t 0) j + dlg (PW m c t) (PK m c t 1) j) := by
  rw [outsAt0_A m c t h0 h1]
  frame_open
  simp (disch := decide) only [↓ View.readCov_skip, ↓ View.readCov_cons_toLoadRect, ↓ View.readCov_fill]
  frame_out
  rw [dv_read]
  exact dlg_at _ _ _ _ _ _ _ _ _ _ _ j

theorem lg_B (c : Dev nD) (t : Fin cfg0.N) (h0 : ¬t.val % 32 = 0) (h1 : ¬t.val % 32 = 31) (j : Fin 2048) :
    (outsAt0 m c t.val t.isLt).2.2.2.2.1 (ix2 0 j) = (outsAt0 m c (t.val - 1) (by omega)).2.2.2.2.1 (ix2 0 j)
      + (dlg (PW m c t) (PK m c t 0) j + dlg (PW m c t) (PK m c t 1) j) := by
  rw [outsAt0_B m c t h0 h1]
  frame_open
  simp (disch := decide) only [↓ View.readCov_skip, ↓ View.readCov_cons_toLoadRect, ↓ View.readCov_fill]
  frame_out
  rw [dv_read]
  exact dlg_at _ _ _ _ _ _ _ _ _ _ _ j

theorem lg_C (c : Dev nD) (t : Fin cfg0.N) (h0 : ¬t.val % 32 = 0) (h1 : t.val % 32 = 31) (j : Fin 2048) :
    (outsAt0 m c t.val t.isLt).2.2.2.2.1 (ix2 0 j) = (outsAt0 m c (t.val - 1) (by omega)).2.2.2.2.1 (ix2 0 j)
      + (dlg (PW m c t) (PK m c t 0) j + dlg (PW m c t) (PK m c t 1) j) := by
  rw [outsAt0_C m c t h0 h1]
  frame_open
  simp (disch := decide) only [↓ View.readCov_skip, ↓ View.readCov_cons_toLoadRect, ↓ View.readCov_fill]
  frame_out
  rw [dv_read]
  exact dlg_at _ _ _ _ _ _ _ _ _ _ _ j

theorem lb_A (c : Dev nD) (t : Fin cfg0.N) (h0 : t.val % 32 = 0) (h1 : ¬t.val % 32 = 31) (j : Fin 2048) :
    (outsAt0 m c t.val t.isLt).2.2.2.2.2.1 (ix2 0 j) = k0_pay24 (F := Ideal) (ix2 0 j)
      + (dlb (PW m c t) (PK m c t 0) j + dlb (PW m c t) (PK m c t 1) j) := by
  rw [outsAt0_A m c t h0 h1]
  frame_open
  simp (disch := decide) only [↓ View.readCov_skip, ↓ View.readCov_cons_toLoadRect, ↓ View.readCov_fill]
  frame_out
  rw [dv_read]
  exact dlb_at _ _ _ _ _ _ _ _ _ _ _ j

theorem lb_B (c : Dev nD) (t : Fin cfg0.N) (h0 : ¬t.val % 32 = 0) (h1 : ¬t.val % 32 = 31) (j : Fin 2048) :
    (outsAt0 m c t.val t.isLt).2.2.2.2.2.1 (ix2 0 j) = (outsAt0 m c (t.val - 1) (by omega)).2.2.2.2.2.1 (ix2 0 j)
      + (dlb (PW m c t) (PK m c t 0) j + dlb (PW m c t) (PK m c t 1) j) := by
  rw [outsAt0_B m c t h0 h1]
  frame_open
  simp (disch := decide) only [↓ View.readCov_skip, ↓ View.readCov_cons_toLoadRect, ↓ View.readCov_fill]
  frame_out
  rw [dv_read]
  exact dlb_at _ _ _ _ _ _ _ _ _ _ _ j

theorem lb_C (c : Dev nD) (t : Fin cfg0.N) (h0 : ¬t.val % 32 = 0) (h1 : t.val % 32 = 31) (j : Fin 2048) :
    (outsAt0 m c t.val t.isLt).2.2.2.2.2.1 (ix2 0 j) = (outsAt0 m c (t.val - 1) (by omega)).2.2.2.2.2.1 (ix2 0 j)
      + (dlb (PW m c t) (PK m c t 0) j + dlb (PW m c t) (PK m c t 1) j) := by
  rw [outsAt0_C m c t h0 h1]
  frame_open
  simp (disch := decide) only [↓ View.readCov_skip, ↓ View.readCov_cons_toLoadRect, ↓ View.readCov_fill]
  frame_out
  rw [dv_read]
  exact dlb_at _ _ _ _ _ _ _ _ _ _ _ j

end Cert.Sgu

end
-- ==== Proof.Reals.lean ====
/- Where the arithmetic distributes. Three steps of the two programs agree only by distributivity, which the extended
   reals lack at the infinities: the gradient of the normalisation, of the exact GELU and of `z · σ(z)`. This module
   states them at real values, and that every quantity of the formulas is a real when the arguments are. -/
module

public import proofs.«01_k».proof.Proof.Spec

@[expose] public section

noncomputable section

open Idealize.ShloMosaic

namespace Cert.Sgu

/-- The extended real is a real number. -/
def IsReal (x : EReal) : Prop := ∃ r : ℝ, x = (r : EReal)

theorem half_eq : half = ((1 / 2 : ℝ) : EReal) := by
  simp [half, Ideal.ofBits, Ideal.ieee]; norm_num [← EReal.coe_mul]
theorem mhalf_eq : mhalf = ((-(1 / 2) : ℝ) : EReal) := by
  simp [mhalf, Ideal.ofBits, Ideal.ieee]; norm_num [← EReal.coe_mul]
theorem width_eq : width = ((2048 : ℝ) : EReal) := by
  simp [width, Ideal.ofBits, Ideal.ieee]; norm_num [← EReal.coe_mul]
theorem eps_pos : ∃ r : ℝ, 0 < r ∧ eps = (r : EReal) := by
  refine ⟨8796093 * (2 : ℝ) ^ (-43 : ℤ), by positivity, ?_⟩
  simp [eps, Ideal.ofBits, Ideal.ieee]

theorem coe_sum {ι : Type*} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

namespace IsReal
variable {x y : EReal}
theorem coe (r : ℝ) : IsReal (r : EReal) := ⟨r, rfl⟩
theorem add (hx : IsReal x) (hy : IsReal y) : IsReal (x + y) := by
  obtain ⟨a, rfl⟩ := hx; obtain ⟨b, rfl⟩ := hy; exact ⟨a + b, (EReal.coe_add a b).symm⟩
theorem mul (hx : IsReal x) (hy : IsReal y) : IsReal (x * y) := by
  obtain ⟨a, rfl⟩ := hx; obtain ⟨b, rfl⟩ := hy; exact ⟨a * b, (EReal.coe_mul a b).symm⟩
theorem sub (hx : IsReal x) (hy : IsReal y) : IsReal (x - y) := by
  obtain ⟨a, rfl⟩ := hx; obtain ⟨b, rfl⟩ := hy; exact ⟨a - b, (EReal.coe_sub a b).symm⟩
theorem sum {ι : Type*} {s : Finset ι} {f : ι → EReal} (h : ∀ i, IsReal (f i)) : IsReal (∑ i ∈ s, f i) := by
  choose g hg using h
  exact ⟨∑ i ∈ s, g i, by rw [coe_sum]; exact Finset.sum_congr rfl fun i _ => hg i⟩
theorem ite {p : Prop} [Decidable p] (hx : IsReal x) : IsReal (if p then x else 0) := by
  split; exacts [hx, ⟨0, rfl⟩]
theorem erf (hx : IsReal x) : IsReal (Ideal.erf x) := by obtain ⟨a, rfl⟩ := hx; exact ⟨_, Ideal.erf_coe a⟩
theorem exp (hx : IsReal x) : IsReal (Ideal.exp x) := by obtain ⟨a, rfl⟩ := hx; exact ⟨_, Ideal.exp_coe a⟩
theorem logistic (hx : IsReal x) : IsReal (Ideal.logistic x) := by
  obtain ⟨a, rfl⟩ := hx; exact ⟨_, Ideal.logistic_coe a⟩
theorem gelu (hx : IsReal x) : IsReal (gelu x) := by
  rw [Sgu.gelu, half_eq, ← EReal.coe_one]
  exact ((coe _).mul hx).mul ((coe _).add (hx.mul (coe _)).erf)
end IsReal

/-! ## The normalised row at real values -/

section Norm
variable (f d : Fin 2048 → ℝ)

def rmean : ℝ := (∑ j, f j) / 2048
theorem mean_coe : mean (fun j => (f j : EReal)) = (rmean f : EReal) := by
  rw [mean, ← coe_sum, width_eq, Ideal.div_coe (by norm_num), ← EReal.coe_mul, rmean]; congr 1; ring
theorem cent_coe (j : Fin 2048) : cent (fun j => (f j : EReal)) j = ((f j - rmean f : ℝ) : EReal) := by
  rw [cent, mean_coe, EReal.coe_sub]
theorem var_coe : var (fun j => (f j : EReal)) = ((rmean fun j => (f j - rmean f) * (f j - rmean f) : ℝ) : EReal) := by
  rw [var, ← mean_coe]; congr 1; funext j; rw [cent_coe, EReal.coe_mul]

theorem rmean_nonneg (h : ∀ j, 0 ≤ f j) : 0 ≤ rmean f := div_nonneg (Finset.sum_nonneg fun j _ => h j) (by norm_num)

/-- The variance plus its offset is a positive real `q`, and the reciprocal deviation is `1 / √q`. -/
theorem exists_q : ∃ q : ℝ, 0 < q ∧ var (fun j => (f j : EReal)) + eps = (q : EReal)
    ∧ rstd (fun j => (f j : EReal)) = ((Real.sqrt q)⁻¹ : ℝ) := by
  obtain ⟨e, he, hq⟩ := eps_pos
  have h0 := rmean_nonneg _ fun j => mul_self_nonneg (f j - rmean f)
  refine ⟨_ + e, add_pos_of_nonneg_of_pos h0 he, by rw [var_coe, hq, ← EReal.coe_add], ?_⟩
  rw [rstd, var_coe, hq, ← EReal.coe_add, Ideal.rsqrt_coe, if_neg (by linarith), if_neg (by linarith)]

theorem sum_cent : ∑ j, (f j - rmean f) = 0 := by
  rw [Finset.sum_sub_distrib, Finset.sum_const, Finset.card_univ, Fintype.card_fin, rmean]; simp; ring

end Norm

theorem IsReal.normed {f : Fin 2048 → EReal} (h : ∀ j, IsReal (f j)) (j : Fin 2048) : IsReal (hat f j) := by
  choose g hg using h
  obtain rfl : f = fun j => (g j : EReal) := funext hg
  obtain ⟨q, -, -, hr⟩ := exists_q g
  rw [hat, cent_coe, hr]; exact (coe _).mul (coe _)

/-- Differentiating the mean, the variance and the reciprocal deviation one after the other gives the closed form. -/
theorem normBwd_eq {f d : Fin 2048 → EReal} (hf : ∀ j, IsReal (f j)) (hd : ∀ j, IsReal (d j)) (j : Fin 2048)
    (w : Fin 2048 → EReal) (hw : ∀ i, w i = d i * rstd f
      + cent f i * Ideal.div ((∑ l, cent f l * d l) * (mhalf * Ideal.div (rstd f) (var f + eps))) width
      + Ideal.div ((∑ l, cent f l * d l) * (mhalf * Ideal.div (rstd f) (var f + eps))) width * cent f i) :
    w j + Ideal.div (∑ i, -w i) width = normBwd f d j := by
  choose g hg using hf
  choose e he using hd
  obtain rfl : f = fun j => (g j : EReal) := funext hg
  obtain rfl : d = fun j => (e j : EReal) := funext he
  obtain ⟨q, hq, hv, hr⟩ := exists_q g
  set s : ℝ := (Real.sqrt q)⁻¹ with hs
  have hss : s * s = q⁻¹ := by rw [hs, ← mul_inv, Real.mul_self_sqrt hq.le]
  set c : Fin 2048 → ℝ := fun i => g i - rmean g with hc
  have hc0 : ∑ i, c i = 0 := sum_cent g
  set S : ℝ := ∑ l, c l * e l with hS
  set p : ℝ := S * (-(1 / 2) * (s * (1 / q))) * (1 / 2048) with hp
  have hw' : ∀ i, w i = ((e i * s + c i * p + p * c i : ℝ) : EReal) := by
    intro i
    rw [hw, hv, hr, width_eq, mhalf_eq, Ideal.div_coe hq.ne', Ideal.div_coe (by norm_num)]
    have : (∑ l, cent (fun j => (g j : EReal)) l * ((e l : ℝ) : EReal)) = (S : EReal) := by
      rw [hS, coe_sum]; exact Finset.sum_congr rfl fun l _ => by rw [cent_coe, ← EReal.coe_mul]
    rw [this, cent_coe]
    simp only [← EReal.coe_mul, ← EReal.coe_add]
    rfl
  have hm : (fun i => ((e i : ℝ) : EReal) * hat (fun j => (g j : EReal)) i) = fun i => ((e i * (c i * s) : ℝ) : EReal) := by
    funext i; rw [hat, cent_coe, hr, ← EReal.coe_mul, ← EReal.coe_mul]
  rw [normBwd, hm, mean_coe, mean_coe, hat, cent_coe, hr, Finset.sum_congr rfl fun i _ => congrArg Neg.neg (hw' i), hw' j,
    width_eq, Ideal.div_coe (by norm_num)]
  simp only [← EReal.coe_mul, ← EReal.coe_add, ← EReal.coe_sub, ← EReal.coe_neg, ← coe_sum]
  congr 1
  have h1 : ∑ i, -(e i * s + c i * p + p * c i) = -(s * ∑ i, e i) := by
    rw [Finset.sum_neg_distrib, Finset.sum_add_distrib, Finset.sum_add_distrib, ← Finset.sum_mul, ← Finset.sum_mul,
      ← Finset.mul_sum, hc0]; ring
  have h2 : ∑ i, e i * (c i * s) = S * s := by rw [hS, Finset.sum_mul]; exact Finset.sum_congr rfl fun i _ => by ring
  rw [h1]; simp only [rmean]; rw [h2]
  have h3 : p = -(1 / 2) * (S * s * (s * s)) / 2048 := by rw [hp, hss]; ring
  rw [h3]; simp only [hc, rmean]; ring

/-! ## The two activations -/

/-- The derivative of the exact GELU as the chain rule writes it. -/
theorem geluBwd_eq {x d : EReal} (hx : IsReal x) (hd : IsReal d) :
    Ideal.div (Ideal.ofBits .f32 0x3F906EBB#32 * (half * x * d)
        * Ideal.exp (-(Ideal.div x (Ideal.sqrt (Ideal.ofBits .f32 0x40000000#32))
          * Ideal.div x (Ideal.sqrt (Ideal.ofBits .f32 0x40000000#32))))) (Ideal.sqrt (Ideal.ofBits .f32 0x40000000#32))
      + half * (d * (1 + Ideal.erf (x * rt))) = d * geluSlope x := by
  obtain ⟨x, rfl⟩ := hx
  obtain ⟨d, rfl⟩ := hd
  obtain ⟨e, he⟩ := IsReal.erf ((IsReal.coe x).mul (IsReal.coe (Real.sqrt 2)⁻¹))
  have h2 : Ideal.ofBits .f32 0x40000000#32 = ((2 : ℝ) : EReal) := by simp [Ideal.ofBits, Ideal.ieee]; norm_num [← EReal.coe_mul]
  have hc : Ideal.ofBits .f32 0x3F906EBB#32 = ((9465531 / 8388608 : ℝ) : EReal) := by
    simp [Ideal.ofBits, Ideal.ieee]; norm_num [← EReal.coe_mul]
  have h0 : Real.sqrt 2 ≠ 0 := by positivity
  have hsq : (Real.sqrt 2)⁻¹ * (Real.sqrt 2)⁻¹ = 1 / 2 := by
    rw [← mul_inv, Real.mul_self_sqrt (by norm_num)]; norm_num
  rw [geluSlope, he, h2, hc, Ideal.sqrt_coe, if_neg (by norm_num), half_eq, ← EReal.coe_one, mhalf_eq, Ideal.div_coe h0,
    Ideal.div_coe h0]
  simp only [← EReal.coe_mul, ← EReal.coe_add, ← EReal.coe_neg, Ideal.exp_coe]
  congr 1
  have : -(x * (1 / Real.sqrt 2) * (x * (1 / Real.sqrt 2))) = -(1 / 2) * x * x := by
    rw [one_div]; linear_combination (-x * x) * hsq
  rw [this]; field_simp; ring

/-- The derivative of `z · σ(z)` as the product rule writes it. -/
theorem siluBwd_eq {z d : EReal} (hz : IsReal z) (hd : IsReal d) :
    d * Ideal.logistic z + z * d * (Ideal.logistic z * (1 - Ideal.logistic z)) = d * siluSlope z := by
  obtain ⟨s, hs⟩ := hz.logistic
  obtain ⟨z, rfl⟩ := hz
  obtain ⟨d, rfl⟩ := hd
  rw [siluSlope, hs, ← EReal.coe_one]
  simp only [← EReal.coe_mul, ← EReal.coe_add, ← EReal.coe_sub]
  congr 1; ring

/-! ## The formulas at real arguments -/

structure Params.Real (W : Params) : Prop where
  wo : ∀ e d, IsReal (W.wo e d)
  lg : ∀ j, IsReal (W.lg j)
  lb : ∀ j, IsReal (W.lb j)
  sw : ∀ g t s, IsReal (W.sw g t s)
  swt : ∀ g t s, IsReal (W.swt g t s)
  sb : ∀ g t, IsReal (W.sb g t)

structure Chunk.Real (k : Chunk) : Prop where
  ct : ∀ t d, IsReal (k.ct t d)
  a : ∀ t j, IsReal (k.a t j)
  b : ∀ t j, IsReal (k.b t j)
  z : ∀ t j, IsReal (k.z t j)

variable {W : Params} {k : Chunk} (hW : W.Real) (hk : k.Real)

include hW hk
theorem real_v (t j) : IsReal (v W k t j) :=
  ((IsReal.normed (fun j => (hk.b t j).gelu) j).mul (hW.lg j)).add (hW.lb j)
theorem real_mixed (t j) : IsReal (mixed W k t j) :=
  (IsReal.sum fun s => ((hW.sw _ _ _).ite).mul (real_v hW hk s j)).add (hW.sb _ _)
theorem real_dq (t j) : IsReal (dq W k t j) := IsReal.sum fun d => (hk.ct t d).mul (hW.wo j d)
theorem real_y (t j) : IsReal (y W k t j) := (hk.a t j).gelu.mul (real_mixed hW hk t j)
theorem real_dy (t j) : IsReal (dy W k t j) := (real_dq hW hk t j).mul ((hk.z t j).mul (hk.z t j).logistic)
theorem real_du (t j) : IsReal (du W k t j) := (real_dy hW hk t j).mul (real_mixed hW hk t j)
theorem real_dv (t j) : IsReal (dv W k t j) :=
  IsReal.sum fun s => ((hW.swt _ _ _).ite).mul ((real_dy hW hk s j).mul (hk.a s j).gelu)
theorem real_dv0 (t j) : IsReal (dv0 W k t j) := by
  have hf := fun j => (hk.b t j).gelu
  have hd := fun i => (real_dv hW hk t i).mul (hW.lg i)
  have hm : ∀ g : Fin 2048 → EReal, (∀ i, IsReal (g i)) → IsReal (mean g) := fun g h => by
    choose r hr using h
    rw [funext hr]; exact ⟨_, mean_coe r⟩
  have hs : IsReal (rstd (v0 k t)) := by
    choose g hg using hf
    obtain ⟨q, -, -, hr⟩ := exists_q g
    exact ⟨_, (congrArg rstd (funext hg)).trans hr⟩
  exact hs.mul (((hd j).sub (hm _ hd)).sub ((IsReal.normed hf j).mul (hm _ fun i => (hd i).mul (IsReal.normed hf i))))

end Cert.Sgu

end
-- ==== Proof.Axes.lean ====
/- Sums the reference takes over several axes at once: over the two leading axes of a rank-3 array, over axes 0, 1 and 4 of
   a rank-5 array, and the contraction over sequences, chunks and lanes. -/
module

public import proofs.«01_k».proof.Proof.Gen.ReferenceIdeal.Read
public import Idealize.ShloMosaic.Lib.Pointwise

@[expose] public section

noncomputable section

open Idealize.ShloMosaic Cert.ReferenceIdeal Cert.ReferenceIdeal.Gen

namespace Cert.Sgu

/-- The sum of a rank-3 array over its two leading axes, from an initial value. -/
theorem sum_lead2 {n0 n1 n2 : Nat} (h : (⟨3, ![n0, n1, n2]⟩ : Shape).ReducesTo [0, 1] ⟨1, ![n2]⟩)
    (x : (⟨3, ![n0, n1, n2]⟩ : Shape).Idx → EReal) (z : EReal) (j : Fin n2) :
    Ideal.hostReduceAdd h x z (ix1 j) = z + ∑ b, ∑ p, x (ix3 b p j) := by
  unfold Ideal.hostReduceAdd
  rw [Finset.sum_filter_eq_sum_of_fiber _ (fun k : Fin n0 × Fin n1 => ix3 k.1 k.2 j)
    (fun _ _ e => Prod.ext (congrFun e 0) (congrFun e 1)), Fintype.sum_prod_type]
  intro i
  constructor
  · intro e
    refine ⟨(i 0, i 1), funext fun a => Fin.ext ?_⟩
    match a with
    | ⟨0, _⟩ => rfl
    | ⟨1, _⟩ => rfl
    | ⟨2, _⟩ => exact (congrArg Fin.val (congrFun e 0)).symm
  · rintro ⟨k, rfl⟩
    refine funext fun a => Fin.ext ?_
    match a with
    | ⟨0, _⟩ => rfl

/-- The sum of a rank-5 array over its axes 0, 1 and 4, from an initial value. -/
theorem sum_014 {n0 n1 n2 n3 n4 : Nat} (h : (⟨5, ![n0, n1, n2, n3, n4]⟩ : Shape).ReducesTo [0, 1, 4] ⟨2, ![n2, n3]⟩)
    (x : (⟨5, ![n0, n1, n2, n3, n4]⟩ : Shape).Idx → EReal) (z : EReal) (t : Fin n2) (g : Fin n3) :
    Ideal.hostReduceAdd h x z (ix2 t g) = z + ∑ b, ∑ n, ∑ c, x (ix5 b n t g c) := by
  unfold Ideal.hostReduceAdd
  rw [Finset.sum_filter_eq_sum_of_fiber _ (fun k : Fin n0 × Fin n1 × Fin n4 => ix5 k.1 k.2.1 t g k.2.2)
    (fun _ _ e => Prod.ext (congrFun e 0) (Prod.ext (congrFun e 1) (congrFun e 4)))]
  · simp only [Fintype.sum_prod_type]
  intro i
  constructor
  · intro e
    refine ⟨(i 0, i 1, i 4), funext fun a => Fin.ext ?_⟩
    match a with
    | ⟨0, _⟩ => rfl
    | ⟨1, _⟩ => rfl
    | ⟨2, _⟩ => exact (congrArg Fin.val (congrFun e 0)).symm
    | ⟨3, _⟩ => exact (congrArg Fin.val (congrFun e 1)).symm
    | ⟨4, _⟩ => rfl
  · rintro ⟨k, rfl⟩
    refine funext fun a => Fin.ext ?_
    match a with
    | ⟨0, _⟩ => rfl
    | ⟨1, _⟩ => rfl

/-- The contraction over sequences, chunks and lanes that gives the mixing weights' gradient. -/
theorem dot_bnc (l : S8x2x32x256x128.Idx → EReal) (r : S2x32x128x8x256.Idx → EReal) (g : Fin 8) (t s : Fin 128) :
    Ideal.matmul dot_S8x2x32x256x128_S2x32x128x8x256_S8x128x128_123_014_4_2_0_3 l r (fun _ => 0) (ix3 g t s)
      = ∑ b, ∑ n, ∑ c, l (ix5 g b n c t) * r (ix5 b n s g c) := by
  let e : Fin 2 × Fin 32 × Fin 256 ≃ dot_S8x2x32x256x128_S2x32x128x8x256_S8x128x128_123_014_4_2_0_3.contr.Idx :=
    { toFun := fun k p => match p with
        | ⟨0, _⟩ => k.1
        | ⟨1, _⟩ => k.2.1
        | ⟨2, _⟩ => k.2.2
      invFun := fun q => (q ⟨0, by decide⟩, q ⟨1, by decide⟩, q ⟨2, by decide⟩)
      left_inv := fun _ => rfl
      right_inv := fun q => funext fun p => match p with
        | ⟨0, _⟩ => rfl
        | ⟨1, _⟩ => rfl
        | ⟨2, _⟩ => rfl }
  unfold Ideal.matmul
  rw [zero_add, ← Equiv.sum_comp e]
  simp only [Fintype.sum_prod_type]
  refine Finset.sum_congr rfl fun b _ => Finset.sum_congr rfl fun n _ => Finset.sum_congr rfl fun c _ => ?_
  congr 1
  · refine congrArg l (funext fun a => Fin.ext ?_)
    match a with
    | ⟨0, _⟩ => rfl
    | ⟨1, _⟩ => rfl
    | ⟨2, _⟩ => rfl
    | ⟨3, _⟩ => rfl
    | ⟨4, _⟩ => rfl
  · refine congrArg r (funext fun a => Fin.ext ?_)
    match a with
    | ⟨0, _⟩ => rfl
    | ⟨1, _⟩ => rfl
    | ⟨2, _⟩ => rfl
    | ⟨3, _⟩ => rfl
    | ⟨4, _⟩ => rfl

end Cert.Sgu

end
-- ==== Proof.Ref.lean ====
/- The reference, read operation by operation: at position `p` of sequence `b` every array it computes is the formula
   of the chunk that holds the position. -/
module

public import proofs.«01_k».proof.Proof.Reals
public import proofs.«01_k».proof.Proof.Axes
public import proofs.«01_k».proof.Proof.Gen.ReferenceIdeal.Read
public import Idealize.ShloMosaic.Lib.Pointwise

@[expose] public section

set_option maxRecDepth 16384

noncomputable section

open Idealize.ShloMosaic Cert.ReferenceIdeal Cert.ReferenceIdeal.Gen Cert.ReferenceIdeal.Read

namespace Cert.Sgu

variable (x0 : (⟨S2x4096x1024, .f32⟩ : BufTy).Contents (Elt Ideal)) (x1 : (⟨S2x4096x6144, .f32⟩ : BufTy).Contents (Elt Ideal))
  (x2 : (⟨S2048x1024, .f32⟩ : BufTy).Contents (Elt Ideal)) (x3 x4 : (⟨S2048, .f32⟩ : BufTy).Contents (Elt Ideal))
  (x5 : (⟨S8x128x128, .f32⟩ : BufTy).Contents (Elt Ideal)) (x6 : (⟨S8x128, .f32⟩ : BufTy).Contents (Elt Ideal))

/-- Position `t` of chunk `n`; the chunk of a position and its place in it; the columns of the three thirds. -/
abbrev pos (n : Fin 32) (t : Fin 128) : Fin 4096 := ⟨n.val * 128 + t.val, by omega⟩
abbrev hi (p : Fin 4096) : Fin 32 := ⟨p.val / 128, by omega⟩
abbrev lo (p : Fin 4096) : Fin 128 := ⟨p.val % 128, by omega⟩
abbrev third0 (j : Fin 2048) : Fin 6144 := ⟨j.val, by omega⟩
abbrev third1 (j : Fin 2048) : Fin 6144 := ⟨2048 + j.val, by omega⟩
abbrev third2 (j : Fin 2048) : Fin 6144 := ⟨4096 + j.val, by omega⟩

theorem pos_hi_lo (p : Fin 4096) : pos (hi p) (lo p) = p := Fin.ext (by show p.val / 128 * 128 + p.val % 128 = p.val; omega)
theorem hi_pos (n : Fin 32) (t : Fin 128) : hi (pos n t) = n := Fin.ext (by show (n.val * 128 + t.val) / 128 = n.val; omega)
theorem lo_pos (n : Fin 32) (t : Fin 128) : lo (pos n t) = t := Fin.ext (by show (n.val * 128 + t.val) % 128 = t.val; omega)
theorem col_grp (j : Fin 2048) : col (grp j) ⟨j.val % 256, by omega⟩ = j :=
  Fin.ext (by show j.val / 256 * 256 + j.val % 256 = j.val; omega)
theorem grp_col (g : Fin 8) (c : Fin 256) : grp (col g c) = g := Fin.ext (by show (g.val * 256 + c.val) / 256 = g.val; omega)

/-- The parameters and the chunks of the arguments. -/
def params : Params where
  wo e d := x2 (ix2 e d)
  lg j := x3 (ix1 j)
  lb j := x4 (ix1 j)
  sw g t s := x5 (ix3 g t s)
  swt g s t := x5 (ix3 g t s)
  sb g t := x6 (ix2 g t)
def chunk (b : Fin 2) (n : Fin 32) : Chunk where
  ct t d := x0 (ix3 b (pos n t) d)
  a t j := x1 (ix3 b (pos n t) (third0 j))
  b t j := x1 (ix3 b (pos n t) (third1 j))
  z t j := x1 (ix3 b (pos n t) (third2 j))

theorem sqrt_two : Ideal.sqrt (Ideal.ofBits .f32 0x40000000#32) = ((Real.sqrt 2 : ℝ) : EReal) := by
  have h2 : Ideal.ofBits .f32 0x40000000#32 = ((2 : ℝ) : EReal) := by
    simp [Ideal.ofBits, Ideal.ieee]; norm_num [← EReal.coe_mul]
  rw [h2, Ideal.sqrt_coe, if_neg (by norm_num)]
theorem div_sqrt_two (x : EReal) : Ideal.div x (Ideal.sqrt (Ideal.ofBits .f32 0x40000000#32)) = x * rt := by
  rw [sqrt_two, Ideal.div_coe (by positivity), one_div]

section
variable (b : Fin 2) (p : Fin 4096) (j : Fin 2048)

/-! ## The forward pass -/

theorem ref14 : val_main_v14 (F := Ideal) x1 (ix3 b p j) = u (chunk x0 x1 b (hi p)) (lo p) j := by
  pointwise [val_main_v14, val_main_v4, val_main_v13, val_main_v12, val_main_v8, val_main_v7, val_main_v6, val_main_v5, val_main_v3, val_main_v0,
    val_main_cst, val_main_cst_0, val_main_cst_1]
  rw [div_sqrt_two]; simp only [u, chunk, pos_hi_lo]; rfl
theorem ref26 : val_main_v26 (F := Ideal) x1 (ix3 b p j) = v0 (chunk x0 x1 b (hi p)) (lo p) j := by
  pointwise [val_main_v26, val_main_v16, val_main_v25, val_main_v24, val_main_v20, val_main_v19, val_main_v18, val_main_v17, val_main_v15, val_main_v1,
    val_main_cst_2, val_main_cst_3, val_main_cst_4]
  rw [div_sqrt_two]; simp only [v0, chunk, pos_hi_lo]; rfl
theorem ref32 : val_main_v32 (F := Ideal) x1 (ix3 b p j) = cent (v0 (chunk x0 x1 b (hi p)) (lo p)) j := by
  pointwise [val_main_v32, val_main_v31, val_main_v30, val_main_v28, val_main_v27, val_main_v29, val_main_cst_5, val_main_cst_6]
  simp only [ref26 x0]; rfl
theorem ref39 : val_main_v39 (F := Ideal) x1 (ix3 b p 0) = var (v0 (chunk x0 x1 b (hi p)) (lo p)) + eps := by
  pointwise [val_main_v39, val_main_v38, val_main_v37, val_main_v36, val_main_v35, val_main_v34, val_main_v33, val_main_cst_7, val_main_cst_8, val_main_cst_9]
  simp only [ref32 x0]; rfl
theorem ref40 : val_main_v40 (F := Ideal) x1 (ix3 b p 0) = rstd (v0 (chunk x0 x1 b (hi p)) (lo p)) := by
  pointwise [val_main_v40]
  rw [ref39 x0]; rfl
theorem ref45 : val_main_v45 (F := Ideal) x1 (ix3 b p j) = hat (v0 (chunk x0 x1 b (hi p)) (lo p)) j := by
  pointwise [val_main_v45, val_main_v44]
  rw [ref32 x0, ref40 x0]; rfl
theorem ref51 : val_main_v51 (F := Ideal) x1 x3 x4 (ix3 b p j) = v (params x2 x3 x4 x5 x6) (chunk x0 x1 b (hi p)) (lo p) j := by
  pointwise [val_main_v51, val_main_v50, val_main_v49, val_main_v48, val_main_v47, val_main_v46]
  rw [ref45 x0]; rfl
theorem ref52 (n : Fin 32) (t : Fin 128) (g : Fin 8) (c : Fin 256) :
    val_main_v52 (F := Ideal) x1 x3 x4 (ix5 b n t g c) = v (params x2 x3 x4 x5 x6) (chunk x0 x1 b n) t (col g c) := by
  pointwise [val_main_v52]
  exact (ref51 x0 x1 x2 x3 x4 x5 x6 b (pos n t) (col g c)).trans (by rw [hi_pos, lo_pos])
theorem tril_bit (t s : Fin 128) : IntOp.cmpi CmpIPredicate.sge (BitVec.ofNat 32 t.val) (BitVec.ofNat 32 s.val)
    = if s ≤ t then 1#1 else 0#1 := by
  revert t s; decide +kernel
theorem ref56 (g : Fin 8) (t s : Fin 128) : val_main_v56_0 (F := Ideal) x5 (ix3 g t s) = wt (params x2 x3 x4 x5 x6) g t s := by
  pointwise [val_main_v56_0, val_main_v56_1, val_main_v55, val_main_v54, val_main_call0_v4, val_main_v53, val_main_call0_v5, val_main_call1_v1, val_main_c, val_main_call0_v0, val_main_call0_v1, val_main_call0_v2, val_main_call0_v3, val_main_call0_c, val_main_call0_c_0, val_main_cst_11]
  rw [show IntOp.addi (BitVec.ofNat 32 t.val) 0#32 = BitVec.ofNat 32 t.val from BitVec.add_zero _, tril_bit, wt]
  split <;> rfl
theorem ref63 : val_main_v63 (F := Ideal) x1 x3 x4 x5 x6 (ix3 b p j) = mixed (params x2 x3 x4 x5 x6) (chunk x0 x1 b (hi p)) (lo p) j := by
  pointwise [val_main_v63, val_main_v62, val_main_v58, val_main_v57, val_main_v61, val_main_v60, val_main_v59]
  simp only [ref52 x0 x1 x2 x3 x4 x5 x6, ref56 x2 x3 x4 x5 x6]
  simp only [col_grp]
  exact congrArg (· + _) (Finset.sum_congr rfl fun s _ => mul_comm _ _)
theorem ref64 : val_main_v64 (F := Ideal) x1 x3 x4 x5 x6 (ix3 b p j) = y (params x2 x3 x4 x5 x6) (chunk x0 x1 b (hi p)) (lo p) j := by
  pointwise [val_main_v64]
  rw [ref14 x0, ref63 x0 x1 x2]; rfl
theorem refZ : (chunk x0 x1 b (hi p)).z (lo p) j = x1 (ix3 b p (third2 j)) := by
  simp only [chunk, pos_hi_lo]
theorem ref65_2 : val_main_v65_2 (F := Ideal) x1 (ix3 b p j) = Ideal.logistic ((chunk x0 x1 b (hi p)).z (lo p) j) := by
  pointwise [val_main_v65_2, val_main_call2_v3, val_main_call2_v2, val_main_call2_v1, val_main_call2_v0, val_main_call2_v4, val_main_v2,
    val_main_call2_cst, val_main_call2_cst_0]
  rw [refZ]; rfl
theorem ref65_0 : val_main_v65_0 (F := Ideal) x1 (ix3 b p j) = sz (chunk x0 x1 b (hi p)) (lo p) j := by
  pointwise [val_main_v65_0, val_main_v2]
  rw [ref65_2 x0, sz, refZ]
theorem ref66 : val_main_v66 (F := Ideal) x1 x3 x4 x5 x6 (ix3 b p j)
    = y (params x2 x3 x4 x5 x6) (chunk x0 x1 b (hi p)) (lo p) j * sz (chunk x0 x1 b (hi p)) (lo p) j := by
  pointwise [val_main_v66]
  rw [ref64 x0 x1 x2, ref65_0 x0]

/-! ## The backward pass up to the mixing -/

theorem ref70 : val_main_v70 (F := Ideal) x0 x2 (ix3 b p j) = dq (params x2 x3 x4 x5 x6) (chunk x0 x1 b (hi p)) (lo p) j := by
  pointwise [val_main_v70]
  simp only [dq, chunk, params, pos_hi_lo]
theorem ref72 : val_main_v72 (F := Ideal) x0 x1 x2 (ix3 b p j) = dy (params x2 x3 x4 x5 x6) (chunk x0 x1 b (hi p)) (lo p) j := by
  pointwise [val_main_v72]
  rw [ref70 x0 x1 x2 x3 x4 x5 x6, ref65_0 x0]; rfl
theorem ref74 : val_main_v74 (F := Ideal) x0 x1 x2 (ix3 b p j) = dm (params x2 x3 x4 x5 x6) (chunk x0 x1 b (hi p)) (lo p) j := by
  pointwise [val_main_v74]
  rw [ref72 x0 x1 x2 x3 x4 x5 x6, ref14 x0, mul_comm]; rfl
theorem ref75 : val_main_v75 (F := Ideal) x0 x1 x2 x3 x4 x5 x6 (ix3 b p j) = du (params x2 x3 x4 x5 x6) (chunk x0 x1 b (hi p)) (lo p) j := by
  pointwise [val_main_v75]
  rw [ref72 x0 x1 x2 x3 x4 x5 x6, ref63 x0 x1 x2]; rfl
theorem ref76 (n : Fin 32) (t : Fin 128) (g : Fin 8) (c : Fin 256) :
    val_main_v76 (F := Ideal) x0 x1 x2 (ix5 b n t g c) = dm (params x2 x3 x4 x5 x6) (chunk x0 x1 b n) t (col g c) := by
  pointwise [val_main_v76]
  exact (ref74 x0 x1 x2 x3 x4 x5 x6 b (pos n t) (col g c)).trans (by rw [hi_pos, lo_pos])
theorem ref81 (n : Fin 32) (t : Fin 128) (g : Fin 8) (c : Fin 256) :
    val_main_v81 (F := Ideal) x0 x1 x2 (ix5 g b n c t) = dm (params x2 x3 x4 x5 x6) (chunk x0 x1 b n) t (col g c) := by
  pointwise [val_main_v81]
  exact ref76 x0 x1 x2 x3 x4 x5 x6 b n t g c
theorem ref86 : val_main_v86 (F := Ideal) x0 x1 x2 x5 (ix3 b p j) = dv (params x2 x3 x4 x5 x6) (chunk x0 x1 b (hi p)) (lo p) j := by
  pointwise [val_main_v86, val_main_v84, val_main_v83]
  simp only [ref81 x0 x1 x2 x3 x4 x5 x6, ref56 x2 x3 x4 x5 x6]
  simp only [col_grp]
  exact Finset.sum_congr rfl fun t _ => mul_comm _ _
theorem ref94 : val_main_v94 (F := Ideal) x0 x1 x2 x3 x5 (ix3 b p j)
    = dv (params x2 x3 x4 x5 x6) (chunk x0 x1 b (hi p)) (lo p) j * (params x2 x3 x4 x5 x6).lg j := by
  pointwise [val_main_v94, val_main_v93, val_main_v46]
  rw [ref86 x0 x1 x2 x3 x4 x5 x6]; rfl

/-! ## The normalisation's gradient, as the reference computes it -/

/-- The variance's part of the gradient of a centred row: `d` the cotangent of the normalised row. -/
def varPart (f d : Fin 2048 → EReal) : EReal :=
  Ideal.div ((∑ l, cent f l * d l) * (mhalf * Ideal.div (rstd f) (var f + eps))) width
theorem ref105 : val_main_v105 (F := Ideal) x0 x1 x2 x3 x5 (ix3 b p j)
    = varPart (v0 (chunk x0 x1 b (hi p)) (lo p))
        (fun i => dv (params x2 x3 x4 x5 x6) (chunk x0 x1 b (hi p)) (lo p) i * (params x2 x3 x4 x5 x6).lg i) := by
  pointwise [val_main_v105, val_main_v104, val_main_v103, val_main_v102, val_main_v101, val_main_v98, val_main_v97, val_main_v96, val_main_v43,
    val_main_v42, val_main_v41, val_main_cst_18, val_main_cst_19, val_main_cst_20, val_main_cst_10]
  rw [Fin.sum_univ_one]
  simp only [ref32 x0, ref94 x0 x1 x2 x3 x4 x5 x6, ref39 x0, ref40 x0]; rfl
/-- The centred row's gradient, as the reference adds it up. -/
def centGrad (f d : Fin 2048 → EReal) (i : Fin 2048) : EReal := d i * rstd f + cent f i * varPart f d + varPart f d * cent f i
theorem ref109 : val_main_v109 (F := Ideal) x0 x1 x2 x3 x5 (ix3 b p j)
    = centGrad (v0 (chunk x0 x1 b (hi p)) (lo p))
        (fun i => dv (params x2 x3 x4 x5 x6) (chunk x0 x1 b (hi p)) (lo p) i * (params x2 x3 x4 x5 x6).lg i) j := by
  pointwise [val_main_v109, val_main_v108, val_main_v107, val_main_v106, val_main_v100, val_main_v99]
  rw [ref105 x0 x1 x2 x3 x4 x5 x6, ref94 x0 x1 x2 x3 x4 x5 x6, ref40 x0, ref32 x0]; rfl

variable {x0 x1 x2 x3 x4 x5 x6}
variable (hW : (params x2 x3 x4 x5 x6).Real) (hk : ∀ b n, (chunk x0 x1 b n).Real)
include hW hk

theorem ref117 : val_main_v117 (F := Ideal) x0 x1 x2 x3 x5 (ix3 b p j) = dv0 (params x2 x3 x4 x5 x6) (chunk x0 x1 b (hi p)) (lo p) j := by
  pointwise [val_main_v117, val_main_v116, val_main_v115, val_main_v114, val_main_v113, val_main_v112, val_main_v111, val_main_v110, val_main_cst_21,
    val_main_cst_22, val_main_cst_23]
  rw [Fin.sum_univ_one]
  simp only [ref109 x0 x1 x2 x3 x4 x5 x6]
  exact normBwd_eq (fun i => ((hk b (hi p)).b (lo p) i).gelu) (fun i => (real_dv hW (hk b (hi p)) (lo p) i).mul (hW.lg i)) j _ fun i => rfl
theorem ref127 : val_main_v127 (F := Ideal) x0 x1 x2 x3 x5 (ix3 b p j) = db (params x2 x3 x4 x5 x6) (chunk x0 x1 b (hi p)) (lo p) j := by
  pointwise [val_main_v127, val_main_v126, val_main_v125, val_main_v124, val_main_v123, val_main_v122, val_main_v121, val_main_v120, val_main_v119,
    val_main_v118, val_main_v25, val_main_v24, val_main_v23, val_main_v22, val_main_v21, val_main_v20, val_main_v19, val_main_v18, val_main_v17,
    val_main_v16, val_main_v15, val_main_v1, val_main_cst_2, val_main_cst_3, val_main_cst_4, val_main_cst_24, val_main_cst_25]
  rw [ref117 b p j hW hk, show x1 (ix3 b p ⟨2048 + j.val, by omega⟩) = (chunk x0 x1 b (hi p)).b (lo p) j by simp only [chunk, pos_hi_lo]]
  rw [db, ← geluBwd_eq ((hk b (hi p)).b (lo p) j) (real_dv0 hW (hk b (hi p)) (lo p) j), ← div_sqrt_two]
theorem ref137 : val_main_v137 (F := Ideal) x0 x1 x2 x3 x4 x5 x6 (ix3 b p j) = da (params x2 x3 x4 x5 x6) (chunk x0 x1 b (hi p)) (lo p) j := by
  pointwise [val_main_v137, val_main_v136, val_main_v135, val_main_v134, val_main_v133, val_main_v132, val_main_v131, val_main_v130, val_main_v129,
    val_main_v128, val_main_v13, val_main_v12, val_main_v11, val_main_v10, val_main_v9, val_main_v8, val_main_v7, val_main_v6, val_main_v5,
    val_main_v4, val_main_v3, val_main_v0, val_main_cst, val_main_cst_0, val_main_cst_1, val_main_cst_26, val_main_cst_27]
  rw [ref75 x0 x1 x2 x3 x4 x5 x6, show x1 (ix3 b p ⟨j.val, by omega⟩) = (chunk x0 x1 b (hi p)).a (lo p) j by simp only [chunk, pos_hi_lo]]
  rw [da, ← geluBwd_eq ((hk b (hi p)).a (lo p) j) (real_du hW (hk b (hi p)) (lo p) j), ← div_sqrt_two]
theorem ref73 : val_main_v73 (F := Ideal) x0 x1 x2 x3 x4 x5 x6 (ix3 b p j) = dz (params x2 x3 x4 x5 x6) (chunk x0 x1 b (hi p)) (lo p) j := by
  pointwise [val_main_v73, val_main_call3_v0, val_main_call3_v1, val_main_call3_v2, val_main_v71, val_main_v65_1, val_main_call2_v7, val_main_call2_v6,
    val_main_call2_cst_1, val_main_v2]
  rw [ref64 x0 x1 x2, ref70 x0 x1 x2 x3 x4 x5 x6, ref65_2 x0, dz, mul_comm (dq _ _ _ _),
    ← siluBwd_eq ((hk b (hi p)).z (lo p) j) ((real_y hW (hk b (hi p)) (lo p) j).mul (real_dq hW (hk b (hi p)) (lo p) j)), refZ]

/-! ## The results -/

/-- The gradient of the projected input, row by row: row `r` is position `r mod 4096` of sequence `r / 4096`. -/
theorem ref140 (r : Fin 8192) (c : Fin 6144) : val_main_v140 (F := Ideal) x0 x1 x2 x3 x4 x5 x6 (ix2 r c)
    = dproj (params x2 x3 x4 x5 x6) (chunk x0 x1 ⟨r.val / 4096, by omega⟩ (hi ⟨r.val % 4096, by omega⟩)) (lo ⟨r.val % 4096, by omega⟩) c := by
  pointwise [val_main_v140, val_main_v139, val_main_v138]
  simp only [ref137 _ _ _ hW hk, ref127 _ _ _ hW hk, ref73 _ _ _ hW hk]
  rfl

omit hW hk
variable (x0 x1 x2 x3 x4 x5 x6)

/-- A sum over positions, chunk by chunk. -/
theorem sum_pos (f : Fin 4096 → EReal) : ∑ p, f p = ∑ n, ∑ t, f (pos n t) := by
  rw [Fin.sum_univ_tiles 32 128 rfl]
theorem ref91 : val_main_v91 (F := Ideal) x0 x1 x2 x5 (ix1 j)
    = ∑ b, ∑ n, dlg (params x2 x3 x4 x5 x6) (chunk x0 x1 b n) j := by
  have hz : val_main_cst_16 (F := Ideal) (Shape.Idx.first h_S_) = 0 := by pointwise [val_main_cst_16]
  unfold val_main_v91
  refine (sum_lead2 _ _ _ j).trans ((congrArg (· + _) hz).trans ((zero_add _).trans ?_))
  simp only [sum_pos]
  refine Finset.sum_congr rfl fun b _ => Finset.sum_congr rfl fun n _ => Finset.sum_congr rfl fun t _ => ?_
  pointwise [val_main_v90]
  rw [ref86 x0 x1 x2 x3 x4 x5 x6, ref45 x0, hi_pos, lo_pos, mul_comm]
theorem ref142 : val_main_v142 (F := Ideal) x0 x1 x2 x5 (ix2 0 j)
    = ∑ b, ∑ n, dlg (params x2 x3 x4 x5 x6) (chunk x0 x1 b n) j := by
  have hz : val_main_cst_17 (F := Ideal) (Shape.Idx.first h_S_) = 0 := by pointwise [val_main_cst_17]
  have h : val_main_v95 (F := Ideal) x0 x1 x2 x5 (ix1 j) = val_main_v91 (F := Ideal) x0 x1 x2 x5 (ix1 j) := by
    unfold val_main_v95
    refine (sum_lead2 _ _ _ j).trans ((congrArg (· + _) hz).trans ((zero_add _).trans ?_))
    rw [Fin.sum_univ_one, Fin.sum_univ_one]
    pointwise [val_main_v92]
  rw [← ref91 x0 x1 x2 x3 x4 x5 x6, ← h]
  pointwise [val_main_v142]
theorem ref87 : val_main_v87 (F := Ideal) x0 x1 x2 x5 (ix1 j)
    = ∑ b, ∑ n, dlb (params x2 x3 x4 x5 x6) (chunk x0 x1 b n) j := by
  have hz : val_main_cst_14 (F := Ideal) (Shape.Idx.first h_S_) = 0 := by pointwise [val_main_cst_14]
  unfold val_main_v87
  refine (sum_lead2 _ _ _ j).trans ((congrArg (· + _) hz).trans ((zero_add _).trans ?_))
  simp only [sum_pos, ref86 x0 x1 x2 x3 x4 x5 x6, hi_pos, lo_pos]; rfl
theorem ref143 : val_main_v143 (F := Ideal) x0 x1 x2 x5 (ix2 0 j)
    = ∑ b, ∑ n, dlb (params x2 x3 x4 x5 x6) (chunk x0 x1 b n) j := by
  have hz : val_main_cst_15 (F := Ideal) (Shape.Idx.first h_S_) = 0 := by pointwise [val_main_cst_15]
  have h : val_main_v89 (F := Ideal) x0 x1 x2 x5 (ix1 j) = val_main_v87 (F := Ideal) x0 x1 x2 x5 (ix1 j) := by
    unfold val_main_v89
    refine (sum_lead2 _ _ _ j).trans ((congrArg (· + _) hz).trans ((zero_add _).trans ?_))
    rw [Fin.sum_univ_one, Fin.sum_univ_one]
    pointwise [val_main_v88]
  rw [← ref87 x0 x1 x2 x3 x4 x5 x6, ← h]
  pointwise [val_main_v143]
theorem ref141 (e : Fin 2048) (d : Fin 1024) : val_main_v141 (F := Ideal) x0 x1 x3 x4 x5 x6 (ix2 e d)
    = ∑ b, ∑ n, dwo (params x2 x3 x4 x5 x6) (chunk x0 x1 b n) e d := by
  pointwise [val_main_v141, val_main_v69, val_main_v68]
  simp only [sum_pos, ref66 x0 x1 x2, hi_pos, lo_pos]
  exact Finset.sum_congr rfl fun b _ => Finset.sum_congr rfl fun n _ => Finset.sum_congr rfl fun t _ => mul_comm _ _
theorem ref77 (g : Fin 8) (t : Fin 128) : val_main_v77 (F := Ideal) x0 x1 x2 (ix2 t g)
    = ∑ b, ∑ n, dsb (params x2 x3 x4 x5 x6) (chunk x0 x1 b n) g t := by
  have hz : val_main_cst_12 (F := Ideal) (Shape.Idx.first h_S_) = 0 := by pointwise [val_main_cst_12]
  unfold val_main_v77
  refine (sum_014 _ _ _ t g).trans ((congrArg (· + _) hz).trans ((zero_add _).trans ?_))
  exact Finset.sum_congr rfl fun b _ => Finset.sum_congr rfl fun n _ => Finset.sum_congr rfl fun c _ => ref76 x0 x1 x2 x3 x4 x5 x6 b n t g c
theorem ref80 (g : Fin 8) (t : Fin 128) : val_main_v80 (F := Ideal) x0 x1 x2 (ix2 g t)
    = ∑ b, ∑ n, dsb (params x2 x3 x4 x5 x6) (chunk x0 x1 b n) g t := by
  have hz : val_main_cst_13 (F := Ideal) (Shape.Idx.first h_S_) = 0 := by pointwise [val_main_cst_13]
  have h : val_main_v79 (F := Ideal) x0 x1 x2 (ix2 t g) = val_main_v77 (F := Ideal) x0 x1 x2 (ix2 t g) := by
    unfold val_main_v79
    refine (sum_014 _ _ _ t g).trans ((congrArg (· + _) hz).trans ((zero_add _).trans ?_))
    rw [Fin.sum_univ_one, Fin.sum_univ_one, Fin.sum_univ_one]
    pointwise [val_main_v78]
  rw [← ref77 x0 x1 x2 x3 x4 x5 x6, ← h]
  pointwise [val_main_v80]
theorem ref85 (g : Fin 8) (t s : Fin 128) : val_main_v85 (F := Ideal) x0 x1 x2 x3 x4 (ix3 g t s)
    = if s ≤ t then ∑ b, ∑ n, dsw (params x2 x3 x4 x5 x6) (chunk x0 x1 b n) g t s else 0 := by
  pointwise [val_main_v85, val_main_call4_v0, val_main_call4_cst, val_main_v82, val_main_v56_1, val_main_v55, val_main_v54, val_main_call0_v4,
    val_main_v53, val_main_call0_v5, val_main_c, val_main_call0_v0, val_main_call0_v1, val_main_call0_v2, val_main_call0_v3, val_main_call0_c,
    val_main_call0_c_0]
  rw [dot_bnc, show IntOp.addi (BitVec.ofNat 32 t.val) 0#32 = BitVec.ofNat 32 t.val from BitVec.add_zero _, tril_bit]
  simp only [ref81 x0 x1 x2 x3 x4 x5 x6, ref52 x0 x1 x2 x3 x4 x5 x6]
  by_cases h : s ≤ t
  · rw [if_pos h, if_pos h]; rfl
  · rw [if_neg h, if_neg h]; rfl

end

end Cert.Sgu

end
-- ==== Proof.Blocks.lean ====
/- What the windows read, in terms of the arguments. -/
module

public import proofs.«01_k».proof.Proof.Points
public import proofs.«01_k».proof.Proof.Ref
public import Idealize.ShloMosaic.Lib.Claim

@[expose] public section

set_option maxRecDepth 16384

noncomputable section

open Cert.KernelIdeal Cert.KernelIdeal.Gen Idealize.ShloMosaic Idealize.ShloMosaic.TcCoe Idealize.SL.Sem

namespace Cert.Sgu

variable (m : (ℓ : Loc nD τ sig) → Buf (Elt Ideal) ℓ)

/-- The kernel's arguments. -/
abbrev arg0 (c : Dev nD) : Vec Ideal S2x4096x1024 EltTy.f32 := m ((c : Thread nD τ).loc main_arg0)
abbrev arg1 (c : Dev nD) : Vec Ideal S2x4096x6144 EltTy.f32 := m ((c : Thread nD τ).loc main_arg1)
abbrev arg2 (c : Dev nD) : Vec Ideal S2048x1024 EltTy.f32 := m ((c : Thread nD τ).loc main_arg2)
abbrev arg3 (c : Dev nD) : Vec Ideal S2048 EltTy.f32 := m ((c : Thread nD τ).loc main_arg3)
abbrev arg4 (c : Dev nD) : Vec Ideal S2048 EltTy.f32 := m ((c : Thread nD τ).loc main_arg4)
abbrev arg5 (c : Dev nD) : Vec Ideal S8x128x128 EltTy.f32 := m ((c : Thread nD τ).loc main_arg5)
abbrev arg6 (c : Dev nD) : Vec Ideal S8x128 EltTy.f32 := m ((c : Thread nD τ).loc main_arg6)

/-- The block that each window reads at point `t`. -/
theorem idx (t : Fin cfg0.N) : win0_0.index t = ![t.val, 0] ∧ win0_1.index t = ![t.val, 0] ∧ win0_2.index t = ![t.val, 1]
    ∧ win0_3.index t = ![t.val, 2] ∧ win0_4.index t = ![0, 0] ∧ win0_5.index t = ![0, 0] ∧ win0_6.index t = ![0, 0]
    ∧ win0_7.index t = ![0, 0, 0] ∧ win0_8.index t = ![0, 0, 0] ∧ win0_9.index t = ![0, 0] :=
  (by decide +kernel : ∀ t : Fin cfg0.N, win0_0.index t = ![t.val, 0] ∧ win0_1.index t = ![t.val, 0] ∧ win0_2.index t = ![t.val, 1]
    ∧ win0_3.index t = ![t.val, 2] ∧ win0_4.index t = ![0, 0] ∧ win0_5.index t = ![0, 0] ∧ win0_6.index t = ![0, 0]
    ∧ win0_7.index t = ![0, 0, 0] ∧ win0_8.index t = ![0, 0, 0] ∧ win0_9.index t = ![0, 0]) t

/-- The batch entry and the chunk that half `h` of the block of point `t` is. -/
abbrev bat (t : Fin cfg0.N) (h : Fin 2) : Fin 2 := ⟨(2 * t.val + h.val) / 32, by have := lt_of_lt_of_eq t.isLt N_0; omega⟩
abbrev chk (t : Fin cfg0.N) (h : Fin 2) : Fin 32 := ⟨(2 * t.val + h.val) % 32, by omega⟩

theorem blk0 (c : Dev nD) (t : Fin cfg0.N) (h : Fin 2) (p : Fin 128) (d : Fin 1024) :
    (iblk m c 0 t : Vec Ideal S256x1024 EltTy.f32) (ix2 (brow h p) d) = arg0 m c (ix3 (bat t h) (pos (chk t h) p) d) := by
  have hN : t.val < 32 := lt_of_lt_of_eq t.isLt N_0
  blk_point [iblk, V, idx t]
theorem blk1 (c : Dev nD) (t : Fin cfg0.N) (h : Fin 2) (p : Fin 128) (j : Fin 2048) :
    (iblk m c 1 t : Vec Ideal S256x2048 EltTy.f32) (ix2 (brow h p) j) = arg1 m c (ix3 (bat t h) (pos (chk t h) p) (third0 j)) := by
  have hN : t.val < 32 := lt_of_lt_of_eq t.isLt N_0
  blk_point [iblk, V, idx t]
theorem blk2 (c : Dev nD) (t : Fin cfg0.N) (h : Fin 2) (p : Fin 128) (j : Fin 2048) :
    (iblk m c 2 t : Vec Ideal S256x2048 EltTy.f32) (ix2 (brow h p) j) = arg1 m c (ix3 (bat t h) (pos (chk t h) p) (third1 j)) := by
  have hN : t.val < 32 := lt_of_lt_of_eq t.isLt N_0
  blk_point [iblk, V, idx t]
theorem blk3 (c : Dev nD) (t : Fin cfg0.N) (h : Fin 2) (p : Fin 128) (j : Fin 2048) :
    (iblk m c 3 t : Vec Ideal S256x2048 EltTy.f32) (ix2 (brow h p) j) = arg1 m c (ix3 (bat t h) (pos (chk t h) p) (third2 j)) := by
  have hN : t.val < 32 := lt_of_lt_of_eq t.isLt N_0
  blk_point [iblk, V, idx t]
theorem blk4 (c : Dev nD) (t : Fin cfg0.N) (e : Fin 2048) (d : Fin 1024) :
    (iblk m c 4 t : Vec Ideal S2048x1024 EltTy.bf16) (ix2 e d) = arg2 m c (ix2 e d) := by
  blk_ext [iblk, V, idx t]
theorem blk5 (c : Dev nD) (t : Fin cfg0.N) (j : Fin 2048) :
    (iblk m c 5 t : Vec Ideal S1x2048 EltTy.f32) (ix2 0 j) = arg3 m c (ix1 j) := by
  blk_point [iblk, V, idx t]
theorem blk6 (c : Dev nD) (t : Fin cfg0.N) (j : Fin 2048) :
    (iblk m c 6 t : Vec Ideal S1x2048 EltTy.f32) (ix2 0 j) = arg4 m c (ix1 j) := by
  blk_point [iblk, V, idx t]
theorem blk7 (c : Dev nD) (t : Fin cfg0.N) (g : Fin 8) (r s : Fin 128) :
    (iblk m c 7 t : Vec Ideal S8x128x128 EltTy.f32) (ix3 g r s) = arg5 m c (ix3 g r s) := by
  blk_ext [iblk, V, idx t]
theorem blk8 (c : Dev nD) (t : Fin cfg0.N) (g : Fin 8) (r s : Fin 128) :
    (iblk m c 8 t : Vec Ideal S8x128x128 EltTy.f32) (ix3 g s r) = arg5 m c (ix3 g r s) := by
  blk_point [iblk, V, idx t]
theorem blk9 (c : Dev nD) (t : Fin cfg0.N) (g : Fin 8) (r : Fin 128) :
    (iblk m c 9 t : Vec Ideal S128x8 EltTy.f32) (ix2 r g) = arg6 m c (ix2 g r) := by
  blk_point [iblk, V, idx t]

/-- Every point reads the same parameters, and the two chunks of its block. -/
theorem PW_eq (c : Dev nD) (t : Fin cfg0.N) : PW m c t = params (arg2 m c) (arg3 m c) (arg4 m c) (arg5 m c) (arg6 m c) := by
  unfold PW bparams params
  congr 1
  · exact funext fun e => funext fun d => blk4 m c t e d
  · exact funext fun j => blk5 m c t j
  · exact funext fun j => blk6 m c t j
  · exact funext fun g => funext fun r => funext fun s => blk7 m c t g r s
  · exact funext fun g => funext fun s => funext fun r => blk8 m c t g r s
  · exact funext fun g => funext fun r => blk9 m c t g r
theorem PK_eq (c : Dev nD) (t : Fin cfg0.N) (h : Fin 2) : PK m c t h = chunk (arg0 m c) (arg1 m c) (bat t h) (chk t h) := by
  unfold PK bchunk chunk
  congr 1
  · exact funext fun p => funext fun d => blk0 m c t h p d
  · exact funext fun p => funext fun j => blk1 m c t h p j
  · exact funext fun p => funext fun j => blk2 m c t h p j
  · exact funext fun p => funext fun j => blk3 m c t h p j

end Cert.Sgu

end
-- ==== Proof.Mixing.lean ====
/- What the body leaves after each point of the grid, component by component: the point's block of the gradient of the
   projected input, and the running sums of the gradients of the parameters. -/
module

public import proofs.«01_k».proof.Proof.Points
public import proofs.«01_k».proof.Proof.Ref

@[expose] public section

set_option maxRecDepth 16384

noncomputable section

open Cert.KernelIdeal Cert.KernelIdeal.Gen Idealize.ShloMosaic Idealize.ShloMosaic.TcCoe Idealize.SL.Sem

namespace Cert.Sgu

variable (m : (ℓ : Loc nD τ sig) → Buf (Elt Ideal) ℓ)

/-- The mask of the lower triangle, as a case distinction. -/
theorem select_tril (r s : Fin 128) (a b : EReal) :
    Scalar.select (IntOp.cmpi CmpIPredicate.sge (BitVec.ofNat 32 r.val) (BitVec.ofNat 32 s.val)) a b = if s ≤ r then a else b := by
  rw [tril_bit]
  split <;> rfl

/-- The first of the eight equal rows of a group's block, read back. -/
theorem read_row (o : Fin 3 → ℕ) (i : ∀ a, o a + S1x8x128.size a ≤ S8x8x128.size a) (i' : ∀ a, o a + S1x1x128.size a ≤ S8x8x128.size a)
    (w : Vec Ideal S1x8x128 EltTy.f32) (L : List (View.Piece (Elt Ideal) S8x8x128 EltTy.f32)) :
    (View.whole cc0_scratch2).readCov ((⟨Rect.unit (s := S8x8x128) o S1x8x128.size i, w⟩ : View.Piece (Elt Ideal) S8x8x128 EltTy.f32) :: L)
        (Rect.unit (s := S8x8x128) o S1x1x128.size i').toLoadRect
      = fun ix : S1x1x128.Idx => w (ix3 0 0 (ix 2)) := by
  rw [View.readCov_eq_canon']
  funext ix
  refine Eq.trans (congrArg _ ?_) (View.canon_cons_emb (Rect.unit (s := S8x8x128) o S1x8x128.size i) w L (ix3 0 0 (ix 2)))
  obtain ⟨a, b, k, rfl⟩ : ∃ a b k, ix = ix3 a b k := ⟨ix 0, ix 1, ix 2, eq_ix3 ix⟩
  funext d
  refine Fin.ext ?_
  have ha := a.isLt
  have hb := b.isLt
  fin_cases d
  · show o 0 + 1 * a.val = o 0 + 1 * 0; omega
  · show o 1 + 1 * b.val = o 1 + 1 * 0; omega
  · rfl

theorem sw_A (c : Dev nD) (t : Fin cfg0.N) (h0 : t.val % 32 = 0) (h1 : ¬t.val % 32 = 31) (g : Fin 8) (r s : Fin 128) :
    (outsAt0 m c t.val t.isLt).2.2.1 (ix3 g r s) = k0_pay21 (F := Ideal) (ix3 g r s)
      + (dsw (PW m c t) (PK m c t 0) g r s + dsw (PW m c t) (PK m c t 1) g r s) := by
  rw [outsAt0_A m c t h0 h1]
  frame_open
  simp (disch := decide) only [↓ View.readCov_skip, ↓ View.readCov_cons_toLoadRect, ↓ View.readCov_fill]
  frame_out
  rw [canon_shadow8, canon_tail8]
  case h => exact rfl
  canon_tiles x h
  all_goals
    obtain ⟨q, r', s', rfl⟩ : ∃ q r' s', x = ix3 q r' s' := ⟨x 0, x 1, x 2, eq_ix3 x⟩
    simp only [ix3_0, ix3_1, ix3_2] at h0 h1 h2
    have hq := q.isLt
    obtain rfl : r' = r := Fin.ext h1.symm
    obtain rfl : s' = s := Fin.ext h2.symm
    clear x0_lt x1_lt x2_lt
    pointwise [k0_pay167, k0_pay165, k0_pay161, k0_pay159, k0_pay156, k0_pay155, k0_pay151, k0_pay153, k0_pay149, k0_pay146, k0_pay144, k0_pay141, k0_pay139, k0_pay136, k0_pay135, k0_pay133, k0_pay131, k0_pay129, k0_pay128, k0_pay125, k0_pay123, k0_pay121, k0_pay119, k0_pay116, k0_pay115, k0_pay114, k0_pay112, k0_pay110, k0_pay108, k0_pay104, k0_pay102, k0_pay100, k0_pay98, k0_pay95, k0_pay94, k0_pay93, k0_pay91, k0_pay89, k0_pay87]
    simp (disch := omega) only [blkDm_eq m c t, blkV_eq m c t, colOf_mk g, colOf_mk0 g]
    refine dsw_close m c t (k0_pay21 (F := Ideal)) g _ r' s' _ _ _ _ ?_ ?_ ?_ ?_ ?_ <;> (try dsimp only) <;> omega

theorem sw_B (c : Dev nD) (t : Fin cfg0.N) (h0 : ¬t.val % 32 = 0) (h1 : ¬t.val % 32 = 31) (g : Fin 8) (r s : Fin 128) :
    (outsAt0 m c t.val t.isLt).2.2.1 (ix3 g r s) = (outsAt0 m c (t.val - 1) (by omega)).2.2.1 (ix3 g r s)
      + (dsw (PW m c t) (PK m c t 0) g r s + dsw (PW m c t) (PK m c t 1) g r s) := by
  rw [outsAt0_B m c t h0 h1]
  frame_open
  simp (disch := decide) only [↓ View.readCov_skip, ↓ View.readCov_cons_toLoadRect, ↓ View.readCov_fill]
  frame_out
  rw [canon_shadow8]
  canon_tiles x h
  all_goals
    obtain ⟨q, r', s', rfl⟩ : ∃ q r' s', x = ix3 q r' s' := ⟨x 0, x 1, x 2, eq_ix3 x⟩
    simp only [ix3_0, ix3_1, ix3_2] at h0 h1 h2
    have hq := q.isLt
    obtain rfl : r' = r := Fin.ext h1.symm
    obtain rfl : s' = s := Fin.ext h2.symm
    clear x0_lt x1_lt x2_lt
    pointwise [k0_pay167, k0_pay165, k0_pay161, k0_pay159, k0_pay156, k0_pay155, k0_pay151, k0_pay153, k0_pay149, k0_pay146, k0_pay144, k0_pay141, k0_pay139, k0_pay136, k0_pay135, k0_pay133, k0_pay131, k0_pay129, k0_pay128, k0_pay125, k0_pay123, k0_pay121, k0_pay119, k0_pay116, k0_pay115, k0_pay114, k0_pay112, k0_pay110, k0_pay108, k0_pay104, k0_pay102, k0_pay100, k0_pay98, k0_pay95, k0_pay94, k0_pay93, k0_pay91, k0_pay89, k0_pay87]
    simp (disch := omega) only [blkDm_eq m c t, blkV_eq m c t, colOf_mk g, colOf_mk0 g]
    refine dsw_close m c t (outsAt0 m c (t.val - 1) (by omega)).2.2.1 g _ r' s' _ _ _ _ ?_ ?_ ?_ ?_ ?_ <;> (try dsimp only) <;> omega

theorem sw_C (c : Dev nD) (t : Fin cfg0.N) (h0 : ¬t.val % 32 = 0) (h1 : t.val % 32 = 31) (g : Fin 8) (r s : Fin 128) :
    (outsAt0 m c t.val t.isLt).2.2.1 (ix3 g r s) = if s ≤ r then (outsAt0 m c (t.val - 1) (by omega)).2.2.1 (ix3 g r s)
      + (dsw (PW m c t) (PK m c t 0) g r s + dsw (PW m c t) (PK m c t 1) g r s) else 0 := by
  rw [outsAt0_C m c t h0 h1]
  frame_open
  simp (disch := decide) only [↓ View.readCov_skip, ↓ View.readCov_cons_toLoadRect, ↓ View.readCov_fill]
  frame_out
  rw [canon_tail8]
  case h => exact rfl
  canon_tiles x h
  all_goals
    obtain ⟨q, r', s', rfl⟩ : ∃ q r' s', x = ix3 q r' s' := ⟨x 0, x 1, x 2, eq_ix3 x⟩
    simp only [ix3_0, ix3_1, ix3_2] at h0 h1 h2
    have hq := q.isLt
    obtain rfl : r' = r := Fin.ext h1.symm
    obtain rfl : s' = s := Fin.ext h2.symm
    clear x0_lt x1_lt x2_lt
    pointwise [k0_pay3, k0_pay18, k0_pay16, k0_pay14, k0_pay12, k0_pay10, k0_pay8, k0_pay6, k0_pay83, k0_pay167, k0_pay165, k0_pay161, k0_pay159, k0_pay156, k0_pay155, k0_pay151, k0_pay153, k0_pay149, k0_pay146, k0_pay144, k0_pay141, k0_pay139, k0_pay136, k0_pay135, k0_pay133, k0_pay131, k0_pay129, k0_pay128, k0_pay125, k0_pay123, k0_pay121, k0_pay119, k0_pay116, k0_pay115, k0_pay114, k0_pay112, k0_pay110, k0_pay108, k0_pay104, k0_pay102, k0_pay100, k0_pay98, k0_pay95, k0_pay94, k0_pay93, k0_pay91, k0_pay89, k0_pay87]
    simp (disch := omega) only [blkDm_eq m c t, blkV_eq m c t, colOf_mk g, colOf_mk0 g]
    rw [select_tril]
    refine congrArg (fun z => ite (s' ≤ r') z (0 : EReal)) ?_
    refine dsw_close m c t (outsAt0 m c (t.val - 1) (by omega)).2.2.1 g _ r' s' _ _ _ _ ?_ ?_ ?_ ?_ ?_ <;> (try dsimp only) <;> omega

theorem sb_A (c : Dev nD) (t : Fin cfg0.N) (h0 : t.val % 32 = 0) (h1 : ¬t.val % 32 = 31) (g q : Fin 8) (r : Fin 128) :
    (outsAt0 m c t.val t.isLt).2.2.2.2.2.2.1 (ix3 g q r) = k0_pay22 (F := Ideal) (ix3 g q r)
      + (dsb (PW m c t) (PK m c t 0) g r + dsb (PW m c t) (PK m c t 1) g r) := by
  rw [outsAt0_A m c t h0 h1]
  frame_open
  simp (disch := decide) only [↓ View.readCov_skip, ↓ View.readCov_cons_toLoadRect, ↓ View.readCov_fill]
  frame_out
  rw [canon_shadow8, canon_tail8]
  case h => exact rfl
  canon_tiles x h
  all_goals
    obtain ⟨p', q', r', rfl⟩ : ∃ p' q' r', x = ix3 p' q' r' := ⟨x 0, x 1, x 2, eq_ix3 x⟩
    simp only [ix3_0, ix3_1, ix3_2] at h0 h1 h2
    have hp := p'.isLt
    obtain rfl : q' = q := Fin.ext h1.symm
    obtain rfl : r' = r := Fin.ext h2.symm
    clear x0_lt x1_lt x2_lt
    pointwise [k0_pay168, k0_pay164, k0_pay163, k0_pay162, k0_pay157, k0_pay153, k0_pay152, k0_pay147, k0_pay143, k0_pay142, k0_pay137, k0_pay132, k0_pay126, k0_pay122, k0_pay117, k0_pay90, k0_pay96, k0_pay101, k0_pay105, k0_pay111, k0_pay85, k0_pay87, k0_pay91, k0_pay98, k0_pay102, k0_pay108, k0_pay112, k0_pay119, k0_pay123, k0_pay129, k0_pay133, k0_pay139, k0_pay144, k0_pay149, k0_pay153, k0_pay159, k0_pay165]
    simp (disch := omega) only [blkDm_eq m c t, one_mul, colOf_mk g, colOf_mk0 g]
    refine dsb_close m c t (k0_pay22 (F := Ideal)) g _ q' r' _ _ ?_ ?_ ?_ <;> (try dsimp only) <;> omega

theorem sb_B (c : Dev nD) (t : Fin cfg0.N) (h0 : ¬t.val % 32 = 0) (h1 : ¬t.val % 32 = 31) (g q : Fin 8) (r : Fin 128) :
    (outsAt0 m c t.val t.isLt).2.2.2.2.2.2.1 (ix3 g q r) = (outsAt0 m c (t.val - 1) (by omega)).2.2.2.2.2.2.1 (ix3 g q r)
      + (dsb (PW m c t) (PK m c t 0) g r + dsb (PW m c t) (PK m c t 1) g r) := by
  rw [outsAt0_B m c t h0 h1]
  frame_open
  simp (disch := decide) only [↓ View.readCov_skip, ↓ View.readCov_cons_toLoadRect, ↓ View.readCov_fill]
  frame_out
  rw [canon_shadow8]
  canon_tiles x h
  all_goals
    obtain ⟨p', q', r', rfl⟩ : ∃ p' q' r', x = ix3 p' q' r' := ⟨x 0, x 1, x 2, eq_ix3 x⟩
    simp only [ix3_0, ix3_1, ix3_2] at h0 h1 h2
    have hp := p'.isLt
    obtain rfl : q' = q := Fin.ext h1.symm
    obtain rfl : r' = r := Fin.ext h2.symm
    clear x0_lt x1_lt x2_lt
    pointwise [k0_pay168, k0_pay164, k0_pay163, k0_pay162, k0_pay157, k0_pay153, k0_pay152, k0_pay147, k0_pay143, k0_pay142, k0_pay137, k0_pay132, k0_pay126, k0_pay122, k0_pay117, k0_pay90, k0_pay96, k0_pay101, k0_pay105, k0_pay111, k0_pay85, k0_pay87, k0_pay91, k0_pay98, k0_pay102, k0_pay108, k0_pay112, k0_pay119, k0_pay123, k0_pay129, k0_pay133, k0_pay139, k0_pay144, k0_pay149, k0_pay153, k0_pay159, k0_pay165]
    rw [read_unread_whole]
    simp (disch := omega) only [blkDm_eq m c t, one_mul, colOf_mk g, colOf_mk0 g]
    refine dsb_close m c t (outsAt0 m c (t.val - 1) (by omega)).2.2.2.2.2.2.1 g _ q' r' _ _ ?_ ?_ ?_ <;> (try dsimp only) <;> omega

theorem dsb_C (c : Dev nD) (t : Fin cfg0.N) (h0 : ¬t.val % 32 = 0) (h1 : t.val % 32 = 31) (g : Fin 8) (r : Fin 128) :
    (outsAt0 m c t.val t.isLt).2.2.2.1 (ix2 g r) = (outsAt0 m c (t.val - 1) (by omega)).2.2.2.2.2.2.1 (ix3 g 0 r)
      + (dsb (PW m c t) (PK m c t 0) g r + dsb (PW m c t) (PK m c t 1) g r) := by
  rw [outsAt0_C m c t h0 h1]
  frame_open
  simp (disch := decide) only [↓ View.readCov_skip, ↓ View.readCov_cons_toLoadRect, ↓ View.readCov_fill]
  frame_out
  canon_tiles x h
  all_goals
    obtain ⟨q', r', rfl⟩ : ∃ q' r', x = ix2 q' r' := ⟨x 0, x 1, eq_ix2 x⟩
    simp only [ix2_0, ix2_1] at h0 h1
    have hq := q'.isLt
    obtain rfl : r' = r := Fin.ext h1.symm
    clear x0_lt x1_lt
    rw [read_row]
    pointwise [k0_pay4, k0_pay19, k0_pay17, k0_pay15, k0_pay13, k0_pay11, k0_pay9, k0_pay7]
    pointwise [k0_pay168, k0_pay164, k0_pay163, k0_pay162, k0_pay157, k0_pay153, k0_pay152, k0_pay147, k0_pay143, k0_pay142, k0_pay137, k0_pay132, k0_pay126, k0_pay122, k0_pay117, k0_pay90, k0_pay96, k0_pay101, k0_pay105, k0_pay111, k0_pay85, k0_pay87, k0_pay91, k0_pay98, k0_pay102, k0_pay108, k0_pay112, k0_pay119, k0_pay123, k0_pay129, k0_pay133, k0_pay139, k0_pay144, k0_pay149, k0_pay153, k0_pay159, k0_pay165]
    rw [read_unread_whole]
    simp (disch := omega) only [blkDm_eq m c t, one_mul, colOf_mk g, colOf_mk0 g]
    refine dsb_close m c t (outsAt0 m c (t.val - 1) (by omega)).2.2.2.2.2.2.1 g _ 0 r' _ _ ?_ ?_ ?_ <;> (try dsimp only) <;> omega

end Cert.Sgu

end
-- ==== Proof.Sums.lean ====
/- The sums over the points of the grid, and what the six result arrays hold after the run. -/
module

public import proofs.«01_k».proof.Proof.Blocks
public import proofs.«01_k».proof.Proof.Mixing
public import proofs.«01_k».proof.Proof.Gen.KernelIdeal.Value

@[expose] public section

set_option maxRecDepth 16384

noncomputable section

open Cert.KernelIdeal Cert.KernelIdeal.Gen Idealize.ShloMosaic Idealize.ShloMosaic.TcCoe Idealize.SL.Sem

namespace Cert.Sgu

variable (m : (ℓ : Loc nD τ sig) → Buf (Elt Ideal) ℓ)

/-- A running sum that starts at the first point and gains each point's share. -/
theorem fold_sum {N : ℕ} (f : (n : ℕ) → n < N → EReal) (T : Fin N → EReal) (last : ℕ) (h0 : ∀ h, f 0 h = T ⟨0, h⟩)
    (hs : ∀ n h, n + 1 < last → f (n + 1) h = f n (by omega) + T ⟨n + 1, h⟩) :
    ∀ n h, n < last → f n h = ∑ k : Fin (n + 1), T ⟨k.val, by omega⟩
  | 0, h, _ => by rw [h0, Fin.sum_univ_one]; rfl
  | n + 1, h, hl => by
    rw [hs n h hl, fold_sum f T last h0 hs n (by omega) (by omega)]
    exact (Fin.sum_univ_castSucc fun k : Fin (n + 1 + 1) => T ⟨k.val, by omega⟩).symm

/-- The last point's gain completes the sum over the grid. -/
theorem fold_last (f : (n : ℕ) → n < cfg0.N → EReal) (T : Fin cfg0.N → EReal) (h0 : ∀ h, f 0 h = T ⟨0, h⟩)
    (hs : ∀ n h, n + 1 < 31 → f (n + 1) h = f n (by omega) + T ⟨n + 1, h⟩) (x : EReal)
    (hx : x = f 30 (lt_of_lt_of_eq (by decide) N_0.symm) + T ⟨31, lt_of_lt_of_eq (by decide) N_0.symm⟩) : x = ∑ t, T t := by
  rw [hx, fold_sum f T 31 h0 hs 30 _ (by omega)]
  refine (Fin.sum_univ_castSucc fun k : Fin 32 => T ⟨k.val, lt_of_lt_of_eq k.isLt N_0.symm⟩).symm.trans ?_
  exact Fintype.sum_equiv (finCongr N_0.symm) _ _ fun k => rfl

/-- The sum over the points and the halves of their blocks is the sum over the chunks. -/
theorem sum_chunks (F : Fin 2 → Fin 32 → EReal) :
    ∑ t : Fin cfg0.N, (F (bat t 0) (chk t 0) + F (bat t 1) (chk t 1)) = ∑ b, ∑ n, F b n := by
  have l : ∑ q : Fin 64, F ⟨q.val / 32, by omega⟩ ⟨q.val % 32, by omega⟩ = ∑ b, ∑ n, F b n := by
    rw [Fin.sum_univ_tiles 2 32 rfl]
    refine Finset.sum_congr rfl fun b _ => Finset.sum_congr rfl fun n _ => ?_
    exact congrArg₂ F (Fin.ext (by simp; try omega)) (Fin.ext (by simp; try omega))
  rw [← l, Fin.sum_univ_tiles 32 2 rfl]
  refine Fintype.sum_equiv (finCongr N_0) _ _ fun t => ?_
  rw [Fin.sum_univ_two]
  refine congrArg₂ (· + ·) (congrArg₂ F ?_ ?_) (congrArg₂ F ?_ ?_) <;> refine Fin.ext ?_ <;> simp <;> omega

/-- The sum over the grid of a share that depends on the parameters and on the chunk. -/
theorem sum_shares (c : Dev nD) (S : Params → Chunk → EReal) :
    ∑ t : Fin cfg0.N, (S (PW m c t) (PK m c t 0) + S (PW m c t) (PK m c t 1))
      = ∑ b, ∑ n, S (params (arg2 m c) (arg3 m c) (arg4 m c) (arg5 m c) (arg6 m c)) (chunk (arg0 m c) (arg1 m c) b n) := by
  simp only [PW_eq, PK_eq]
  exact sum_chunks fun b n => S (params (arg2 m c) (arg3 m c) (arg4 m c) (arg5 m c) (arg6 m c)) (chunk (arg0 m c) (arg1 m c) b n)

/-- A component of what the body leaves that starts at zero and gains each point's share, `y` what the last point makes of it. -/
theorem comp_sum (c : Dev nD) (C : (n : ℕ) → n < cfg0.N → EReal) (S : Params → Chunk → EReal) (z : EReal) (hz : z = 0)
    (hA : ∀ t : Fin cfg0.N, t.val % 32 = 0 → ¬t.val % 32 = 31 → C t.val t.isLt = z + (S (PW m c t) (PK m c t 0) + S (PW m c t) (PK m c t 1)))
    (hB : ∀ t : Fin cfg0.N, ¬t.val % 32 = 0 → ¬t.val % 32 = 31 →
      C t.val t.isLt = C (t.val - 1) (by omega) + (S (PW m c t) (PK m c t 0) + S (PW m c t) (PK m c t 1)))
    (tl : Fin cfg0.N) (htl : tl.val = 31) (x : EReal) (hx : x = C (tl.val - 1) (by omega) + (S (PW m c tl) (PK m c tl 0) + S (PW m c tl) (PK m c tl 1))) :
    x = ∑ b, ∑ n, S (params (arg2 m c) (arg3 m c) (arg4 m c) (arg5 m c) (arg6 m c)) (chunk (arg0 m c) (arg1 m c) b n) := by
  have hN : cfg0.N = 32 := N_0
  obtain rfl : tl = ⟨31, lt_of_lt_of_eq (by decide) N_0.symm⟩ := Fin.ext htl
  rw [← sum_shares]
  refine fold_last C _ (fun h => ?_) (fun n h hn => ?_) x hx
  · rw [hA ⟨0, h⟩ (by rfl) (by show ¬0 % 32 = 31; omega), hz, zero_add]
  · exact hB ⟨n + 1, h⟩ (by show ¬(n + 1) % 32 = 0; omega) (by show ¬(n + 1) % 32 = 31; omega)

/-- The last point of the grid, and the state that it leaves. -/
theorem last_point : ∃ tl : Fin cfg0.N, tl.val = 31 := ⟨⟨31, lt_of_lt_of_eq (by decide) N_0.symm⟩, rfl⟩
theorem last_state (c : Dev nD) (tl : Fin cfg0.N) (h : tl.val = 31) (h') :
    Pipeline.accAt (fun n h => Value.stAt0 m c n h Value.junk0) (Value.stAt0 m c) 0 31 h' = outsAt0 m c tl.val tl.isLt := by
  rw [Value.outsAt0_sweep]
  congr 1
  exact h.symm

/-- The parameters and the chunks of the kernel's arguments. -/
abbrev argParams (c : Dev nD) : Params := params (arg2 m c) (arg3 m c) (arg4 m c) (arg5 m c) (arg6 m c)
abbrev argChunk (c : Dev nD) (b : Fin 2) (n : Fin 32) : Chunk := chunk (arg0 m c) (arg1 m c) b n

/-- The gradient of the projected input. -/
theorem G10_at (c : Dev nD) (r : Fin 8192) (k : Fin 6144) :
    (Value.G10 m c (ix2 r k) : EReal) = dproj (argParams m c) (argChunk m c ⟨r.val / 4096, by omega⟩ (hi ⟨r.val % 4096, by omega⟩)) (lo ⟨r.val % 4096, by omega⟩) k := by
  have hp : Value.pt10Of (ix2 r k) = r.val / 256 := by
    show 1 * (r.val / 256 - 0) + 1 * (k.val / 6144 - 0) = _
    omega
  have hN : cfg0.N = 32 := N_0
  unfold Value.G10
  rw [dif_pos (by rw [hp]; omega), ← Value.outsAt0_sweep m c _ (by rw [hp]; omega)]
  obtain ⟨t, ht⟩ : ∃ t : Fin cfg0.N, t.val = r.val / 256 := ⟨⟨r.val / 256, by omega⟩, rfl⟩
  have hl : Value.loc10Of (ix2 r k) = ix2 (⟨r.val % 256, by omega⟩ : Fin 256) k := by
    funext a
    refine Fin.ext ?_
    fin_cases a
    · rfl
    · exact Nat.mod_eq_of_lt k.isLt
  have e : (outsAt0 m c t.val t.isLt).1 (ix2 (⟨r.val % 256, by omega⟩ : Fin 256) k)
      = dproj (PW m c t) (PK m c t (ch ⟨r.val % 256, by omega⟩)) (tk ⟨r.val % 256, by omega⟩) k := by
    by_cases h0 : t.val % 32 = 0
    · exact proj_A m c t h0 (by omega) _ k
    · by_cases h1 : t.val % 32 = 31
      · exact proj_C m c t h0 h1 _ k
      · exact proj_B m c t h0 h1 _ k
  rw [hl]
  simp only [hp, ← ht]
  rw [e, PW_eq, PK_eq]
  congr 1
  · congr 1 <;> refine Fin.ext ?_ <;> simp [ht] <;> omega
  · exact Fin.ext (by simp)

/-- The gradient of the output projection. -/
theorem G11_at (c : Dev nD) (e : Fin 2048) (d : Fin 1024) :
    (Value.G11 m c (ix2 e d) : EReal) = ∑ b, ∑ n, dwo (argParams m c) (argChunk m c b n) e d := by
  obtain ⟨tl, htl⟩ := last_point
  rw [Value.G11_last, last_state m c tl htl]
  refine comp_sum m c (fun n h => (outsAt0 m c n h).2.2.2.2.2.2.2 (ix2 e d)) (fun P K => dwo P K e d) (k0_pay20 (F := Ideal) (ix2 e d)) ?_
    (fun t h0 h1 => wo_A m c t h0 h1 e d) (fun t h0 h1 => wo_B m c t h0 h1 e d) tl htl _ (wo_C m c tl (by omega) (by omega) e d)
  pointwise [k0_pay20]

/-- The gradient of the mixing weights. -/
theorem G12_at (c : Dev nD) (g : Fin 8) (r s : Fin 128) :
    (Value.G12 m c (ix3 g r s) : EReal) = if s ≤ r then ∑ b, ∑ n, dsw (argParams m c) (argChunk m c b n) g r s else 0 := by
  obtain ⟨tl, htl⟩ := last_point
  rw [Value.G12_last, last_state m c tl htl]
  rw [sw_C m c tl (by omega) (by omega) g r s]
  refine if_congr Iff.rfl ?_ rfl
  have key : ∀ x : EReal, x = (outsAt0 m c (tl.val - 1) (by omega)).2.2.1 (ix3 g r s)
      + (dsw (PW m c tl) (PK m c tl 0) g r s + dsw (PW m c tl) (PK m c tl 1) g r s) → x = ∑ b, ∑ n, dsw (argParams m c) (argChunk m c b n) g r s := by
    intro x hx
    refine comp_sum m c (fun n h => (outsAt0 m c n h).2.2.1 (ix3 g r s)) (fun P K => dsw P K g r s) (k0_pay21 (F := Ideal) (ix3 g r s)) ?_
      (fun t h0 h1 => sw_A m c t h0 h1 g r s) (fun t h0 h1 => sw_B m c t h0 h1 g r s) tl htl x hx
    pointwise [k0_pay21]
  exact key _ rfl

/-- The gradient of the mixing bias. -/
theorem G13_at (c : Dev nD) (g : Fin 8) (r : Fin 128) :
    (Value.G13 m c (ix2 g r) : EReal) = ∑ b, ∑ n, dsb (argParams m c) (argChunk m c b n) g r := by
  obtain ⟨tl, htl⟩ := last_point
  rw [Value.G13_last, last_state m c tl htl]
  refine comp_sum m c (fun n h => (outsAt0 m c n h).2.2.2.2.2.2.1 (ix3 g 0 r)) (fun P K => dsb P K g r) (k0_pay22 (F := Ideal) (ix3 g 0 r)) ?_
    (fun t h0 h1 => sb_A m c t h0 h1 g 0 r) (fun t h0 h1 => sb_B m c t h0 h1 g 0 r) tl htl _ (dsb_C m c tl (by omega) (by omega) g r)
  pointwise [k0_pay22]

/-- The gradients of the scale and of the shift of the gate's normalisation. -/
theorem G14_at (c : Dev nD) (j : Fin 2048) :
    (Value.G14 m c (ix2 0 j) : EReal) = ∑ b, ∑ n, dlg (argParams m c) (argChunk m c b n) j := by
  obtain ⟨tl, htl⟩ := last_point
  rw [Value.G14_last, last_state m c tl htl]
  refine comp_sum m c (fun n h => (outsAt0 m c n h).2.2.2.2.1 (ix2 0 j)) (fun P K => dlg P K j) (k0_pay23 (F := Ideal) (ix2 0 j)) ?_
    (fun t h0 h1 => lg_A m c t h0 h1 j) (fun t h0 h1 => lg_B m c t h0 h1 j) tl htl _ (lg_C m c tl (by omega) (by omega) j)
  pointwise [k0_pay23]
theorem G15_at (c : Dev nD) (j : Fin 2048) :
    (Value.G15 m c (ix2 0 j) : EReal) = ∑ b, ∑ n, dlb (argParams m c) (argChunk m c b n) j := by
  obtain ⟨tl, htl⟩ := last_point
  rw [Value.G15_last, last_state m c tl htl]
  refine comp_sum m c (fun n h => (outsAt0 m c n h).2.2.2.2.2.1 (ix2 0 j)) (fun P K => dlb P K j) (k0_pay24 (F := Ideal) (ix2 0 j)) ?_
    (fun t h0 h1 => lb_A m c t h0 h1 j) (fun t h0 h1 => lb_B m c t h0 h1 j) tl htl _ (lb_C m c tl (by omega) (by omega) j)
  pointwise [k0_pay24]

end Cert.Sgu

end
-- ==== Proof.Finite.lean ====
/- The precondition, read: every entry of every argument lies strictly between the two infinities, so it is a real. -/
module

public import proofs.«01_k».proof.Defs
public import proofs.«01_k».proof.Proof.Sums
public import Idealize.ShloMosaic.Lib.ReduceAll

@[expose] public section

set_option maxRecDepth 16384

noncomputable section

open Idealize.ShloMosaic Idealize.ShloMosaic.TcCoe Idealize.SL.Sem

/-- The shape relations the precondition states. -/
theorem Cert.Sgu.finiteFacts : Cert.Pre_finite.Facts :=
  ⟨by decide, by decide, by decide, by decide, by decide, by decide, by decide, by decide, by decide, by decide, by decide,
    by decide, by decide⟩

namespace Cert.Sgu

instance : Cert.Pre_finite.Facts := finiteFacts

theorem ofBits_top : Ideal.ofBits .f32 0x7F800000#32 = (⊤ : EReal) := by simp [Ideal.ofBits, Ideal.ieee]
theorem ofBits_bot : Ideal.ofBits .f32 0xFF800000#32 = (⊥ : EReal) := by simp [Ideal.ofBits, Ideal.ieee]

theorem and_split {a b : BitVec 1} (h : IntOp.andi a b = 1#1) : a = 1#1 ∧ b = 1#1 := by
  revert a b; decide
theorem andi_split {s : Shape} {a b : IVec s 1} {i : s.Idx} (h : andi a b i = 1#1) : a i = 1#1 ∧ b i = 1#1 := and_split h

/-- One bit of the test: below the one infinity and above the other. -/
theorem between {x : EReal} (h : IntOp.andi (Ideal.cmp .olt x (Ideal.ofBits .f32 0x7F800000#32))
    (Ideal.cmp .ogt x (Ideal.ofBits .f32 0xFF800000#32)) = 1#1) : IsReal x := by
  obtain ⟨h1, h2⟩ := and_split h
  rw [ofBits_top] at h1
  rw [ofBits_bot] at h2
  have a : x < ⊤ := by
    by_contra hx
    rw [Ideal.cmp_olt, decide_eq_false hx] at h1
    exact absurd h1 (by decide)
  have b : ⊥ < x := by
    by_contra hx
    rw [Ideal.cmp_ogt, decide_eq_false hx] at h2
    exact absurd h2 (by decide)
  exact ⟨x.toReal, (EReal.coe_toReal a.ne b.ne').symm⟩

/-- The test of a whole array. -/
theorem all_real {s t u : Shape} [Subsingleton t.Idx] {axes : List (Fin s.rank)} (h : s.ReducesTo axes t) (hu : 0 < u.numel)
    (x : FVec Ideal s .f32) (hi lo : FVec Ideal s .f32) (init : u.Idx → BitVec 1)
    (hhi : ∀ i, hi i = Ideal.ofBits .f32 0x7F800000#32) (hlo : ∀ i, lo i = Ideal.ofBits .f32 0xFF800000#32) (j : t.Idx)
    (e : Host.reduce IntOp.andi (andi (cmpf .olt x hi) (cmpf .ogt x lo)) init h hu j = 1#1) (i : s.Idx) : IsReal (x i) := by
  have := Host.reduce_andi_all _ init h hu j e i
  refine between ?_
  rw [← hhi i, ← hlo i]
  exact this

theorem finite_real (x0 x1 x2 x3 x4 x5 x6) (h : Cert.Pre_finite.fn (F := Ideal) x0 x1 x2 x3 x4 x5 x6 = fun _ => 1#1) :
    (∀ i, IsReal (x0 i)) ∧ (∀ i, IsReal (x1 i)) ∧ (∀ i, IsReal (x2 i)) ∧ (∀ i, IsReal (x3 i)) ∧ (∀ i, IsReal (x4 i))
      ∧ (∀ i, IsReal (x5 i)) ∧ (∀ i, IsReal (x6 i)) := by
  have h' := congrFun h (fun i => i.elim0)
  unfold Cert.Pre_finite.fn Cert.Pre_finite.fn_part1 Cert.Pre_finite.fn_part2 at h'
  dsimp only at h'
  obtain ⟨h', h6⟩ := andi_split h'
  obtain ⟨h', h5⟩ := andi_split h'
  obtain ⟨h', h4⟩ := andi_split h'
  obtain ⟨h', h3⟩ := andi_split h'
  obtain ⟨h', h2⟩ := andi_split h'
  obtain ⟨h0, h1⟩ := andi_split h'
  haveI : Subsingleton Cert.Pre_finite.S_.Idx := ⟨fun a b => funext fun i => i.elim0⟩
  exact ⟨all_real _ _ _ _ _ _ (fun _ => rfl) (fun _ => rfl) _ h0, all_real _ _ _ _ _ _ (fun _ => rfl) (fun _ => rfl) _ h1,
    all_real _ _ _ _ _ _ (fun _ => rfl) (fun _ => rfl) _ h2, all_real _ _ _ _ _ _ (fun _ => rfl) (fun _ => rfl) _ h3,
    all_real _ _ _ _ _ _ (fun _ => rfl) (fun _ => rfl) _ h4, all_real _ _ _ _ _ _ (fun _ => rfl) (fun _ => rfl) _ h5,
    all_real _ _ _ _ _ _ (fun _ => rfl) (fun _ => rfl) _ h6⟩

open Cert.KernelIdeal in
theorem args_real (m : (ℓ : Loc nD τ sig) → Buf (Elt Ideal) ℓ) (h : Cert.Pre_KernelIdeal_finite m) (c : Dev nD) :
    (argParams m c).Real ∧ ∀ b n, (argChunk m c b n).Real := by
  obtain ⟨h0, h1, h2, h3, h4, h5, h6⟩ := finite_real _ _ _ _ _ _ _ (h c)
  exact ⟨⟨fun _ _ => h2 _, fun _ => h3 _, fun _ => h4 _, fun _ _ _ => h5 _, fun _ _ _ => h5 _, fun _ _ => h6 _⟩,
    fun _ _ => ⟨fun _ _ => h0 _, fun _ _ => h1 _, fun _ _ => h1 _, fun _ _ => h1 _⟩⟩

end Cert.Sgu

end
-- ==== Proof.Claims.lean ====
/- The claims: the frames and the named constants, and that the two programs' six results agree. -/
module

public import proofs.«01_k».proof.Defs
public import proofs.«01_k».proof.Proof.Gen.Kernel.Frame
public import proofs.«01_k».proof.Proof.Sums
public import proofs.«01_k».proof.Proof.Ref
public import proofs.«01_k».proof.Proof.Finite
public import proofs.«01_k».proof.Proof.Gen.ReferenceIdeal.Run
public import Idealize.ShloMosaic.Lib.Quiescent

@[expose] public section

set_option maxRecDepth 16384

noncomputable section

open Idealize.ShloMosaic Idealize.ShloMosaic.TcCoe Idealize.SL.Sem

namespace Cert.Sgu

theorem frame_p : Cert.quiescent_Kernel := fun m ρ _ => Cert.Kernel.Gen.frame m ρ
theorem frame_pi : Cert.quiescent_KernelIdeal := fun m ρ _ => Cert.KernelIdeal.Gen.frame m ρ
theorem frame_pi_finite : Cert.quiescent_KernelIdeal_pre_finite := fun m ρ _ => Cert.KernelIdeal.Gen.frame m ρ
theorem frame_ri : Cert.quiescent_ReferenceIdeal := fun m ρ _ =>
  (θ_run Cert.ReferenceIdeal.defs _ _).mono (fun r h => ⟨fun c => (h c).2.2.2.2.2.2,
    sem_eq_zero_of_no_sems (by decide) r.2⟩) (Cert.ReferenceIdeal.Value.run (F := Ideal) m ρ)
theorem frame_ri_finite : Cert.quiescent_ReferenceIdeal_pre_finite := fun m ρ _ => frame_ri m ρ trivial

theorem preserves : Cert.preserves_Kernel_KernelIdeal :=
  ⟨IdealRules.named_const.statement _ "inv_sqrt2" .f32 0x3F3504F3#32 _ rfl,
    IdealRules.named_const.statement _ "gelu_slope" .f32 0x3ECC422A#32 _ rfl⟩

theorem row_ix {n : ℕ} (i : (⟨2, ![1, n]⟩ : Shape).Idx) : ∃ j : Fin n, i = ix2 0 j :=
  ⟨i 1, (ix2_eta i).symm.trans (congrArg (ix2 · (i 1)) (Subsingleton.elim (α := Fin 1) (i 0) 0))⟩

section Agree
open Cert.KernelIdeal Cert.ReferenceIdeal.Read
variable (m : (ℓ : Loc nD τ sig) → Buf (Elt Ideal) ℓ) (h : Cert.Pre_KernelIdeal_finite m) (c : Dev nD)
include h

theorem agree0 : val_main_v140 (F := Ideal) (arg0 m c) (arg1 m c) (arg2 m c) (arg3 m c) (arg4 m c) (arg5 m c) (arg6 m c)
    = Value.G10 (F := Ideal) m c := funext fun i => by
  obtain ⟨r, k, rfl⟩ : ∃ r k, i = ix2 r k := ⟨_, _, eq_ix2 i⟩
  obtain ⟨hW, hk⟩ := args_real m h c
  exact (ref140 hW hk r k).trans (G10_at m c r k).symm
theorem agree1 : val_main_v141 (F := Ideal) (arg0 m c) (arg1 m c) (arg3 m c) (arg4 m c) (arg5 m c) (arg6 m c)
    = Value.G11 (F := Ideal) m c := funext fun i => by
  obtain ⟨e, d, rfl⟩ : ∃ e d, i = ix2 e d := ⟨_, _, eq_ix2 i⟩
  exact (ref141 _ _ (arg2 m c) _ _ _ _ e d).trans (G11_at m c e d).symm
theorem agree2 : val_main_v85 (F := Ideal) (arg0 m c) (arg1 m c) (arg2 m c) (arg3 m c) (arg4 m c)
    = Value.G12 (F := Ideal) m c := funext fun i => by
  obtain ⟨g, t, s, rfl⟩ : ∃ g t s, i = ix3 g t s := ⟨_, _, _, eq_ix3 i⟩
  exact (ref85 _ _ _ _ _ (arg5 m c) (arg6 m c) g t s).trans (G12_at m c g t s).symm
theorem agree3 : val_main_v80 (F := Ideal) (arg0 m c) (arg1 m c) (arg2 m c) = Value.G13 (F := Ideal) m c := funext fun i => by
  obtain ⟨g, t, rfl⟩ : ∃ g t, i = ix2 g t := ⟨_, _, eq_ix2 i⟩
  exact (ref80 _ _ _ (arg3 m c) (arg4 m c) (arg5 m c) (arg6 m c) g t).trans (G13_at m c g t).symm
theorem agree4 : val_main_v142 (F := Ideal) (arg0 m c) (arg1 m c) (arg2 m c) (arg5 m c) = Value.G14 (F := Ideal) m c := funext fun i => by
  obtain ⟨j, rfl⟩ := row_ix i
  exact (ref142 _ _ _ (arg3 m c) (arg4 m c) _ (arg6 m c) j).trans (G14_at m c j).symm
theorem agree5 : val_main_v143 (F := Ideal) (arg0 m c) (arg1 m c) (arg2 m c) (arg5 m c) = Value.G15 (F := Ideal) m c := funext fun i => by
  obtain ⟨j, rfl⟩ := row_ix i
  exact (ref143 _ _ _ (arg3 m c) (arg4 m c) _ (arg6 m c) j).trans (G15_at m c j).symm
end Agree

theorem algebraic : Cert.algebraic_KernelIdeal_ReferenceIdeal_pre_finite := by
  intro m ρ m' ρ' hpre hagree
  refine ⟨_, _, _, _, _, _, Cert.KernelIdeal.Value.run (F := Ideal) m ρ, ?_⟩
  refine (θ_run Cert.ReferenceIdeal.defs _ _).mono (fun r h c => ?_) (Cert.ReferenceIdeal.Value.run (F := Ideal) m' ρ')
  obtain ⟨a0, a1, a2, a3, a4, a5, a6⟩ := hagree c
  obtain ⟨r0, r1, r2, r3, r4, r5, args⟩ := h c
  refine ⟨(r0.trans (Cert.ReferenceIdeal.Read.val_main_v140_eq _)).trans ?_, (r1.trans (Cert.ReferenceIdeal.Read.val_main_v141_eq _)).trans ?_,
    (r2.trans (Cert.ReferenceIdeal.Read.val_main_v85_eq _)).trans ?_, (r3.trans (Cert.ReferenceIdeal.Read.val_main_v80_eq _)).trans ?_,
    (r4.trans (Cert.ReferenceIdeal.Read.val_main_v142_eq _)).trans ?_, (r5.trans (Cert.ReferenceIdeal.Read.val_main_v143_eq _)).trans ?_, args⟩
  all_goals simp only [StableHlo.launchContents_devRef, a0, a1, a2, a3, a4, a5, a6]
  exacts [agree0 m hpre c, agree1 m hpre c, agree2 m hpre c, agree3 m hpre c, agree4 m hpre c, agree5 m hpre c]

end Cert.Sgu

end
-- ==== Proof.Rms.lean ====
/- The root-mean-square normalisation of one row, and its backward pass in the two forms of the programs. Both forms are
   equal on the extended reals: the reciprocal root is a real number, for an infinite entry of the row zero. -/
module

public import proofs.«01_k».proof.Proof.Reals

@[expose] public section

set_option maxRecDepth 16384

noncomputable section

open Idealize.ShloMosaic

namespace Cert.Rms

/-- The width of a row. -/
def wid : EReal := Ideal.ofBits .f32 0x44800000#32

theorem wid_eq : wid = ((1024 : ℝ) : EReal) := by
  simp [wid, Ideal.ofBits, Ideal.ieee]; norm_num [← EReal.coe_mul]

variable (f : Fin 1024 → EReal)

/-- The mean square of a row plus its offset, and the reciprocal root of it. -/
def msq : EReal := Ideal.div (∑ j, f j * f j) wid + Sgu.eps
def rr : EReal := Ideal.rsqrt (msq f)

/-- The backward pass of a normalised row, `w` the gradient of the normalised row. -/
def bwd (w : Fin 1024 → EReal) (j : Fin 1024) : EReal :=
  rr f * (w j - f j * rr f * Ideal.div (∑ k, w k * (f k * rr f)) wid)

/-- The factor of the row in the derivative of the mean square, as differentiation forms it. -/
def fac (w : Fin 1024 → EReal) : EReal := Ideal.div ((∑ k, f k * w k) * (Sgu.mhalf * Ideal.div (rr f) (msq f))) wid

theorem sq_nonneg (x : EReal) : 0 ≤ x * x := by
  induction x using EReal.rec with
  | bot => simp
  | coe r => rw [← EReal.coe_mul]; exact EReal.coe_nonneg.mpr (mul_self_nonneg r)
  | top => simp

/-- The reciprocal root is a nonnegative real, and divided by its argument it is the cube of it. -/
theorem exists_rr : ∃ ρ : ℝ, 0 ≤ ρ ∧ rr f = (ρ : EReal) ∧ Ideal.div (rr f) (msq f) = ((ρ * ρ * ρ : ℝ) : EReal) := by
  obtain ⟨e, he, hq⟩ := Sgu.eps_pos
  have h0 : 0 ≤ Ideal.div (∑ j, f j * f j) wid := by
    rw [wid_eq, Ideal.div_coe (by norm_num)]
    exact mul_nonneg (Finset.sum_nonneg fun j _ => sq_nonneg (f j)) (by exact_mod_cast (by norm_num))
  rw [rr, msq, hq]
  generalize Ideal.div (∑ j, f j * f j) wid = s at h0
  induction s using EReal.rec with
  | bot => simp at h0
  | coe a =>
    have ha : 0 ≤ a := EReal.coe_nonneg.mp h0
    have hp : 0 < a + e := by linarith
    refine ⟨(Real.sqrt (a + e))⁻¹, by positivity, ?_, ?_⟩
    · rw [← EReal.coe_add, Ideal.rsqrt_coe, if_neg (by linarith), if_neg (by linarith)]
    · rw [← EReal.coe_add, Ideal.rsqrt_coe, if_neg (by linarith), if_neg (by linarith), Ideal.div_coe hp.ne', ← EReal.coe_mul]
      congr 1
      have hs := Real.mul_self_sqrt hp.le
      have hi : (a + e)⁻¹ = (Real.sqrt (a + e))⁻¹ * (Real.sqrt (a + e))⁻¹ := by rw [← mul_inv, hs]
      rw [one_div, hi]; ring
  | top =>
    refine ⟨0, le_refl _, by rw [EReal.top_add_coe]; rfl, ?_⟩
    rw [EReal.top_add_coe, show Ideal.rsqrt ⊤ = 0 from rfl]; simp [Ideal.div]

theorem real_mul_sum {ι : Type*} (s : Finset ι) (a : ι → EReal) (ρ : ℝ) (h : 0 ≤ ρ) :
    (ρ : EReal) * ∑ i ∈ s, a i = ∑ i ∈ s, (ρ : EReal) * a i := by
  classical
  induction s using Finset.induction_on with
  | empty => simp
  | insert i s hi ih =>
    rw [Finset.sum_insert hi, Finset.sum_insert hi,
      EReal.left_distrib_of_nonneg_of_ne_top (EReal.coe_nonneg.mpr h) (EReal.coe_ne_top ρ), ih]

theorem neg_double (a : EReal) : -a + -a = -(a + a) := by
  induction a using EReal.rec with
  | bot => simp
  | coe r => rw [← EReal.coe_neg, ← EReal.coe_add, ← EReal.coe_add, ← EReal.coe_neg]; congr 1; ring
  | top => simp

/-- The two forms of the backward pass, after a gradient `d` of the row itself. -/
theorem bwd_eq (w : Fin 1024 → EReal) (j : Fin 1024) (d : EReal) :
    d + w j * rr f + f j * fac f w + fac f w * f j = d + bwd f w j := by
  obtain ⟨ρ, hρ, hr, hd⟩ := exists_rr f
  have hS : ∑ k, w k * (f k * rr f) = (ρ : EReal) * ∑ k, f k * w k := by
    rw [real_mul_sum _ _ _ hρ, hr]
    exact Finset.sum_congr rfl fun k _ => by rw [mul_comm (f k) (ρ : EReal), mul_left_comm, mul_comm (w k)]
  have hf : fac f w = -((∑ k, f k * w k) * ((ρ * ρ * ρ / 2048 : ℝ) : EReal)) := by
    rw [fac, hd, Sgu.mhalf_eq, wid_eq, Ideal.div_coe (by norm_num), ← EReal.coe_mul, mul_assoc, ← EReal.coe_mul, ← mul_neg, ← EReal.coe_neg]
    congr 2; ring
  rw [bwd, hS, wid_eq, Ideal.div_coe (by norm_num), hr, sub_eq_add_neg,
    EReal.left_distrib_of_nonneg_of_ne_top (EReal.coe_nonneg.mpr hρ) (EReal.coe_ne_top ρ), hf, add_assoc, add_assoc]
  rw [mul_comm (w j), mul_comm _ (f j), mul_neg, neg_double]
  congr 2
  rw [mul_neg]
  congr 1
  set S := ∑ k, f k * w k
  have hh : (0 : EReal) ≤ ((ρ * ρ * ρ / 2048 : ℝ) : EReal) := EReal.coe_nonneg.mpr (by positivity)
  have e : f j * (S * ((ρ * ρ * ρ / 2048 : ℝ) : EReal)) + f j * (S * ((ρ * ρ * ρ / 2048 : ℝ) : EReal))
      = f j * S * (((ρ * ρ * ρ / 2048 : ℝ) : EReal) + ((ρ * ρ * ρ / 2048 : ℝ) : EReal)) := by
    rw [EReal.left_distrib_of_nonneg hh hh, mul_assoc (f j) S]
  rw [e, ← EReal.coe_add]
  have e2 : (ρ * ρ * ρ / 2048 + ρ * ρ * ρ / 2048 : ℝ) = ρ * (ρ * (ρ * (1 / 1024))) := by ring
  rw [e2, EReal.coe_mul, EReal.coe_mul, EReal.coe_mul]
  simp only [mul_assoc, mul_comm, mul_left_comm]

end Cert.Rms
end
-- ==== Proof.InXPoints.lean ====
/- The input projection's input gradient: what the body leaves after each point of the grid. -/
module

public import proofs.«01_k».proof.Proof.Gen.InXIdeal.Value
public import proofs.«01_k».proof.Proof.Rms
public import Idealize.ShloMosaic.Lib.Pointwise
public import Idealize.ShloMosaic.Lib.Pipeline.ReadBack
public import Idealize.ShloMosaic.Lib.Pipeline.ValueKit

@[expose] public section

set_option maxRecDepth 16384

noncomputable section

open Cert.InXIdeal Cert.InXIdeal.Gen Idealize.ShloMosaic Idealize.ShloMosaic.TcCoe Idealize.SL.Sem

namespace Cert.InX

variable (m : (ℓ : Loc nD τ sig) → Buf (Elt Ideal) ℓ)

/-- The block's gradient of the normalised input: the sum of the products over the column blocks. -/
@[irreducible] def dhb (x0 : Vec Ideal S512x6144 .bf16) (x1 : Vec Ideal S8x1024x768 .bf16) : Vec Ideal S512x1024 .f32 :=
  k0_pay7 (F := Ideal)
    (k0_pay5 (View.ld x0 (Rect.unit ![0, 0] ![512, 768] inb_S512x6144_S512x768_0_0)) (View.ld x1 (Rect.unit ![0, 0, 0] ![1, 1024, 768] inb_S8x1024x768_S1x1024x768_0_0_0))
      (View.ld x0 (Rect.unit ![0, 768] ![512, 768] inb_S512x6144_S512x768_0_768)) (View.ld x1 (Rect.unit ![1, 0, 0] ![1, 1024, 768] inb_S8x1024x768_S1x1024x768_1_0_0))
      (View.ld x0 (Rect.unit ![0, 1536] ![512, 768] inb_S512x6144_S512x768_0_1536)) (View.ld x1 (Rect.unit ![2, 0, 0] ![1, 1024, 768] inb_S8x1024x768_S1x1024x768_2_0_0))
      (View.ld x0 (Rect.unit ![0, 2304] ![512, 768] inb_S512x6144_S512x768_0_2304)) (View.ld x1 (Rect.unit ![3, 0, 0] ![1, 1024, 768] inb_S8x1024x768_S1x1024x768_3_0_0)))
    (k0_pay6 (View.ld x0 (Rect.unit ![0, 3072] ![512, 768] inb_S512x6144_S512x768_0_3072)))
    (View.ld x1 (Rect.unit ![4, 0, 0] ![1, 1024, 768] inb_S8x1024x768_S1x1024x768_4_0_0))
    (View.ld x0 (Rect.unit ![0, 3840] ![512, 768] inb_S512x6144_S512x768_0_3840)) (View.ld x1 (Rect.unit ![5, 0, 0] ![1, 1024, 768] inb_S8x1024x768_S1x1024x768_5_0_0))
    (View.ld x0 (Rect.unit ![0, 4608] ![512, 768] inb_S512x6144_S512x768_0_4608)) (View.ld x1 (Rect.unit ![6, 0, 0] ![1, 1024, 768] inb_S8x1024x768_S1x1024x768_6_0_0))
    (View.ld x0 (Rect.unit ![0, 5376] ![512, 768] inb_S512x6144_S512x768_0_5376)) (View.ld x1 (Rect.unit ![7, 0, 0] ![1, 1024, 768] inb_S8x1024x768_S1x1024x768_7_0_0))
theorem dhb_eq (x0 : Vec Ideal S512x6144 .bf16) (x1 : Vec Ideal S8x1024x768 .bf16) : k0_pay7 (F := Ideal)
    (k0_pay5 (View.ld x0 (Rect.unit ![0, 0] ![512, 768] inb_S512x6144_S512x768_0_0)) (View.ld x1 (Rect.unit ![0, 0, 0] ![1, 1024, 768] inb_S8x1024x768_S1x1024x768_0_0_0))
      (View.ld x0 (Rect.unit ![0, 768] ![512, 768] inb_S512x6144_S512x768_0_768)) (View.ld x1 (Rect.unit ![1, 0, 0] ![1, 1024, 768] inb_S8x1024x768_S1x1024x768_1_0_0))
      (View.ld x0 (Rect.unit ![0, 1536] ![512, 768] inb_S512x6144_S512x768_0_1536)) (View.ld x1 (Rect.unit ![2, 0, 0] ![1, 1024, 768] inb_S8x1024x768_S1x1024x768_2_0_0))
      (View.ld x0 (Rect.unit ![0, 2304] ![512, 768] inb_S512x6144_S512x768_0_2304)) (View.ld x1 (Rect.unit ![3, 0, 0] ![1, 1024, 768] inb_S8x1024x768_S1x1024x768_3_0_0)))
    (k0_pay6 (View.ld x0 (Rect.unit ![0, 3072] ![512, 768] inb_S512x6144_S512x768_0_3072)))
    (View.ld x1 (Rect.unit ![4, 0, 0] ![1, 1024, 768] inb_S8x1024x768_S1x1024x768_4_0_0))
    (View.ld x0 (Rect.unit ![0, 3840] ![512, 768] inb_S512x6144_S512x768_0_3840)) (View.ld x1 (Rect.unit ![5, 0, 0] ![1, 1024, 768] inb_S8x1024x768_S1x1024x768_5_0_0))
    (View.ld x0 (Rect.unit ![0, 4608] ![512, 768] inb_S512x6144_S512x768_0_4608)) (View.ld x1 (Rect.unit ![6, 0, 0] ![1, 1024, 768] inb_S8x1024x768_S1x1024x768_6_0_0))
    (View.ld x0 (Rect.unit ![0, 5376] ![512, 768] inb_S512x6144_S512x768_0_5376)) (View.ld x1 (Rect.unit ![7, 0, 0] ![1, 1024, 768] inb_S8x1024x768_S1x1024x768_7_0_0)) = dhb x0 x1 := by
  unfold dhb; rfl

/-- Channel `k` of column block `J`. -/
abbrev col (J : Fin 8) (k : Fin 768) : Fin 6144 := ⟨768 * J.val + k.val, by omega⟩

theorem dhb_at (x0 : Vec Ideal S512x6144 .bf16) (x1 : Vec Ideal S8x1024x768 .bf16) (q : Fin 512) (d : Fin 1024) :
    dhb x0 x1 (ix2 q d) = (∑ J : Fin 8, ∑ k : Fin 768, (x0 (ix2 q (col J k)) : EReal) * (x1 (ix3 J d k) : EReal) : EReal) := by
  rw [← dhb_eq]
  pointwise [k0_pay5, k0_pay6, k0_pay7]
  rw [Fin.sum_univ_eight]
  refine congrArg₂ (· + ·) (congrArg₂ (· + ·) (congrArg₂ (· + ·) (congrArg₂ (· + ·) (congrArg₂ (· + ·) (congrArg₂ (· + ·) (congrArg₂ (· + ·) ?_ ?_) ?_) ?_) ?_) ?_) ?_) ?_ <;>
    exact Finset.sum_congr rfl fun k _ => congrArg (fun z : EReal => z * _) (congrArg x0 (congrArg (ix2 q) (Fin.ext (by simp))))

variable (D : Vec Ideal S512x1024 .f32) (x : Vec Ideal S512x1024 .f32)

theorem pay2_at (g : Vec Ideal S1x1024 .f32) (e : Vec Ideal S512x1024 .f32) (q : Fin 512) (d : Fin 1024) :
    k0_pay2 (F := Ideal) D (k0_pay8 x) (k0_pay9 x) g e (ix2 q d)
      = ((e (ix2 q d) : EReal) + Rms.bwd (fun k => x (ix2 q k)) (fun k => (D (ix2 q k) : EReal) * (g (ix2 0 k) : EReal)) d : EReal) := by
  pointwise [k0_pay2, k0_pay1, k0_pay8, k0_pay9]
  rfl

theorem pay3_at (o : Vec Ideal S1x1024 .f32) (d : Fin 1024) :
    k0_pay3 (F := Ideal) D (k0_pay8 x) (k0_pay9 x) o (ix2 0 d)
      = ((o (ix2 0 d) : EReal) + ∑ q : Fin 512, (D (ix2 q d) : EReal) * ((x (ix2 q d) : EReal) * Rms.rr fun k => x (ix2 q k)) : EReal) := by
  pointwise [k0_pay3, k0_pay1, k0_pay8, k0_pay9]
  rfl

theorem zero_at (d : Fin 1024) : (k0_pay4 (F := Ideal) (ix2 0 d) : EReal) = 0 := by
  pointwise [k0_pay4]

/-! ## The outputs after a point -/

theorem dx_out (c : Dev nD) (t : Fin cfg0.N) :
    (outsAt0 m c t.val t.isLt).1 = k0_pay2 (F := Ideal) (dhb (iblk m c 0 t) (iblk m c 1 t)) (k0_pay8 (iblk m c 3 t)) (k0_pay9 (iblk m c 3 t)) (iblk m c 4 t) (iblk m c 2 t) := by
  by_cases h0 : t.val % 16 = 0
  · rw [outsAt0_A m c t h0]
    frame_open
    simp (disch := decide) only [↓ View.readCov_skip, ↓ View.readCov_cons_toLoadRect, ↓ View.readCov_fill]
    frame_out
    rw [dhb_eq]
  · rw [outsAt0_B m c t h0]
    frame_open
    simp (disch := decide) only [↓ View.readCov_skip, ↓ View.readCov_cons_toLoadRect, ↓ View.readCov_fill]
    frame_out
    rw [dhb_eq]
theorem dg_A (c : Dev nD) (t : Fin cfg0.N) (h0 : t.val % 16 = 0) :
    (outsAt0 m c t.val t.isLt).2 = k0_pay3 (F := Ideal) (dhb (iblk m c 0 t) (iblk m c 1 t)) (k0_pay8 (iblk m c 3 t)) (k0_pay9 (iblk m c 3 t)) (k0_pay4 (F := Ideal)) := by
  rw [outsAt0_A m c t h0]
  frame_open
  simp (disch := decide) only [↓ View.readCov_skip, ↓ View.readCov_cons_toLoadRect, ↓ View.readCov_fill]
  frame_out
  rw [dhb_eq]
theorem dg_B (c : Dev nD) (t : Fin cfg0.N) (h0 : ¬t.val % 16 = 0) :
    (outsAt0 m c t.val t.isLt).2 = k0_pay3 (F := Ideal) (dhb (iblk m c 0 t) (iblk m c 1 t)) (k0_pay8 (iblk m c 3 t)) (k0_pay9 (iblk m c 3 t))
      (outsAt0 m c (t.val - 1) (Nat.lt_of_le_of_lt (Nat.sub_le _ _) t.isLt)).2 := by
  rw [outsAt0_B m c t h0]
  frame_open
  simp (disch := decide) only [↓ View.readCov_skip, ↓ View.readCov_cons_toLoadRect, ↓ View.readCov_fill]
  frame_out
  rw [dhb_eq]

end Cert.InX

end
-- ==== Proof.InXBlocks.lean ====
/- The input projection's input gradient: what the windows read, and what the two results hold after the run. -/
module

public import proofs.«01_k».proof.Proof.InXPoints
public import Idealize.ShloMosaic.Lib.Claim

@[expose] public section

set_option maxRecDepth 16384

noncomputable section

open Cert.InXIdeal Cert.InXIdeal.Gen Idealize.ShloMosaic Idealize.ShloMosaic.TcCoe Idealize.SL.Sem

namespace Cert.InX

variable (m : (ℓ : Loc nD τ sig) → Buf (Elt Ideal) ℓ)

/-- The kernel's arguments. -/
abbrev arg0 (c : Dev nD) : Vec Ideal S2x4096x1024 EltTy.f32 := m ((c : Thread nD τ).loc main_arg0)
abbrev arg1 (c : Dev nD) : Vec Ideal S2x4096x6144 EltTy.bf16 := m ((c : Thread nD τ).loc main_arg1)
abbrev arg2 (c : Dev nD) : Vec Ideal S2x4096x1024 EltTy.f32 := m ((c : Thread nD τ).loc main_arg2)
abbrev arg3 (c : Dev nD) : Vec Ideal S1024 EltTy.f32 := m ((c : Thread nD τ).loc main_arg3)
abbrev arg4 (c : Dev nD) : Vec Ideal S1024x6144 EltTy.f32 := m ((c : Thread nD τ).loc main_arg4)

/-- The block that each window reads at point `t`. -/
theorem idx (t : Fin cfg0.N) : win0_0.index t = ![t.val, 0] ∧ win0_1.index t = ![0, 0, 0] ∧ win0_2.index t = ![t.val, 0]
    ∧ win0_3.index t = ![t.val, 0] ∧ win0_4.index t = ![0, 0] ∧ win0_5.index t = ![t.val, 0] :=
  (by decide +kernel : ∀ t : Fin cfg0.N, win0_0.index t = ![t.val, 0] ∧ win0_1.index t = ![0, 0, 0] ∧ win0_2.index t = ![t.val, 0]
    ∧ win0_3.index t = ![t.val, 0] ∧ win0_4.index t = ![0, 0] ∧ win0_5.index t = ![t.val, 0]) t

/-- The batch entry and the position of a row of the flattened arrays, and row `q` of the block of point `t`. -/
abbrev bat (r : Fin 8192) : Fin 2 := ⟨r.val / 4096, by omega⟩
abbrev seq (r : Fin 8192) : Fin 4096 := ⟨r.val % 4096, by omega⟩
abbrev row (t : Fin cfg0.N) (q : Fin 512) : Fin 8192 := ⟨512 * t.val + q.val, by have := lt_of_lt_of_eq t.isLt N_0; omega⟩

theorem blk0 (c : Dev nD) (t : Fin cfg0.N) (q : Fin 512) (e : Fin 6144) :
    (iblk m c 0 t : Vec Ideal S512x6144 EltTy.bf16) (ix2 q e) = arg1 m c (ix3 (bat (row t q)) (seq (row t q)) e) := by
  have hN : t.val < 16 := lt_of_lt_of_eq t.isLt N_0
  blk_point [iblk, V, idx t]
theorem blk1 (c : Dev nD) (t : Fin cfg0.N) (J : Fin 8) (d : Fin 1024) (k : Fin 768) :
    (iblk m c 1 t : Vec Ideal S8x1024x768 EltTy.bf16) (ix3 J d k) = arg4 m c (ix2 d (col J k)) := by
  blk_point [iblk, V, idx t]
theorem blk2 (c : Dev nD) (t : Fin cfg0.N) (q : Fin 512) (d : Fin 1024) :
    (iblk m c 2 t : Vec Ideal S512x1024 EltTy.f32) (ix2 q d) = arg0 m c (ix3 (bat (row t q)) (seq (row t q)) d) := by
  have hN : t.val < 16 := lt_of_lt_of_eq t.isLt N_0
  blk_point [iblk, V, idx t]
theorem blk3 (c : Dev nD) (t : Fin cfg0.N) (q : Fin 512) (d : Fin 1024) :
    (iblk m c 3 t : Vec Ideal S512x1024 EltTy.f32) (ix2 q d) = arg2 m c (ix3 (bat (row t q)) (seq (row t q)) d) := by
  have hN : t.val < 16 := lt_of_lt_of_eq t.isLt N_0
  blk_point [iblk, V, idx t]
theorem blk4 (c : Dev nD) (t : Fin cfg0.N) (d : Fin 1024) :
    (iblk m c 4 t : Vec Ideal S1x1024 EltTy.f32) (ix2 0 d) = arg3 m c (ix1 d) := by
  blk_point [iblk, V, idx t]

/-! ## The layer's quantities, at a batch entry and a position -/

/-- The gradient of the normalised input. -/
def dh (P : Vec Ideal S2x4096x6144 .bf16) (W : Vec Ideal S1024x6144 .f32) (b : Fin 2) (p : Fin 4096) (d : Fin 1024) : EReal :=
  ∑ e : Fin 6144, (P (ix3 b p e) : EReal) * (W (ix2 d e) : EReal)
/-- The row that is normalised. -/
abbrev xrow (X : Vec Ideal S2x4096x1024 .f32) (b : Fin 2) (p : Fin 4096) (d : Fin 1024) : EReal := X (ix3 b p d)
/-- The gradient of the input. -/
def dx (E X : Vec Ideal S2x4096x1024 .f32) (P : Vec Ideal S2x4096x6144 .bf16) (g : Vec Ideal S1024 .f32) (W : Vec Ideal S1024x6144 .f32)
    (b : Fin 2) (p : Fin 4096) (d : Fin 1024) : EReal :=
  (E (ix3 b p d) : EReal) + Rms.bwd (xrow X b p) (fun k => dh P W b p k * (g (ix1 k) : EReal)) d
/-- The share of one position in the gradient of the scale. -/
def dgp (X : Vec Ideal S2x4096x1024 .f32) (P : Vec Ideal S2x4096x6144 .bf16) (W : Vec Ideal S1024x6144 .f32)
    (b : Fin 2) (p : Fin 4096) (d : Fin 1024) : EReal :=
  dh P W b p d * (xrow X b p d * Rms.rr (xrow X b p))

theorem dhb_row (c : Dev nD) (t : Fin cfg0.N) (q : Fin 512) (d : Fin 1024) :
    dhb (iblk m c 0 t) (iblk m c 1 t) (ix2 q d) = dh (arg1 m c) (arg4 m c) (bat (row t q)) (seq (row t q)) d := by
  rw [dhb_at, dh, Fin.sum_univ_tiles 8 768 rfl]
  refine Finset.sum_congr rfl fun J _ => Finset.sum_congr rfl fun k _ => ?_
  refine (congrArg₂ (fun y z : EReal => y * z) (blk0 m c t q (col J k)) (blk1 m c t J d k)).trans ?_
  exact congrArg (fun z : Fin 6144 => (arg1 m c (ix3 (bat (row t q)) (seq (row t q)) z) : EReal) * (arg4 m c (ix2 d z) : EReal)) (Fin.ext (by simp; try omega))

theorem dx_row (c : Dev nD) (t : Fin cfg0.N) (q : Fin 512) (d : Fin 1024) :
    (outsAt0 m c t.val t.isLt).1 (ix2 q d) = dx (arg0 m c) (arg2 m c) (arg1 m c) (arg3 m c) (arg4 m c) (bat (row t q)) (seq (row t q)) d := by
  rw [dx_out, pay2_at, dx, blk2]
  have e1 : (fun k => (iblk m c 3 t : Vec Ideal S512x1024 EltTy.f32) (ix2 q k)) = xrow (arg2 m c) (bat (row t q)) (seq (row t q)) :=
    funext fun k => blk3 m c t q k
  have e2 : (fun k => (dhb (iblk m c 0 t) (iblk m c 1 t) (ix2 q k) : EReal) * ((iblk m c 4 t : Vec Ideal S1x1024 EltTy.f32) (ix2 0 k) : EReal))
      = fun k => dh (arg1 m c) (arg4 m c) (bat (row t q)) (seq (row t q)) k * (arg3 m c (ix1 k) : EReal) :=
    funext fun k => congrArg₂ (fun y z : EReal => y * z) (dhb_row m c t q k) (blk4 m c t k)
  rw [e1, e2]

/-- The first result. -/
abbrev dxAll (c : Dev nD) : Vec Ideal S8192x1024 .f32 := fun i =>
  dx (arg0 m c) (arg2 m c) (arg1 m c) (arg3 m c) (arg4 m c) (bat (i 0)) (seq (i 0)) (i 1)

theorem result5 (c : Dev nD) : (dats m 0 c).arrAt 5 cfg0.N = dxAll m c := by
  refine (dats m 0 c).arrAt_eq_of_covers 5 _ (by decide +kernel) fun t hf y => ?_
  blk_simp
  rw [after0_5]
  obtain ⟨q, d, rfl⟩ : ∃ (q : Fin 512) (d : Fin 1024), y = ix2 q d := ⟨y 0, y 1, eq_ix2 y⟩
  have ei : (win0_5.blk t).view.emb (ix2 q d) = ix2 (row t q) d := by blk_ext [idx t]
  rw [ei]
  exact dx_row m c t q d

/-- The second result. -/
abbrev dgAll (c : Dev nD) : Vec Ideal S1x1024 .f32 := fun i => ∑ b, ∑ p, dgp (arg2 m c) (arg1 m c) (arg4 m c) b p (i 1)

theorem dg_step (c : Dev nD) (t : Fin cfg0.N) (o : Vec Ideal S1x1024 .f32) (d : Fin 1024) :
    k0_pay3 (F := Ideal) (dhb (iblk m c 0 t) (iblk m c 1 t)) (k0_pay8 (iblk m c 3 t)) (k0_pay9 (iblk m c 3 t)) o (ix2 0 d)
      = ((o (ix2 0 d) : EReal) + ∑ q : Fin 512, dgp (arg2 m c) (arg1 m c) (arg4 m c) (bat (row t q)) (seq (row t q)) d : EReal) := by
  rw [pay3_at]
  refine congrArg _ (Finset.sum_congr rfl fun q _ => ?_)
  have e1 : (fun k => (iblk m c 3 t : Vec Ideal S512x1024 EltTy.f32) (ix2 q k)) = xrow (arg2 m c) (bat (row t q)) (seq (row t q)) :=
    funext fun k => blk3 m c t q k
  rw [e1, dgp, dhb_row, blk3]

theorem dg_last (c : Dev nD) (t : Fin cfg0.N) (ht : t.val + 1 = cfg0.N) (d : Fin 1024) :
    (outsAt0 m c t.val t.isLt).2 (ix2 0 d) = dgAll m c (ix2 0 d) := by
  have h := Pipeline.eq_sum_fin_of_reset_step_apply_last (M := EReal) (fun n h => fun d : Fin 1024 => ((outsAt0 m c n h).2 (ix2 0 d) : EReal)) 16 (fun _ => 0)
    (fun t d => ∑ q : Fin 512, dgp (arg2 m c) (arg1 m c) (arg4 m c) (bat (row t q)) (seq (row t q)) d)
    (fun t h0 d => ?_) (fun t h0 d => ?_) (le_of_eq N_0) t ht d
  · refine (h.trans (zero_add _)).trans ?_
    have l : ∑ r : Fin 8192, dgp (arg2 m c) (arg1 m c) (arg4 m c) (bat r) (seq r) d = dgAll m c (ix2 0 d) := by
      rw [Fin.sum_univ_tiles 2 4096 rfl]
      refine Finset.sum_congr rfl fun b _ => Finset.sum_congr rfl fun p _ => ?_
      exact congrArg₂ (fun b p => dgp (arg2 m c) (arg1 m c) (arg4 m c) b p d) (Fin.ext (by simp; try omega)) (Fin.ext (by simp; try omega))
    rw [← l, Fin.sum_univ_tiles 16 512 rfl]
    refine Fintype.sum_equiv (finCongr N_0) _ _ fun s => Finset.sum_congr rfl fun q _ => ?_
    exact congrArg (fun r => dgp (arg2 m c) (arg1 m c) (arg4 m c) (bat r) (seq r) d) (Fin.ext (by simp; try omega))
  · rw [dg_A m c t h0, dg_step, zero_at]
  · rw [dg_B m c t h0, dg_step]

theorem result6 (c : Dev nD) : (dats m 0 c).arrAt 6 cfg0.N = dgAll m c := by
  obtain ⟨t, ht⟩ : ∃ t : Fin cfg0.N, t.val + 1 = cfg0.N := ⟨⟨15, lt_of_lt_of_eq (by decide) N_0.symm⟩, N_0.symm⟩
  have hw : (cfg0.win 6).WholeAt t := by
    obtain rfl : t = ⟨15, lt_of_lt_of_eq (by decide) N_0.symm⟩ := Fin.ext (Nat.succ.inj (ht.trans N_0))
    decide +kernel
  refine (dats m 0 c).arrAt_eq_of_after_last 6 t hw _ fun j => ?_
  blk_simp
  rw [after0_6]
  obtain ⟨d, rfl⟩ : ∃ d : Fin 1024, j = ix2 0 d :=
    ⟨j 1, (ix2_eta j).symm.trans (congrArg (ix2 · (j 1)) (Subsingleton.elim (α := Fin 1) (j 0) 0))⟩
  exact dg_last m c t ht d

end Cert.InX

end
-- ==== Proof.InXRefSide.lean ====
/- The input projection's input gradient: what the reference computes. -/
module

public import proofs.«01_k».proof.Proof.InXBlocks
public import proofs.«01_k».proof.Proof.Axes
public import proofs.«01_k».proof.Proof.Gen.InXRefIdeal.Read

@[expose] public section

set_option maxRecDepth 16384

noncomputable section

open Cert.InXRefIdeal Cert.InXRefIdeal.Gen Cert.InXRefIdeal.Read Idealize.ShloMosaic Idealize.ShloMosaic.TcCoe

namespace Cert.InX

variable (E : Vec Ideal S2x4096x1024 .f32) (P : Vec Ideal S2x4096x6144 .bf16) (X : Vec Ideal S2x4096x1024 .f32) (g : Vec Ideal S1024 .f32)
  (W : Vec Ideal S1024x6144 .f32)

theorem ref6 (b : Fin 2) (p : Fin 4096) : val_main_v6 (F := Ideal) X (ix3 b p 0) = Rms.msq (xrow X b p) := by
  pointwise [val_main_v6, val_main_v5, val_main_v4, val_main_v3, val_main_v2, val_main_v1, val_main_v0, val_main_cst, val_main_cst_0, val_main_cst_1]
  rfl
theorem ref18 (b : Fin 2) (p : Fin 4096) (d : Fin 1024) : val_main_v18 (F := Ideal) P W (ix3 b p d) = dh P W b p d := by
  pointwise [val_main_v18]
  rfl
theorem ref7 (b : Fin 2) (p : Fin 4096) : val_main_v7 (F := Ideal) X (ix3 b p 0) = Rms.rr (xrow X b p) := by
  pointwise [val_main_v7]
  rw [ref6]; rfl
theorem ref10 (b : Fin 2) (p : Fin 4096) : val_main_v10 (F := Ideal) X (ix3 b p 0)
    = (Sgu.mhalf * Ideal.div (Rms.rr (xrow X b p)) (Rms.msq (xrow X b p)) : EReal) := by
  pointwise [val_main_v10, val_main_v9, val_main_v8, val_main_cst_2]
  rw [ref6, ref7]
theorem ref23 (b : Fin 2) (p : Fin 4096) (d : Fin 1024) : val_main_v23 (F := Ideal) P g W (ix3 b p d) = (dh P W b p d * (g (ix1 d) : EReal) : EReal) := by
  pointwise [val_main_v23, val_main_v22, val_main_v13]
  rw [ref18]
theorem ref33 (b : Fin 2) (p : Fin 4096) : val_main_v33 (F := Ideal) P X g W (ix3 b p 0)
    = Rms.fac (xrow X b p) fun k => dh P W b p k * (g (ix1 k) : EReal) := by
  pointwise [val_main_v33, val_main_v32, val_main_cst_6, val_main_v31, val_main_v27, val_main_v26, val_main_cst_5, val_main_v25]
  rw [ref10]
  simp only [ref23]
  rfl
theorem ref35 (b : Fin 2) (p : Fin 4096) (d : Fin 1024) : val_main_v35 (F := Ideal) P X g W (ix3 b p d)
    = Rms.fac (xrow X b p) fun k => dh P W b p k * (g (ix1 k) : EReal) := by
  pointwise [val_main_v35, val_main_v34, val_main_cst_7]
  refine (Fin.sum_univ_one _).trans ?_
  exact ref33 P X g W b p
theorem ref40 (r : Fin 8192) (d : Fin 1024) :
    val_main_v40 (F := Ideal) E P X g W (ix2 r d) = dx E X P g W (bat r) (seq r) d := by
  pointwise [val_main_v40, val_main_v39, val_main_v38, val_main_v37, val_main_v36, val_main_v30, val_main_v29, val_main_v28]
  simp only [ref23, ref35, ref7]
  exact Rms.bwd_eq (xrow X (bat r) (seq r)) (fun k => dh P W (bat r) (seq r) k * (g (ix1 k) : EReal)) d (E (ix3 (bat r) (seq r) d))
theorem ref19 (b : Fin 2) (p : Fin 4096) (d : Fin 1024) : val_main_v19 (F := Ideal) P X W (ix3 b p d) = dgp X P W b p d := by
  pointwise [val_main_v19, val_main_v12, val_main_v11]
  rw [ref18, ref7]
  exact mul_comm _ _
theorem ref20 (d : Fin 1024) : val_main_v20 (F := Ideal) P X W (ix1 d) = ∑ b, ∑ p, dgp X P W b p d := by
  have hz : val_main_cst_3 (F := Ideal) (Shape.Idx.first h_S_) = 0 := by pointwise [val_main_cst_3]
  unfold val_main_v20
  refine (Sgu.sum_lead2 _ _ _ d).trans ((congrArg (· + _) hz).trans ((zero_add _).trans ?_))
  simp only [ref19]
theorem ref41 (d : Fin 1024) : val_main_v41 (F := Ideal) P X W (ix2 0 d) = ∑ b, ∑ p, dgp X P W b p d := by
  have h : val_main_v24 (F := Ideal) P X W (ix1 d) = ∑ b, ∑ p, dgp X P W b p d := by
    have hz : val_main_cst_4 (F := Ideal) (Shape.Idx.first h_S_) = 0 := by pointwise [val_main_cst_4]
    unfold val_main_v24
    refine (Sgu.sum_lead2 _ _ _ d).trans ((congrArg (· + _) hz).trans ((zero_add _).trans ?_))
    rw [Fin.sum_univ_one, Fin.sum_univ_one]
    refine Eq.trans ?_ (ref20 P X W d)
    pointwise [val_main_v21]
  rw [← h]
  pointwise [val_main_v41]

end Cert.InX

end
-- ==== Proof.InX.lean ====
/- The claims of the input projection's input gradient. -/
module

public import proofs.«01_k».proof.Defs
public import proofs.«01_k».proof.Proof.Gen.InX.Frame
public import proofs.«01_k».proof.Proof.Gen.InXRefIdeal.Run
public import proofs.«01_k».proof.Proof.InXRefSide

@[expose] public section

set_option maxRecDepth 16384

noncomputable section

open Idealize.ShloMosaic Idealize.ShloMosaic.TcCoe Idealize.SL.Sem

namespace Cert.InX

theorem frame_p : Cert.quiescent_InX := fun m ρ _ => Cert.InX.Gen.frame m ρ
theorem frame_pi : Cert.quiescent_InXIdeal := fun m ρ _ => Cert.InXIdeal.Gen.frame m ρ
theorem frame_ri : Cert.quiescent_InXRefIdeal := fun m ρ _ =>
  (θ_run Cert.InXRefIdeal.defs _ _).mono (fun r h => ⟨fun c => (h c).2.2,
    sem_eq_zero_of_no_sems (by decide) r.2⟩) (Cert.InXRefIdeal.Value.run (F := Ideal) m ρ)

theorem preserves : Cert.preserves_InX_InXIdeal := trivial

section Agree
open Cert.InXIdeal Cert.InXRefIdeal.Read
variable (m : (ℓ : Loc nD τ sig) → Buf (Elt Ideal) ℓ) (c : Dev nD)

theorem agree0 : val_main_v40 (F := Ideal) (arg0 m c) (arg1 m c) (arg2 m c) (arg3 m c) (arg4 m c) = dxAll m c := funext fun i => by
  obtain ⟨r, d, rfl⟩ : ∃ r d, i = ix2 r d := ⟨_, _, eq_ix2 i⟩
  exact ref40 _ _ _ _ _ r d
theorem agree1 : val_main_v41 (F := Ideal) (arg1 m c) (arg2 m c) (arg4 m c) = dgAll m c := funext fun i => by
  obtain ⟨d, rfl⟩ : ∃ d : Fin 1024, i = ix2 0 d :=
    ⟨i 1, (ix2_eta i).symm.trans (congrArg (ix2 · (i 1)) (Subsingleton.elim (α := Fin 1) (i 0) 0))⟩
  exact ref41 _ _ _ d
end Agree

theorem algebraic : Cert.algebraic_InXIdeal_InXRefIdeal := by
  intro m ρ m' ρ' hpre hagree
  refine ⟨_, _, Cert.InXIdeal.Value.run_blocks (F := Ideal) m ρ, ?_⟩
  refine (θ_run Cert.InXRefIdeal.defs _ _).mono (fun r h c => ?_) (Cert.InXRefIdeal.Value.run (F := Ideal) m' ρ')
  obtain ⟨a0, a1, a2, a3, a4⟩ := hagree c
  obtain ⟨r0, r1, args⟩ := h c
  refine ⟨(r0.trans (Cert.InXRefIdeal.Read.val_main_v40_eq _ _)).trans ?_,
    (r1.trans (Cert.InXRefIdeal.Read.val_main_v41_eq _ _ _)).trans ?_, args⟩
  all_goals simp only [StableHlo.launchContents_devRef, a0, a1, a2, a3, a4]
  exacts [(agree0 m c).trans (result5 m c).symm, (agree1 m c).trans (result6 m c).symm]

end Cert.InX

end
-- ==== Proof.InWPoints.lean ====
/- The input projection's weight gradient: what the body leaves in its accumulator after each point of the grid. -/
module

public import proofs.«01_k».proof.Proof.Gen.InWIdeal.Value
public import proofs.«01_k».proof.Proof.Grads
public import Idealize.ShloMosaic.Lib.Pipeline.ReadBack
public import Idealize.ShloMosaic.Lib.Pipeline.ValueKit

@[expose] public section

set_option maxRecDepth 16384

noncomputable section

open Cert.InWIdeal Cert.InWIdeal.Gen Idealize.ShloMosaic Idealize.ShloMosaic.TcCoe Idealize.SL.Sem

namespace Cert.InW

variable (m : (ℓ : Loc nD τ sig) → Buf (Elt Ideal) ℓ)

/-- Channel `k` of column block `j` among the columns that a point reads. -/
abbrev col (j : Fin 4) (k : Fin 768) : Fin 3072 := ⟨768 * j.val + k.val, by omega⟩

/-- The four stores of a point, over the accumulator `a` that the point before left. -/
abbrev slabs (a : Vec Ideal S4x1024x768 .f32) (x0 : Vec Ideal S512x1024 .bf16) (x1 : Vec Ideal S512x3072 .bf16) :
    List (View.Piece (Elt Ideal) S4x1024x768 .f32) :=
  [⟨Rect.unit ![3, 0, 0] ![1, 1024, 768] inb_S4x1024x768_S1x1024x768_3_0_0, k0_pay2 (F := Ideal) (k0_pay5 x0)
      (View.ld a (Rect.unit ![3, 0, 0] ![1, 1024, 768] inb_S4x1024x768_S1x1024x768_3_0_0))
      (View.ld x1 (Rect.unit ![0, 2304] ![512, 768] inb_S512x3072_S512x768_0_2304))⟩,
    ⟨Rect.unit ![2, 0, 0] ![1, 1024, 768] inb_S4x1024x768_S1x1024x768_2_0_0, k0_pay1 (F := Ideal) (k0_pay5 x0)
      (k0_pay8 (View.ld a (Rect.unit ![2, 0, 0] ![1, 1024, 768] inb_S4x1024x768_S1x1024x768_2_0_0)))
      (k0_pay9 (View.ld x1 (Rect.unit ![0, 1536] ![512, 768] inb_S512x3072_S512x768_0_1536))) (constant S1024x768 FTy.f32 0#32)⟩,
    ⟨Rect.unit ![1, 0, 0] ![1, 1024, 768] inb_S4x1024x768_S1x1024x768_1_0_0, k0_pay7 (F := Ideal) x0
      (View.ld a (Rect.unit ![1, 0, 0] ![1, 1024, 768] inb_S4x1024x768_S1x1024x768_1_0_0))
      (View.ld x1 (Rect.unit ![0, 768] ![512, 768] inb_S512x3072_S512x768_0_768))⟩,
    ⟨Rect.unit ![0, 0, 0] ![1, 1024, 768] inb_S4x1024x768_S1x1024x768_0_0_0, k0_pay6 (F := Ideal) x0
      (View.ld a (Rect.unit ![0, 0, 0] ![1, 1024, 768] inb_S4x1024x768_S1x1024x768_0_0_0))
      (View.ld x1 (Rect.unit ![0, 0] ![512, 768] inb_S512x3072_S512x768_0_0))⟩]

theorem slabs_canon (a : Vec Ideal S4x1024x768 .f32) (x0 : Vec Ideal S512x1024 .bf16) (x1 : Vec Ideal S512x3072 .bf16)
    (j : Fin 4) (d : Fin 1024) (k : Fin 768) :
    View.canon (slabs a x0 x1) (ix3 j d k)
      = ((a (ix3 j d k) : EReal) + ∑ q : Fin 512, (x0 (ix2 q d) : EReal) * (x1 (ix2 q (col j k)) : EReal) : EReal) := by
  canon_tiles x h
  all_goals
    obtain ⟨z, e, i, rfl⟩ : ∃ z e i, x = ix3 z e i := ⟨x 0, x 1, x 2, eq_ix3 x⟩
    simp only [ix3_0, ix3_1, ix3_2] at h0 h1 h2
    obtain rfl : e = d := Fin.ext (by omega)
    obtain rfl : i = k := Fin.ext (by omega)
    obtain rfl : z = 0 := Subsingleton.elim _ _
    pointwise [k0_pay1, k0_pay2, k0_pay5, k0_pay6, k0_pay7, k0_pay8, k0_pay9]
    simp only [Fin.val_zero, Nat.add_zero] at h0
    refine congrArg₂ (· + ·) (congrArg a (congrArg (fun z => ix3 z e i) (Fin.ext ?_)))
      (Finset.sum_congr rfl fun q _ => congrArg (x0 (ix2 q e) * ·) (congrArg x1 (congrArg (ix2 q) (Fin.ext ?_)))) <;>
    (try dsimp only) <;> first | exact h0.symm | omega

/-- The accumulator read back whole. -/
theorem read_whole {κ : Kind} {sp : Space} (b : View sig κ sp S4x1024x768 EltTy.f32) (L : List (View.Piece (Elt Ideal) S4x1024x768 EltTy.f32)) :
    b.readCov L (Rect.unit ![0, 0, 0] ![4, 1024, 768] inb_S4x1024x768_S4x1024x768_0_0_0).toLoadRect = View.canon L := by
  rw [View.readCov_eq_canon']
  funext ix
  refine View.ld_unit_apply_of (View.canon L) _ _ _ ix ix fun a => ?_
  fin_cases a <;> exact (Nat.zero_add _).symm

/-- The last point's copy of the accumulator, cast. -/
theorem copied (G : Vec Ideal S4x1024x768 EltTy.f32) (j : Fin 4) (d : Fin 1024) (k : Fin 768) :
    k0_pay3 (F := Ideal) G (ix3 j d k) = G (ix3 j d k) := by
  pointwise [k0_pay3]

theorem acc_B (c : Dev nD) (t : Fin cfg0.N) (h0 : ¬t.val % 16 = 0) (h1 : ¬t.val % 16 = 15) :
    (outsAt0 m c t.val t.isLt).2 = View.canon (slabs (outsAt0 m c (t.val - 1) (Nat.lt_of_le_of_lt (Nat.sub_le _ _) t.isLt)).2 (iblk m c 0 t) (iblk m c 1 t)) := by
  rw [outsAt0_B m c t h0 h1]
  frame_open
  simp (disch := decide) only [↓ View.readCov_skip, ↓ View.readCov_cons_toLoadRect, ↓ View.readCov_fill]
  frame_out
  simp only [read_unread_whole]

theorem acc_A (c : Dev nD) (t : Fin cfg0.N) (h0 : t.val % 16 = 0) (h1 : ¬t.val % 16 = 15) :
    (outsAt0 m c t.val t.isLt).2 = View.canon (slabs (k0_pay4 (F := Ideal)) (iblk m c 0 t) (iblk m c 1 t)) := by
  rw [outsAt0_A m c t h0 h1]
  frame_open
  simp (disch := decide) only [↓ View.readCov_skip, ↓ View.readCov_cons_toLoadRect, ↓ View.readCov_fill]
  frame_out
  funext y
  exact Sgu.canon_tail [_] (slabs _ _ _) y (View.cover_of_tiledL _ ![1, 1024, 768] (by sl_kernel_rfl) y)

theorem acc_C (c : Dev nD) (t : Fin cfg0.N) (h0 : ¬t.val % 16 = 0) (h1 : t.val % 16 = 15) :
    (outsAt0 m c t.val t.isLt).2 = View.canon (slabs (outsAt0 m c (t.val - 1) (Nat.lt_of_le_of_lt (Nat.sub_le _ _) t.isLt)).2 (iblk m c 0 t) (iblk m c 1 t)) := by
  rw [outsAt0_C m c t h0 h1]
  frame_open
  simp (disch := decide) only [↓ View.readCov_skip, ↓ View.readCov_cons_toLoadRect, ↓ View.readCov_fill]
  frame_out
  simp only [read_unread_whole]

theorem out_C (c : Dev nD) (t : Fin cfg0.N) (h0 : ¬t.val % 16 = 0) (h1 : t.val % 16 = 15) (j : Fin 4) (d : Fin 1024) (k : Fin 768) :
    (outsAt0 m c t.val t.isLt).1 (ix3 j d k)
      = View.canon (slabs (outsAt0 m c (t.val - 1) (Nat.lt_of_le_of_lt (Nat.sub_le _ _) t.isLt)).2 (iblk m c 0 t) (iblk m c 1 t)) (ix3 j d k) := by
  rw [outsAt0_C m c t h0 h1]
  frame_open
  simp (disch := decide) only [↓ View.readCov_skip, ↓ View.readCov_cons_toLoadRect, ↓ View.readCov_fill]
  frame_out
  rw [read_whole]
  simp only [read_unread_whole]
  exact copied _ j d k

end Cert.InW
end
-- ==== Proof.InWBlocks.lean ====
/- What the windows of the input projection's weight gradient read, in terms of the arguments. -/
module

public import proofs.«01_k».proof.Proof.InWPoints
public import proofs.«01_k».proof.Proof.Gen.InWRefIdeal.Read
public import Idealize.ShloMosaic.Lib.Claim

@[expose] public section

set_option maxRecDepth 16384

noncomputable section

open Cert.InWIdeal Cert.InWIdeal.Gen Idealize.ShloMosaic Idealize.ShloMosaic.TcCoe Idealize.SL.Sem

namespace Cert.InW

variable (m : (ℓ : Loc nD τ sig) → Buf (Elt Ideal) ℓ)

/-- The kernel's arguments. -/
abbrev arg0 (c : Dev nD) : Vec Ideal S2x4096x6144 EltTy.bf16 := m ((c : Thread nD τ).loc main_arg0)
abbrev arg1 (c : Dev nD) : Vec Ideal S2x4096x1024 EltTy.f32 := m ((c : Thread nD τ).loc main_arg1)
abbrev arg2 (c : Dev nD) : Vec Ideal S1024 EltTy.f32 := m ((c : Thread nD τ).loc main_arg2)

/-- The normalised input, which the host prepares. -/
abbrev hid (c : Dev nD) : Vec Ideal S2x4096x1024 EltTy.f32 := Cert.InWRefIdeal.Read.val_main_v13 (F := Ideal) (arg1 m c) (arg2 m c)

/-- The block that each window reads at point `t`. -/
theorem idx (t : Fin cfg0.N) : win0_0.index t = ![t.val % 16, 0] ∧ win0_1.index t = ![t.val % 16, t.val / 16] :=
  (by decide +kernel : ∀ t : Fin cfg0.N, win0_0.index t = ![t.val % 16, 0] ∧ win0_1.index t = ![t.val % 16, t.val / 16]) t

/-- The batch entry and the position of row `q` of the block of point `t`, and the column of its column `e`. -/
abbrev bat (t : ℕ) (q : Fin 512) : Fin 2 := ⟨(512 * (t % 16) + q.val) / 4096, by omega⟩
abbrev seq (t : ℕ) (q : Fin 512) : Fin 4096 := ⟨(512 * (t % 16) + q.val) % 4096, by omega⟩
abbrev chan (t : ℕ) (e : Fin 3072) : Fin 6144 := ⟨3072 * (t / 16 % 2) + e.val, by omega⟩

theorem hid_eq (c : Dev nD) : V m c main_v14 = shapeCast S8192x1024 (hid m c) shapeCasts_S2x4096x1024_S8192x1024 := by
  rfl

theorem blk0 (c : Dev nD) (t : Fin cfg0.N) (q : Fin 512) (d : Fin 1024) :
    (iblk m c 0 t : Vec Ideal S512x1024 EltTy.bf16) (ix2 q d) = hid m c (ix3 (bat t.val q) (seq t.val q) d) := by
  have hN : t.val < 32 := lt_of_lt_of_eq t.isLt N_0
  have e : (iblk m c 0 t : Vec Ideal S512x1024 EltTy.bf16) (ix2 q d) = V m c main_v14 ((win0_0.blk t).view.emb (ix2 q d)) := rfl
  rw [e, hid_eq]
  have ei : (win0_0.blk t).view.emb (ix2 q d) = ix2 (⟨512 * (t.val % 16) + q.val, by omega⟩ : Fin 8192) d := by blk_ext [idx t]
  rw [ei]
  generalize hid m c = H
  pointwise []
  blk_ext []
theorem blk1 (c : Dev nD) (t : Fin cfg0.N) (q : Fin 512) (e : Fin 3072) :
    (iblk m c 1 t : Vec Ideal S512x3072 EltTy.bf16) (ix2 q e) = arg0 m c (ix3 (bat t.val q) (seq t.val q) (chan t.val e)) := by
  have hN : t.val < 32 := lt_of_lt_of_eq t.isLt N_0
  blk_point [iblk, V, idx t]

/-! ## The accumulator over the grid -/

/-- What point `t` adds to the accumulator. -/
abbrev share (c : Dev nD) (t : Fin cfg0.N) (i : S4x1024x768.Idx) : EReal :=
  ∑ q : Fin 512, (hid m c (ix3 (bat t.val q) (seq t.val q) (i 1)) : EReal) * (arg0 m c (ix3 (bat t.val q) (seq t.val q) (chan t.val (col (i 0) (i 2)))) : EReal)

theorem step (c : Dev nD) (t : Fin cfg0.N) (a : Vec Ideal S4x1024x768 .f32) (i : S4x1024x768.Idx) :
    View.canon (slabs a (iblk m c 0 t) (iblk m c 1 t)) i = ((a i : EReal) + share m c t i : EReal) := by
  obtain ⟨j, d, k, rfl⟩ : ∃ j d k, i = ix3 j d k := ⟨i 0, i 1, i 2, eq_ix3 i⟩
  rw [slabs_canon]
  exact congrArg _ (Finset.sum_congr rfl fun q _ => congrArg₂ (· * ·) (blk0 m c t q d) (blk1 m c t q (col j k)))

theorem acc_sum (c : Dev nD) (t : Fin cfg0.N) (ht : t.val % 16 = 16 - 1) (i : S4x1024x768.Idx) :
    (outsAt0 m c t.val t.isLt).2 i = ∑ s : Fin 16, share m c ⟨16 * (t.val / 16) + s.val, Pipeline.run_point_lt_of_flush t ht s⟩ i := by
  have h := Pipeline.eq_sum_fin_of_reset_step_apply_of_flush (M := EReal) (fun n h => (outsAt0 m c n h).2) 16 (fun _ => 0) (share m c)
    (fun t h0 i => ?_) (fun t h0 i => ?_) t ht i
  · exact h.trans (zero_add _)
  · rw [acc_A m c t h0 (by omega), step]
    exact congrArg (· + share m c t i) (show (k0_pay4 (F := Ideal) i : EReal) = 0 by pointwise [k0_pay4])
  · by_cases h1 : t.val % 16 = 15
    · rw [acc_C m c t h0 h1, step]
    · rw [acc_B m c t h0 h1, step]

/-- The sum over the row steps and their rows is the sum over the batch and the positions. -/
theorem sum_steps (f : Fin 2 → Fin 4096 → EReal) (n : ℕ) :
    ∑ s : Fin 16, ∑ q : Fin 512, f (bat (16 * n + s.val) q) (seq (16 * n + s.val) q) = ∑ b, ∑ p, f b p := by
  have l : ∑ r : Fin 8192, f ⟨r.val / 4096, by omega⟩ ⟨r.val % 4096, by omega⟩ = ∑ b, ∑ p, f b p := by
    rw [Fin.sum_univ_tiles 2 4096 rfl]
    refine Finset.sum_congr rfl fun b _ => Finset.sum_congr rfl fun p _ => ?_
    exact congrArg₂ f (Fin.ext (by simp; try omega)) (Fin.ext (by simp; try omega))
  rw [← l, Fin.sum_univ_tiles 16 512 rfl]
  refine Finset.sum_congr rfl fun s _ => Finset.sum_congr rfl fun q _ => ?_
  exact congrArg₂ f (Fin.ext (by simp; try omega)) (Fin.ext (by simp; try omega))

/-- Entry `(J, d, k)` of the gradient, in column blocks. -/
abbrev dw (H : Vec Ideal S2x4096x1024 .f32) (P : Vec Ideal S2x4096x6144 .bf16) (J : Fin 8) (d : Fin 1024) (k : Fin 768) : EReal :=
  ∑ b, ∑ p, (H (ix3 b p d) : EReal) * (P (ix3 b p ⟨768 * J.val + k.val, by omega⟩) : EReal)

theorem result (c : Dev nD) (J : Fin 8) (d : Fin 1024) (k : Fin 768) : Value.G2 m c (ix3 J d k) = dw (hid m c) (arg0 m c) J d k := by
  have hp : Value.pt2Of (ix3 J d k) = 16 * (J.val / 4) + 15 := by
    show 16 * (1 * (J.val / 4 - 0) + 1 * (d.val / 1024 - 0) + 1 * (k.val / 768 - 0)) + 15 = _
    omega
  have hl : Value.loc2Of (ix3 J d k) = ix3 (⟨J.val % 4, by omega⟩ : Fin 4) d k := by
    funext a
    match a with
    | ⟨0, _⟩ => rfl
    | ⟨1, _⟩ => exact Fin.ext (Nat.mod_eq_of_lt d.isLt)
    | ⟨2, _⟩ => exact Fin.ext (Nat.mod_eq_of_lt k.isLt)
  have hN : Value.pt2Of (ix3 J d k) < cfg0.N := lt_of_lt_of_eq (by omega) N_0.symm
  unfold Value.G2
  rw [dif_pos hN, ← Value.outsAt0_sweep m c _ hN, hl]
  obtain ⟨t, ht⟩ : ∃ t : Fin cfg0.N, t = ⟨Value.pt2Of (ix3 J d k), hN⟩ := ⟨_, rfl⟩
  have hv : t.val = 16 * (J.val / 4) + 15 := by rw [ht]; exact hp
  have hA : (outsAt0 m c (Value.pt2Of (ix3 J d k)) hN).1 = (outsAt0 m c t.val t.isLt).1 := by rw [ht]
  rw [hA, out_C m c t (by omega) (by omega), ← acc_C m c t (by omega) (by omega), acc_sum m c t (by omega)]
  refine @Eq.trans EReal _ _ _ ?_ (sum_steps (fun b p => (hid m c (ix3 b p d) : EReal) * (arg0 m c (ix3 b p ⟨768 * J.val + k.val, by omega⟩) : EReal)) (t.val / 16))
  refine Finset.sum_congr rfl fun s _ => Finset.sum_congr rfl fun q _ => ?_
  refine congrArg (fun z : EReal => _ * z) (congrArg (arg0 m c) (congrArg (ix3 _ _) (Fin.ext ?_)))
  show 3072 * ((16 * (t.val / 16) + s.val) / 16 % 2) + (768 * (J.val % 4) + k.val) = 768 * J.val + k.val
  omega

end Cert.InW
end
-- ==== Proof.InWRefSide.lean ====
/- The input projection's weight gradient: what the reference computes. -/
module

public import proofs.«01_k».proof.Proof.InWBlocks

@[expose] public section

set_option maxRecDepth 16384

noncomputable section

open Cert.InWRefIdeal Cert.InWRefIdeal.Gen Cert.InWRefIdeal.Read Idealize.ShloMosaic Idealize.ShloMosaic.TcCoe

namespace Cert.InW

theorem ref_result (x0 : Vec Ideal S2x4096x6144 .bf16) (x1 : Vec Ideal S2x4096x1024 .f32) (x2 : Vec Ideal S1024 .f32)
    (J : Fin 8) (d : Fin 1024) (k : Fin 768) :
    val_main_v20 (F := Ideal) x0 x1 x2 (ix3 J d k) = dw (val_main_v13 (F := Ideal) x1 x2) x0 J d k := by
  generalize hH : val_main_v13 (F := Ideal) x1 x2 = H
  pointwise [val_main_v20, val_main_v19, val_main_v18, val_main_v17, val_main_v16, val_main_v15]
  rw [hH]
  refine Finset.sum_congr rfl fun b _ => Finset.sum_congr rfl fun p _ => (mul_comm _ _).trans ?_
  exact congrArg (fun z : EReal => _ * z) (congrArg x0 (congrArg (ix3 b p) (Fin.ext (by dsimp only; omega))))

end Cert.InW

end
-- ==== Proof.InW.lean ====
/- The claims of the input projection's weight gradient. -/
module

public import proofs.«01_k».proof.Defs
public import proofs.«01_k».proof.Proof.Gen.InW.Frame
public import proofs.«01_k».proof.Proof.Gen.InWRefIdeal.Run
public import proofs.«01_k».proof.Proof.InWRefSide

@[expose] public section

set_option maxRecDepth 16384

noncomputable section

open Idealize.ShloMosaic Idealize.ShloMosaic.TcCoe Idealize.SL.Sem

namespace Cert.InW

theorem frame_p : Cert.quiescent_InW := fun m ρ _ => Cert.InW.Gen.frame m ρ
theorem frame_pi : Cert.quiescent_InWIdeal := fun m ρ _ => Cert.InWIdeal.Gen.frame m ρ
theorem frame_ri : Cert.quiescent_InWRefIdeal := fun m ρ _ =>
  (θ_run Cert.InWRefIdeal.defs _ _).mono (fun r h => ⟨fun c => (h c).2,
    sem_eq_zero_of_no_sems (by decide) r.2⟩) (Cert.InWRefIdeal.Value.run (F := Ideal) m ρ)

theorem preserves : Cert.preserves_InW_InWIdeal := trivial

section Agree
open Cert.InWIdeal Cert.InWRefIdeal.Read
variable (m : (ℓ : Loc nD τ sig) → Buf (Elt Ideal) ℓ) (c : Dev nD)

theorem agree : val_main_v20 (F := Ideal) (arg0 m c) (arg1 m c) (arg2 m c) = Value.G2 (F := Ideal) m c := funext fun i => by
  obtain ⟨J, d, k, rfl⟩ : ∃ J d k, i = ix3 J d k := ⟨_, _, _, eq_ix3 i⟩
  exact (ref_result _ _ _ J d k).trans (result m c J d k).symm
end Agree

theorem algebraic : Cert.algebraic_InWIdeal_InWRefIdeal := by
  intro m ρ m' ρ' hpre hagree
  refine ⟨_, Cert.InWIdeal.Value.run (F := Ideal) m ρ, ?_⟩
  refine (θ_run Cert.InWRefIdeal.defs _ _).mono (fun r h c => ?_) (Cert.InWRefIdeal.Value.run (F := Ideal) m' ρ')
  obtain ⟨a0, a1, a2⟩ := hagree c
  obtain ⟨r0, args⟩ := h c
  refine ⟨(r0.trans (Cert.InWRefIdeal.Read.val_main_v20_eq _ _ _)).trans ?_, args⟩
  simp only [StableHlo.launchContents_devRef, a0, a1, a2]
  exact agree m c

end Cert.InW

end
-- ==== Proof.PlePoints.lean ====
/- The embedding gate's gradients: what the body leaves after each point of the grid. -/
module

public import proofs.«01_k».proof.Proof.Gen.PleIdeal.Value
public import proofs.«01_k».proof.Proof.Rms
public import Idealize.ShloMosaic.Lib.Pointwise
public import Idealize.ShloMosaic.Lib.Pipeline.ReadBack
public import Idealize.ShloMosaic.Lib.Pipeline.ValueKit

@[expose] public section

set_option maxRecDepth 16384

noncomputable section

open Cert.PleIdeal Cert.PleIdeal.Gen Idealize.ShloMosaic Idealize.ShloMosaic.TcCoe Idealize.SL.Sem

namespace Cert.Ple

variable (m : (ℓ : Loc nD τ sig) → Buf (Elt Ideal) ℓ)

/-- The gradient of the gate's argument: `δ` the result's gradient, `π` the projected embedding and `γ` the gate. -/
def dpre (δ π γ : EReal) : EReal := δ * π * γ * (1 - γ)

variable (x0 x1 x2 : Vec Ideal S512x1024 .f32) (x3 : Vec Ideal S1x512x256 .f32) (x4 : Vec Ideal S1x1024 .f32)
  (x5 : Vec Ideal S1024x1024 .bf16) (x6 : Vec Ideal S256x1024 .bf16)

/-- The block's gradient of the gate's argument, and the gradient of the normalised rows. -/
abbrev dgb : Vec Ideal S512x1024 .bf16 := k0_pay22 (F := Ideal) x0 x2 x3 x6
abbrev dnb : Vec Ideal S512x1024 .f32 := k0_pay25 (F := Ideal) (dgb x0 x2 x3 x6) x5

theorem dgb_at (q : Fin 512) (e : Fin 1024) : dgb x0 x2 x3 x6 (ix2 q e)
    = dpre (x0 (ix2 q e)) (∑ k : Fin 256, (x3 (ix3 0 q k) : EReal) * (x6 (ix2 k e) : EReal)) (x2 (ix2 q e)) := by
  pointwise [k0_pay22, k0_pay14, k0_pay19, k0_pay20]
  rfl
theorem dnb_at (q : Fin 512) (d : Fin 1024) : dnb x0 x2 x3 x5 x6 (ix2 q d)
    = (∑ e : Fin 1024, (dgb x0 x2 x3 x6 (ix2 q e) : EReal) * (x5 (ix2 d e) : EReal) : EReal) := by
  pointwise [k0_pay25]
theorem dx_at (q : Fin 512) (d : Fin 1024) :
    k0_pay27 (F := Ideal) (k0_pay14 x0) (k0_pay15 x1) (k0_pay16 x4) (k0_pay17 x1) (dgb x0 x2 x3 x6) x5 (ix2 q d)
      = ((x0 (ix2 q d) : EReal) + Rms.bwd (fun k => x1 (ix2 q k)) (fun k => (dnb x0 x2 x3 x5 x6 (ix2 q k) : EReal) * (x4 (ix2 0 k) : EReal)) d : EReal) := by
  pointwise [k0_pay27, k0_pay26, k0_pay14, k0_pay15, k0_pay16, k0_pay17]
  rfl
theorem dg_at (o : Vec Ideal S1x1024 .f32) (d : Fin 1024) :
    k0_pay28 (F := Ideal) (k0_pay15 x1) (k0_pay17 x1) (dgb x0 x2 x3 x6) x5 o (ix2 0 d)
      = ((o (ix2 0 d) : EReal) + ∑ q : Fin 512, (dnb x0 x2 x3 x5 x6 (ix2 q d) : EReal) * ((x1 (ix2 q d) : EReal) * Rms.rr fun k => x1 (ix2 q k)) : EReal) := by
  pointwise [k0_pay28, k0_pay26, k0_pay15, k0_pay17]
  rfl
theorem gw_at (a : Vec Ideal S1024x1024 .f32) (d e : Fin 1024) :
    k0_pay24 (F := Ideal) (k0_pay18 x1 x4) (dgb x0 x2 x3 x6) a (ix2 d e)
      = ((a (ix2 d e) : EReal) + ∑ q : Fin 512, ((x1 (ix2 q d) : EReal) * (Rms.rr fun k => x1 (ix2 q k)) * (x4 (ix2 0 d) : EReal)) * (dgb x0 x2 x3 x6 (ix2 q e) : EReal) : EReal) := by
  pointwise [k0_pay24, k0_pay18, k0_pay15, k0_pay16, k0_pay17]
  rfl
theorem pw_at (a : Vec Ideal S256x1024 .f32) (k : Fin 256) (e : Fin 1024) :
    k0_pay23 (F := Ideal) (k0_pay20 x3) (k0_pay21 x0 x2) a (ix2 k e)
      = ((a (ix2 k e) : EReal) + ∑ q : Fin 512, (x3 (ix3 0 q k) : EReal) * ((x0 (ix2 q e) : EReal) * (x2 (ix2 q e) : EReal)) : EReal) := by
  pointwise [k0_pay23, k0_pay20, k0_pay21, k0_pay14, k0_pay19]
theorem zero_at (d : Fin 1024) : (k0_pay13 (F := Ideal) (ix2 0 d) : EReal) = 0 := by
  pointwise [k0_pay13]
theorem zero_gw (d e : Fin 1024) : (k0_pay11 (F := Ideal) (ix2 d e) : EReal) = 0 := by
  pointwise [k0_pay11]
theorem zero_pw (k : Fin 256) (e : Fin 1024) : (k0_pay12 (F := Ideal) (ix2 k e) : EReal) = 0 := by
  pointwise [k0_pay12]

/-! ## The outputs and the accumulators after a point -/

theorem dx_out (c : Dev nD) (t : Fin cfg0.N) :
    (outsAt0 m c t.val t.isLt).1 = k0_pay27 (F := Ideal) (k0_pay14 (iblk m c 0 t)) (k0_pay15 (iblk m c 1 t)) (k0_pay16 (iblk m c 4 t)) (k0_pay17 (iblk m c 1 t))
      (dgb (iblk m c 0 t) (iblk m c 2 t) (iblk m c 3 t) (iblk m c 6 t)) (iblk m c 5 t) := by
  by_cases h0 : t.val % 16 = 0
  · rw [outsAt0_A m c t h0 (by omega)]
    frame_open
    simp (disch := decide) only [↓ View.readCov_skip, ↓ View.readCov_cons_toLoadRect, ↓ View.readCov_fill]
    frame_out
  · by_cases h1 : t.val % 16 = 15
    · rw [outsAt0_C m c t h0 h1]
      frame_open
      simp (disch := decide) only [↓ View.readCov_skip, ↓ View.readCov_cons_toLoadRect, ↓ View.readCov_fill]
      frame_out
    · rw [outsAt0_B m c t h0 h1]
      frame_open
      simp (disch := decide) only [↓ View.readCov_skip, ↓ View.readCov_cons_toLoadRect, ↓ View.readCov_fill]
      frame_out

/-- The outputs and the accumulators that the point before left. -/
abbrev prev (c : Dev nD) (t : Fin cfg0.N) := outsAt0 m c (t.val - 1) (Nat.lt_of_le_of_lt (Nat.sub_le _ _) t.isLt)

/-- What a point leaves of the gain's gradient, over `o`. -/
abbrev dgNext (c : Dev nD) (t : Fin cfg0.N) (o : Vec Ideal S1x1024 .f32) : Vec Ideal S1x1024 .f32 :=
  k0_pay28 (F := Ideal) (k0_pay15 (iblk m c 1 t)) (k0_pay17 (iblk m c 1 t)) (dgb (iblk m c 0 t) (iblk m c 2 t) (iblk m c 3 t) (iblk m c 6 t)) (iblk m c 5 t) o
/-- What a point leaves of the gate matrix's gradient, over `a`. -/
abbrev gwNext (c : Dev nD) (t : Fin cfg0.N) (a : Vec Ideal S1024x1024 .f32) : Vec Ideal S1024x1024 .f32 :=
  k0_pay24 (F := Ideal) (k0_pay18 (iblk m c 1 t) (iblk m c 4 t)) (dgb (iblk m c 0 t) (iblk m c 2 t) (iblk m c 3 t) (iblk m c 6 t)) a
/-- What a point leaves of the projection's gradient, over `a`. -/
abbrev pwNext (c : Dev nD) (t : Fin cfg0.N) (a : Vec Ideal S256x1024 .f32) : Vec Ideal S256x1024 .f32 :=
  k0_pay23 (F := Ideal) (k0_pay20 (iblk m c 3 t)) (k0_pay21 (iblk m c 0 t) (iblk m c 2 t)) a

theorem sums_A (c : Dev nD) (t : Fin cfg0.N) (h0 : t.val % 16 = 0) :
    (outsAt0 m c t.val t.isLt).2.2.2 = (dgNext m c t (k0_pay13 (F := Ideal)), gwNext m c t (k0_pay11 (F := Ideal)), pwNext m c t (k0_pay12 (F := Ideal))) := by
  rw [outsAt0_A m c t h0 (by omega)]
  frame_open
  simp (disch := decide) only [↓ View.readCov_skip, ↓ View.readCov_cons_toLoadRect, ↓ View.readCov_fill]
  frame_out
theorem sums_B (c : Dev nD) (t : Fin cfg0.N) (h0 : ¬t.val % 16 = 0) :
    (outsAt0 m c t.val t.isLt).2.2.2 = (dgNext m c t (prev m c t).2.2.2.1, gwNext m c t (prev m c t).2.2.2.2.1, pwNext m c t (prev m c t).2.2.2.2.2) := by
  by_cases h1 : t.val % 16 = 15
  · rw [outsAt0_C m c t h0 h1]
    frame_open
    simp (disch := decide) only [↓ View.readCov_skip, ↓ View.readCov_cons_toLoadRect, ↓ View.readCov_fill]
    frame_out
    simp only [read_unread_whole]
  · rw [outsAt0_B m c t h0 h1]
    frame_open
    simp (disch := decide) only [↓ View.readCov_skip, ↓ View.readCov_cons_toLoadRect, ↓ View.readCov_fill]
    frame_out
    simp only [read_unread_whole]

theorem gw_C (c : Dev nD) (t : Fin cfg0.N) (h1 : t.val % 16 = 15) (d e : Fin 1024) :
    (outsAt0 m c t.val t.isLt).2.1 (ix2 d e) = (outsAt0 m c t.val t.isLt).2.2.2.2.1 (ix2 d e) := by
  rw [outsAt0_C m c t (by omega) h1]
  frame_open
  simp (disch := decide) only [↓ View.readCov_skip, ↓ View.readCov_cons_toLoadRect, ↓ View.readCov_fill]
  frame_out
  pointwise [k0_pay5]

theorem pw_C (c : Dev nD) (t : Fin cfg0.N) (h1 : t.val % 16 = 15) (J : Fin 8) (k : Fin 256) (e : Fin 128) :
    (outsAt0 m c t.val t.isLt).2.2.1 (ix3 J k e) = (outsAt0 m c t.val t.isLt).2.2.2.2.2 (ix2 k ⟨128 * J.val + e.val, by omega⟩) := by
  rw [outsAt0_C m c t (by omega) h1]
  frame_open
  simp (disch := decide) only [↓ View.readCov_skip, ↓ View.readCov_cons_toLoadRect, ↓ View.readCov_fill]
  frame_out
  rw [read_unread_whole]
  generalize k0_pay23 (F := Ideal) _ _ _ = A
  canon_tiles x h
  all_goals
    obtain ⟨z, i, j, rfl⟩ : ∃ z i j, x = ix3 z i j := ⟨x 0, x 1, x 2, eq_ix3 x⟩
    simp only [ix3_0, ix3_1, ix3_2] at h0 h1 h2
    obtain rfl : i = k := Fin.ext (by omega)
    obtain rfl : j = e := Fin.ext (by omega)
    obtain rfl : z = 0 := Subsingleton.elim _ _
    pointwise [k0_pay1, k0_pay2, k0_pay3, k0_pay4, k0_pay6, k0_pay7, k0_pay8, k0_pay9, k0_pay10]
    simp only [Fin.val_zero, Nat.add_zero] at h0
    refine congrArg A (congrArg (ix2 i) (Fin.ext ?_))
    dsimp only
    omega

end Cert.Ple

end
-- ==== Proof.PleBlocks.lean ====
/- The embedding gate's gradients: what the windows read, and what the four results hold after the run. -/
module

public import proofs.«01_k».proof.Proof.PlePoints
public import proofs.«01_k».proof.Proof.Gen.PleRefIdeal.Read
public import Idealize.ShloMosaic.Lib.Claim

@[expose] public section

set_option maxRecDepth 16384

noncomputable section

open Cert.PleIdeal Cert.PleIdeal.Gen Idealize.ShloMosaic Idealize.ShloMosaic.TcCoe Idealize.SL.Sem

namespace Cert.Ple

variable (m : (ℓ : Loc nD τ sig) → Buf (Elt Ideal) ℓ)

/-- The kernel's arguments. -/
abbrev arg0 (c : Dev nD) : Vec Ideal S2x4096x1024 EltTy.f32 := m ((c : Thread nD τ).loc main_arg0)
abbrev arg1 (c : Dev nD) : Vec Ideal S2x4096x1024 EltTy.f32 := m ((c : Thread nD τ).loc main_arg1)
abbrev arg2 (c : Dev nD) : Vec Ideal S4x2x4096x256 EltTy.f32 := m ((c : Thread nD τ).loc main_arg2)
abbrev arg3 (c : Dev nD) : Vec Ideal S1024 EltTy.f32 := m ((c : Thread nD τ).loc main_arg3)
abbrev arg4 (c : Dev nD) : Vec Ideal S1024x1024 EltTy.f32 := m ((c : Thread nD τ).loc main_arg4)
abbrev arg5 (c : Dev nD) : Vec Ideal S256x1024 EltTy.f32 := m ((c : Thread nD τ).loc main_arg5)

/-- The gate, which the host prepares. -/
abbrev gate (c : Dev nD) : Vec Ideal S2x4096x1024 EltTy.f32 := Cert.PleRefIdeal.Read.val_main_v22 (F := Ideal) (arg1 m c) (arg3 m c) (arg4 m c)

/-- The block that each window reads at point `t`. -/
theorem idx (t : Fin cfg0.N) : win0_0.index t = ![t.val, 0] ∧ win0_1.index t = ![t.val, 0] ∧ win0_2.index t = ![t.val, 0]
    ∧ win0_3.index t = ![1, t.val, 0] ∧ win0_4.index t = ![0, 0] ∧ win0_5.index t = ![0, 0] ∧ win0_6.index t = ![0, 0] ∧ win0_7.index t = ![t.val, 0] :=
  (by decide +kernel : ∀ t : Fin cfg0.N, win0_0.index t = ![t.val, 0] ∧ win0_1.index t = ![t.val, 0] ∧ win0_2.index t = ![t.val, 0]
    ∧ win0_3.index t = ![1, t.val, 0] ∧ win0_4.index t = ![0, 0] ∧ win0_5.index t = ![0, 0] ∧ win0_6.index t = ![0, 0] ∧ win0_7.index t = ![t.val, 0]) t

/-- The batch entry and the position of a row of the flattened arrays, and row `q` of the block of point `t`. -/
abbrev bat (r : Fin 8192) : Fin 2 := ⟨r.val / 4096, by omega⟩
abbrev seq (r : Fin 8192) : Fin 4096 := ⟨r.val % 4096, by omega⟩
abbrev row (t : Fin cfg0.N) (q : Fin 512) : Fin 8192 := ⟨512 * t.val + q.val, by have := lt_of_lt_of_eq t.isLt N_0; omega⟩

theorem blk0 (c : Dev nD) (t : Fin cfg0.N) (q : Fin 512) (d : Fin 1024) :
    (iblk m c 0 t : Vec Ideal S512x1024 EltTy.f32) (ix2 q d) = arg0 m c (ix3 (bat (row t q)) (seq (row t q)) d) := by
  have hN : t.val < 16 := lt_of_lt_of_eq t.isLt N_0
  blk_point [iblk, V, idx t]
theorem blk1 (c : Dev nD) (t : Fin cfg0.N) (q : Fin 512) (d : Fin 1024) :
    (iblk m c 1 t : Vec Ideal S512x1024 EltTy.f32) (ix2 q d) = arg1 m c (ix3 (bat (row t q)) (seq (row t q)) d) := by
  have hN : t.val < 16 := lt_of_lt_of_eq t.isLt N_0
  blk_point [iblk, V, idx t]

theorem gate_eq (c : Dev nD) : V m c main_v22 = shapeCast S8192x1024 (gate m c) shapeCasts_S2x4096x1024_S8192x1024 := by
  rfl

theorem blk2 (c : Dev nD) (t : Fin cfg0.N) (q : Fin 512) (d : Fin 1024) :
    (iblk m c 2 t : Vec Ideal S512x1024 EltTy.f32) (ix2 q d) = gate m c (ix3 (bat (row t q)) (seq (row t q)) d) := by
  have hN : t.val < 16 := lt_of_lt_of_eq t.isLt N_0
  have e : (iblk m c 2 t : Vec Ideal S512x1024 EltTy.f32) (ix2 q d) = V m c main_v22 ((win0_2.blk t).view.emb (ix2 q d)) := rfl
  rw [e, gate_eq]
  have ei : (win0_2.blk t).view.emb (ix2 q d) = ix2 (row t q) d := by blk_ext [idx t]
  rw [ei]
  generalize gate m c = H
  pointwise []
theorem blk3 (c : Dev nD) (t : Fin cfg0.N) (q : Fin 512) (k : Fin 256) :
    (iblk m c 3 t : Vec Ideal S1x512x256 EltTy.f32) (ix3 0 q k) = arg2 m c (ix4 1 (bat (row t q)) (seq (row t q)) k) := by
  have hN : t.val < 16 := lt_of_lt_of_eq t.isLt N_0
  blk_point [iblk, V, idx t]
theorem blk4 (c : Dev nD) (t : Fin cfg0.N) (d : Fin 1024) :
    (iblk m c 4 t : Vec Ideal S1x1024 EltTy.f32) (ix2 0 d) = arg3 m c (ix1 d) := by
  blk_point [iblk, V, idx t]
theorem blk5 (c : Dev nD) (t : Fin cfg0.N) (d e : Fin 1024) :
    (iblk m c 5 t : Vec Ideal S1024x1024 EltTy.bf16) (ix2 d e) = arg4 m c (ix2 d e) := by
  blk_point [iblk, V, idx t]
theorem blk6 (c : Dev nD) (t : Fin cfg0.N) (k : Fin 256) (e : Fin 1024) :
    (iblk m c 6 t : Vec Ideal S256x1024 EltTy.bf16) (ix2 k e) = arg5 m c (ix2 k e) := by
  blk_point [iblk, V, idx t]

/-! ## The layer's quantities, at a batch entry and a position -/

section Spec
variable (D X Γ : Vec Ideal S2x4096x1024 .f32) (Pe : Vec Ideal S4x2x4096x256 .f32) (g : Vec Ideal S1024 .f32) (Wg : Vec Ideal S1024x1024 .f32)
  (Wp : Vec Ideal S256x1024 .f32) (b : Fin 2) (p : Fin 4096)

/-- The projected embedding, and the gradient of the gate's argument. -/
def pe (e : Fin 1024) : EReal := ∑ k : Fin 256, (Pe (ix4 1 b p k) : EReal) * (Wp (ix2 k e) : EReal)
def dgt (e : Fin 1024) : EReal := dpre (D (ix3 b p e)) (pe Pe Wp b p e) (Γ (ix3 b p e))
/-- The gradient of the normalised row, and the row. -/
def dn (d : Fin 1024) : EReal := ∑ e : Fin 1024, dgt D Γ Pe Wp b p e * (Wg (ix2 d e) : EReal)
abbrev xrow (d : Fin 1024) : EReal := X (ix3 b p d)
/-- The gradient of the row. -/
def dx (d : Fin 1024) : EReal :=
  (D (ix3 b p d) : EReal) + Rms.bwd (xrow X b p) (fun k => dn D Γ Pe Wg Wp b p k * (g (ix1 k) : EReal)) d
/-- The shares of one position in the gradients of the gain, of the gate matrix and of the projection. -/
def dgp (d : Fin 1024) : EReal := dn D Γ Pe Wg Wp b p d * (xrow X b p d * Rms.rr (xrow X b p))
def gwp (d e : Fin 1024) : EReal := xrow X b p d * Rms.rr (xrow X b p) * (g (ix1 d) : EReal) * dgt D Γ Pe Wp b p e
def pwp (k : Fin 256) (e : Fin 1024) : EReal := (Pe (ix4 1 b p k) : EReal) * ((D (ix3 b p e) : EReal) * (Γ (ix3 b p e) : EReal))
end Spec

section Rows
variable (c : Dev nD) (t : Fin cfg0.N) (q : Fin 512)

theorem xrow_eq : (fun k => (iblk m c 1 t : Vec Ideal S512x1024 EltTy.f32) (ix2 q k)) = xrow (arg1 m c) (bat (row t q)) (seq (row t q)) :=
  funext fun k => blk1 m c t q k
theorem dgb_row (e : Fin 1024) : dgb (iblk m c 0 t) (iblk m c 2 t) (iblk m c 3 t) (iblk m c 6 t) (ix2 q e)
    = dgt (arg0 m c) (gate m c) (arg2 m c) (arg5 m c) (bat (row t q)) (seq (row t q)) e := by
  rw [dgb_at, dgt, blk0, blk2]
  refine congrArg (fun z => dpre _ z _) (Finset.sum_congr rfl fun k _ => ?_)
  exact congrArg₂ (fun y z : EReal => y * z) (blk3 m c t q k) (blk6 m c t k e)
theorem dnb_row (d : Fin 1024) : dnb (iblk m c 0 t) (iblk m c 2 t) (iblk m c 3 t) (iblk m c 5 t) (iblk m c 6 t) (ix2 q d)
    = dn (arg0 m c) (gate m c) (arg2 m c) (arg4 m c) (arg5 m c) (bat (row t q)) (seq (row t q)) d := by
  rw [dnb_at, dn]
  exact Finset.sum_congr rfl fun e _ => congrArg₂ (fun y z : EReal => y * z) (dgb_row m c t q e) (blk5 m c t d e)
theorem dx_row (d : Fin 1024) : (outsAt0 m c t.val t.isLt).1 (ix2 q d)
    = dx (arg0 m c) (arg1 m c) (gate m c) (arg2 m c) (arg3 m c) (arg4 m c) (arg5 m c) (bat (row t q)) (seq (row t q)) d := by
  rw [dx_out, dx_at, dx, blk0, xrow_eq]
  refine congrArg (fun w => _ + Rms.bwd _ w d) (funext fun k => ?_)
  exact congrArg₂ (fun y z : EReal => y * z) (dnb_row m c t q k) (blk4 m c t k)
end Rows

/-- The first result. -/
abbrev dxAll (c : Dev nD) : Vec Ideal S8192x1024 .f32 := fun i =>
  dx (arg0 m c) (arg1 m c) (gate m c) (arg2 m c) (arg3 m c) (arg4 m c) (arg5 m c) (bat (i 0)) (seq (i 0)) (i 1)

theorem result7 (c : Dev nD) : (dats m 0 c).arrAt 7 cfg0.N = dxAll m c := by
  refine (dats m 0 c).arrAt_eq_of_covers 7 _ (by decide +kernel) fun t hf y => ?_
  blk_simp
  rw [after0_7]
  obtain ⟨q, d, rfl⟩ : ∃ (q : Fin 512) (d : Fin 1024), y = ix2 q d := ⟨y 0, y 1, eq_ix2 y⟩
  have ei : (win0_7.blk t).view.emb (ix2 q d) = ix2 (row t q) d := by blk_ext [idx t]
  rw [ei]
  exact dx_row m c t q d

/-! ## The sums over the grid -/

/-- What starts at zero and adds the shares of a block's rows at each point holds the sum over the batch and the positions
    after the last point. -/
theorem sum_last {ι : Type} (A : (n : ℕ) → n < cfg0.N → ι → EReal) (f : Fin 2 → Fin 4096 → ι → EReal)
    (hA : ∀ t : Fin cfg0.N, t.val % 16 = 0 → ∀ i, A t.val t.isLt i = 0 + ∑ q : Fin 512, f (bat (row t q)) (seq (row t q)) i)
    (hB : ∀ t : Fin cfg0.N, ¬t.val % 16 = 0 → ∀ i, A t.val t.isLt i
      = A (t.val - 1) (Nat.lt_of_le_of_lt (Nat.sub_le _ _) t.isLt) i + ∑ q : Fin 512, f (bat (row t q)) (seq (row t q)) i)
    (t : Fin cfg0.N) (ht : t.val + 1 = cfg0.N) (i : ι) : A t.val t.isLt i = ∑ b, ∑ p, f b p i := by
  have h := Pipeline.eq_sum_fin_of_reset_step_apply_last (M := EReal) A 16 (fun _ => 0)
    (fun t i => ∑ q : Fin 512, f (bat (row t q)) (seq (row t q)) i) hA hB (le_of_eq N_0) t ht i
  refine (h.trans (zero_add _)).trans ?_
  have l : ∑ r : Fin 8192, f (bat r) (seq r) i = ∑ b, ∑ p, f b p i := by
    rw [Fin.sum_univ_tiles 2 4096 rfl]
    refine Finset.sum_congr rfl fun b _ => Finset.sum_congr rfl fun p _ => ?_
    exact congrArg₂ (fun b p => f b p i) (Fin.ext (by simp; try omega)) (Fin.ext (by simp; try omega))
  rw [← l, Fin.sum_univ_tiles 16 512 rfl]
  refine Fintype.sum_equiv (finCongr N_0) _ _ fun s => Finset.sum_congr rfl fun q _ => ?_
  exact congrArg (fun r => f (bat r) (seq r) i) (Fin.ext (by simp; try omega))

theorem dg_step (c : Dev nD) (t : Fin cfg0.N) (o : Vec Ideal S1x1024 .f32) (d : Fin 1024) : dgNext m c t o (ix2 0 d)
    = ((o (ix2 0 d) : EReal) + ∑ q : Fin 512, dgp (arg0 m c) (arg1 m c) (gate m c) (arg2 m c) (arg4 m c) (arg5 m c) (bat (row t q)) (seq (row t q)) d : EReal) := by
  rw [dgNext, dg_at]
  refine congrArg _ (Finset.sum_congr rfl fun q _ => ?_)
  rw [xrow_eq, dgp, dnb_row, blk1]
theorem gw_step (c : Dev nD) (t : Fin cfg0.N) (a : Vec Ideal S1024x1024 .f32) (d e : Fin 1024) : gwNext m c t a (ix2 d e)
    = ((a (ix2 d e) : EReal) + ∑ q : Fin 512, gwp (arg0 m c) (arg1 m c) (gate m c) (arg2 m c) (arg3 m c) (arg5 m c) (bat (row t q)) (seq (row t q)) d e : EReal) := by
  rw [gwNext, gw_at]
  refine congrArg _ (Finset.sum_congr rfl fun q _ => ?_)
  rw [xrow_eq, gwp, dgb_row, blk1, blk4]
theorem pw_step (c : Dev nD) (t : Fin cfg0.N) (a : Vec Ideal S256x1024 .f32) (k : Fin 256) (e : Fin 1024) : pwNext m c t a (ix2 k e)
    = ((a (ix2 k e) : EReal) + ∑ q : Fin 512, pwp (arg0 m c) (gate m c) (arg2 m c) (bat (row t q)) (seq (row t q)) k e : EReal) := by
  rw [pwNext, pw_at]
  refine congrArg _ (Finset.sum_congr rfl fun q _ => ?_)
  rw [pwp, blk3, blk0, blk2]

theorem dg_last (c : Dev nD) (t : Fin cfg0.N) (ht : t.val + 1 = cfg0.N) (d : Fin 1024) :
    (outsAt0 m c t.val t.isLt).2.2.2.1 (ix2 0 d) = (∑ b, ∑ p, dgp (arg0 m c) (arg1 m c) (gate m c) (arg2 m c) (arg4 m c) (arg5 m c) b p d : EReal) := by
  refine sum_last (fun n h => fun d : Fin 1024 => ((outsAt0 m c n h).2.2.2.1 (ix2 0 d) : EReal)) (fun b p d => dgp (arg0 m c) (arg1 m c) (gate m c) (arg2 m c) (arg4 m c) (arg5 m c) b p d)
    (fun t h0 d => ?_) (fun t h0 d => ?_) t ht d
  · rw [sums_A m c t h0]; dsimp only; rw [dg_step, zero_at]
  · rw [sums_B m c t h0]; dsimp only; rw [dg_step]
theorem gw_last (c : Dev nD) (t : Fin cfg0.N) (ht : t.val + 1 = cfg0.N) (d e : Fin 1024) :
    (outsAt0 m c t.val t.isLt).2.2.2.2.1 (ix2 d e) = (∑ b, ∑ p, gwp (arg0 m c) (arg1 m c) (gate m c) (arg2 m c) (arg3 m c) (arg5 m c) b p d e : EReal) := by
  refine sum_last (fun n h => fun i : Fin 1024 × Fin 1024 => ((outsAt0 m c n h).2.2.2.2.1 (ix2 i.1 i.2) : EReal))
    (fun b p i => gwp (arg0 m c) (arg1 m c) (gate m c) (arg2 m c) (arg3 m c) (arg5 m c) b p i.1 i.2)
    (fun t h0 i => ?_) (fun t h0 i => ?_) t ht (d, e)
  · rw [sums_A m c t h0]; dsimp only; rw [gw_step, zero_gw]
  · rw [sums_B m c t h0]; dsimp only; rw [gw_step]
theorem pw_last (c : Dev nD) (t : Fin cfg0.N) (ht : t.val + 1 = cfg0.N) (k : Fin 256) (e : Fin 1024) :
    (outsAt0 m c t.val t.isLt).2.2.2.2.2 (ix2 k e) = (∑ b, ∑ p, pwp (arg0 m c) (gate m c) (arg2 m c) b p k e : EReal) := by
  refine sum_last (fun n h => fun i : Fin 256 × Fin 1024 => ((outsAt0 m c n h).2.2.2.2.2 (ix2 i.1 i.2) : EReal))
    (fun b p i => pwp (arg0 m c) (gate m c) (arg2 m c) b p i.1 i.2)
    (fun t h0 i => ?_) (fun t h0 i => ?_) t ht (k, e)
  · rw [sums_A m c t h0]; dsimp only; rw [pw_step, zero_pw]
  · rw [sums_B m c t h0]; dsimp only; rw [pw_step]

/-- The other results. -/
abbrev gwAll (c : Dev nD) : Vec Ideal S1024x1024 .bf16 := fun i =>
  ∑ b, ∑ p, gwp (arg0 m c) (arg1 m c) (gate m c) (arg2 m c) (arg3 m c) (arg5 m c) b p (i 0) (i 1)
abbrev pwAll (c : Dev nD) : Vec Ideal S8x256x128 .bf16 := fun i =>
  ∑ b, ∑ p, pwp (arg0 m c) (gate m c) (arg2 m c) b p (i 1) ⟨128 * (i 0).val + (i 2).val, by have h0 : (i 0).val < 8 := (i 0).isLt; have h2 : (i 2).val < 128 := (i 2).isLt; omega⟩
abbrev dgAll (c : Dev nD) : Vec Ideal S1x1024 .f32 := fun i =>
  ∑ b, ∑ p, dgp (arg0 m c) (arg1 m c) (gate m c) (arg2 m c) (arg4 m c) (arg5 m c) b p (i 1)

/-- The last point of the grid, at which the sums are written back whole. -/
theorem exists_last : ∃ t : Fin cfg0.N, t.val + 1 = cfg0.N ∧ t.val % 16 = 15 ∧ (cfg0.win 8).WholeAt t ∧ (cfg0.win 9).WholeAt t ∧ (cfg0.win 10).WholeAt t :=
  ⟨⟨15, lt_of_lt_of_eq (by decide) N_0.symm⟩, N_0.symm, rfl, by decide +kernel, by decide +kernel, by decide +kernel⟩

theorem result8 (c : Dev nD) : (dats m 0 c).arrAt 8 cfg0.N = gwAll m c := by
  obtain ⟨t, ht, h1, hw, -, -⟩ := exists_last
  refine (dats m 0 c).arrAt_eq_of_after_last 8 t hw _ fun j => ?_
  blk_simp
  rw [after0_8]
  obtain ⟨d, e, rfl⟩ : ∃ d e : Fin 1024, j = ix2 d e := ⟨j 0, j 1, eq_ix2 j⟩
  exact (gw_C m c t h1 d e).trans (gw_last m c t ht d e)
theorem result9 (c : Dev nD) : (dats m 0 c).arrAt 9 cfg0.N = pwAll m c := by
  obtain ⟨t, ht, h1, -, hw, -⟩ := exists_last
  refine (dats m 0 c).arrAt_eq_of_after_last 9 t hw _ fun j => ?_
  blk_simp
  rw [after0_9]
  obtain ⟨J, k, e, rfl⟩ : ∃ (J : Fin 8) (k : Fin 256) (e : Fin 128), j = ix3 J k e := ⟨j 0, j 1, j 2, eq_ix3 j⟩
  exact (pw_C m c t h1 J k e).trans (pw_last m c t ht k _)
theorem result10 (c : Dev nD) : (dats m 0 c).arrAt 10 cfg0.N = dgAll m c := by
  obtain ⟨t, ht, -, -, -, hw⟩ := exists_last
  refine (dats m 0 c).arrAt_eq_of_after_last 10 t hw _ fun j => ?_
  blk_simp
  rw [after0_10]
  obtain ⟨d, rfl⟩ : ∃ d : Fin 1024, j = ix2 0 d :=
    ⟨j 1, (ix2_eta j).symm.trans (congrArg (ix2 · (j 1)) (Subsingleton.elim (α := Fin 1) (j 0) 0))⟩
  exact dg_last m c t ht d

end Cert.Ple

end
-- ==== Proof.PleRefSide.lean ====
/- The embedding gate's gradients: what the reference computes. -/
module

public import proofs.«01_k».proof.Proof.PleBlocks
public import proofs.«01_k».proof.Proof.Axes

@[expose] public section

set_option maxRecDepth 16384

noncomputable section

open Cert.PleRefIdeal Cert.PleRefIdeal.Gen Cert.PleRefIdeal.Read Idealize.ShloMosaic Idealize.ShloMosaic.TcCoe

namespace Cert.Ple

variable (D X : Vec Ideal S2x4096x1024 .f32) (Pe : Vec Ideal S4x2x4096x256 .f32) (g : Vec Ideal S1024 .f32) (Wg : Vec Ideal S1024x1024 .f32)
  (Wp : Vec Ideal S256x1024 .f32)

/-- The gate. -/
abbrev gt : Vec Ideal S2x4096x1024 .f32 := val_main_v22 (F := Ideal) X g Wg

theorem ref6 (b : Fin 2) (p : Fin 4096) : val_main_v6 (F := Ideal) X (ix3 b p 0) = Rms.msq (xrow X b p) := by
  pointwise [val_main_v6, val_main_v5, val_main_v4, val_main_v3, val_main_v2, val_main_v1, val_main_v0, val_main_cst, val_main_cst_0, val_main_cst_1]
  rfl
theorem ref7 (b : Fin 2) (p : Fin 4096) : val_main_v7 (F := Ideal) X (ix3 b p 0) = Rms.rr (xrow X b p) := by
  pointwise [val_main_v7]
  rw [ref6]; rfl
theorem ref10 (b : Fin 2) (p : Fin 4096) : val_main_v10 (F := Ideal) X (ix3 b p 0)
    = (Sgu.mhalf * Ideal.div (Rms.rr (xrow X b p)) (Rms.msq (xrow X b p)) : EReal) := by
  pointwise [val_main_v10, val_main_v9, val_main_v8, val_main_cst_2]
  rw [ref6, ref7]
theorem ref27 (b : Fin 2) (p : Fin 4096) (k : Fin 256) : val_main_v27 (F := Ideal) Pe (ix3 b p k) = Pe (ix4 1 b p k) := by
  pointwise [val_main_v27, val_main_v26]
theorem ref28 (b : Fin 2) (p : Fin 4096) (e : Fin 1024) : val_main_v28 (F := Ideal) Pe Wp (ix3 b p e) = pe Pe Wp b p e := by
  pointwise [val_main_v28]
  simp only [ref27]
  rfl
theorem ref36 (b : Fin 2) (p : Fin 4096) (e : Fin 1024) : val_main_v36 (F := Ideal) D X Pe g Wg Wp (ix3 b p e) = dgt D (gt X g Wg) Pe Wp b p e := by
  pointwise [val_main_v36, val_main_v33, val_main_v31, val_main_v25, val_main_v24, val_main_v23, val_main_cst_5]
  rw [ref28]
  exact (mul_assoc _ _ _).symm
theorem ref39 (b : Fin 2) (p : Fin 4096) (d : Fin 1024) : val_main_v39 (F := Ideal) D X Pe g Wg Wp (ix3 b p d) = dn D (gt X g Wg) Pe Wg Wp b p d := by
  pointwise [val_main_v39]
  simp only [ref36]
  rfl
theorem ref44 (b : Fin 2) (p : Fin 4096) (d : Fin 1024) : val_main_v44 (F := Ideal) D X Pe g Wg Wp (ix3 b p d)
    = (dn D (gt X g Wg) Pe Wg Wp b p d * (g (ix1 d) : EReal) : EReal) := by
  pointwise [val_main_v44, val_main_v43, val_main_v13]
  rw [ref39]
theorem ref54 (b : Fin 2) (p : Fin 4096) : val_main_v54 (F := Ideal) D X Pe g Wg Wp (ix3 b p 0)
    = Rms.fac (xrow X b p) fun k => dn D (gt X g Wg) Pe Wg Wp b p k * (g (ix1 k) : EReal) := by
  pointwise [val_main_v54, val_main_v53, val_main_cst_9, val_main_v52, val_main_v48, val_main_v47, val_main_cst_8, val_main_v46]
  rw [ref10]
  simp only [ref44]
  rfl
theorem ref56 (b : Fin 2) (p : Fin 4096) (d : Fin 1024) : val_main_v56 (F := Ideal) D X Pe g Wg Wp (ix3 b p d)
    = Rms.fac (xrow X b p) fun k => dn D (gt X g Wg) Pe Wg Wp b p k * (g (ix1 k) : EReal) := by
  pointwise [val_main_v56, val_main_v55, val_main_cst_10]
  refine (Fin.sum_univ_one _).trans ?_
  exact ref54 D X Pe g Wg Wp b p
theorem ref63 (r : Fin 8192) (d : Fin 1024) :
    val_main_v63 (F := Ideal) D X Pe g Wg Wp (ix2 r d) = dx D X (gt X g Wg) Pe g Wg Wp (bat r) (seq r) d := by
  pointwise [val_main_v63, val_main_v60, val_main_v59, val_main_v58, val_main_v57, val_main_v51, val_main_v50, val_main_v49]
  simp only [ref44, ref56, ref7]
  exact Rms.bwd_eq (xrow X (bat r) (seq r)) (fun k => dn D (gt X g Wg) Pe Wg Wp (bat r) (seq r) k * (g (ix1 k) : EReal)) d (D (ix3 (bat r) (seq r) d))
theorem ref12 (b : Fin 2) (p : Fin 4096) (d : Fin 1024) : val_main_v12 (F := Ideal) X (ix3 b p d) = (xrow X b p d * Rms.rr (xrow X b p) : EReal) := by
  pointwise [val_main_v12, val_main_v11]
  rw [ref7]
theorem ref15 (b : Fin 2) (p : Fin 4096) (d : Fin 1024) : val_main_v15 (F := Ideal) X g (ix3 b p d)
    = (xrow X b p d * Rms.rr (xrow X b p) * (g (ix1 d) : EReal) : EReal) := by
  pointwise [val_main_v15, val_main_v14, val_main_v13]
  rw [ref12]
theorem ref40 (b : Fin 2) (p : Fin 4096) (d : Fin 1024) : val_main_v40 (F := Ideal) D X Pe g Wg Wp (ix3 b p d) = dgp D X (gt X g Wg) Pe Wg Wp b p d := by
  pointwise [val_main_v40]
  rw [ref12, ref39]
  exact mul_comm _ _
theorem ref41 (d : Fin 1024) : val_main_v41 (F := Ideal) D X Pe g Wg Wp (ix1 d) = ∑ b, ∑ p, dgp D X (gt X g Wg) Pe Wg Wp b p d := by
  have hz : val_main_cst_6 (F := Ideal) (Shape.Idx.first h_S_) = 0 := by pointwise [val_main_cst_6]
  unfold val_main_v41
  refine (Sgu.sum_lead2 _ _ _ d).trans ((congrArg (· + _) hz).trans ((zero_add _).trans ?_))
  simp only [ref40]
theorem ref66 (d : Fin 1024) : val_main_v66 (F := Ideal) D X Pe g Wg Wp (ix2 0 d) = ∑ b, ∑ p, dgp D X (gt X g Wg) Pe Wg Wp b p d := by
  have h : val_main_v45 (F := Ideal) D X Pe g Wg Wp (ix1 d) = ∑ b, ∑ p, dgp D X (gt X g Wg) Pe Wg Wp b p d := by
    have hz : val_main_cst_7 (F := Ideal) (Shape.Idx.first h_S_) = 0 := by pointwise [val_main_cst_7]
    unfold val_main_v45
    refine (Sgu.sum_lead2 _ _ _ d).trans ((congrArg (· + _) hz).trans ((zero_add _).trans ?_))
    rw [Fin.sum_univ_one, Fin.sum_univ_one]
    refine Eq.trans ?_ (ref41 D X Pe g Wg Wp d)
    pointwise [val_main_v42]
  rw [← h]
  pointwise [val_main_v66]
theorem ref64 (d e : Fin 1024) : val_main_v64 (F := Ideal) D X Pe g Wg Wp (ix2 d e)
    = (∑ b, ∑ p, gwp D X (gt X g Wg) Pe g Wp b p d e : EReal) := by
  pointwise [val_main_v64, val_main_v38, val_main_v37]
  simp only [ref36, ref15]
  exact Finset.sum_congr rfl fun b _ => Finset.sum_congr rfl fun p _ => mul_comm _ _
theorem ref65 (J : Fin 8) (k : Fin 256) (e : Fin 128) : val_main_v65 (F := Ideal) D X Pe g Wg (ix3 J k e)
    = (∑ b, ∑ p, pwp D (gt X g Wg) Pe b p k ⟨128 * J.val + e.val, by omega⟩ : EReal) := by
  pointwise [val_main_v65, val_main_v62, val_main_v61, val_main_v35, val_main_v34, val_main_v32, val_main_v31]
  simp only [ref27]
  refine Finset.sum_congr rfl fun b _ => Finset.sum_congr rfl fun p _ => (mul_comm _ _).trans ?_
  refine congrArg (fun z : EReal => _ * z) ((mul_comm _ _).trans ?_)
  exact congrArg (fun z : Fin 1024 => ((D (ix3 b p z) : EReal) * (gt X g Wg (ix3 b p z) : EReal) : EReal)) (Fin.ext (by dsimp only; omega))

end Cert.Ple

end
-- ==== Proof.Ple.lean ====
/- The claims of the embedding gate's gradients. -/
module

public import proofs.«01_k».proof.Defs
public import proofs.«01_k».proof.Proof.Gen.Ple.Frame
public import proofs.«01_k».proof.Proof.Gen.PleRefIdeal.Run
public import proofs.«01_k».proof.Proof.PleRefSide

@[expose] public section

set_option maxRecDepth 16384

noncomputable section

open Idealize.ShloMosaic Idealize.ShloMosaic.TcCoe Idealize.SL.Sem

namespace Cert.Ple

theorem frame_p : Cert.quiescent_Ple := fun m ρ _ => Cert.Ple.Gen.frame m ρ
theorem frame_pi : Cert.quiescent_PleIdeal := fun m ρ _ => Cert.PleIdeal.Gen.frame m ρ
theorem frame_ri : Cert.quiescent_PleRefIdeal := fun m ρ _ =>
  (θ_run Cert.PleRefIdeal.defs _ _).mono (fun r h => ⟨fun c => (h c).2.2.2.2,
    sem_eq_zero_of_no_sems (by decide) r.2⟩) (Cert.PleRefIdeal.Value.run (F := Ideal) m ρ)

theorem preserves : Cert.preserves_Ple_PleIdeal := trivial

section Agree
open Cert.PleIdeal Cert.PleRefIdeal.Read
variable (m : (ℓ : Loc nD τ sig) → Buf (Elt Ideal) ℓ) (c : Dev nD)

theorem agree0 : val_main_v63 (F := Ideal) (arg0 m c) (arg1 m c) (arg2 m c) (arg3 m c) (arg4 m c) (arg5 m c) = dxAll m c := funext fun i => by
  obtain ⟨r, d, rfl⟩ : ∃ r d, i = ix2 r d := ⟨_, _, eq_ix2 i⟩
  exact ref63 _ _ _ _ _ _ r d
theorem agree1 : val_main_v64 (F := Ideal) (arg0 m c) (arg1 m c) (arg2 m c) (arg3 m c) (arg4 m c) (arg5 m c) = gwAll m c := funext fun i => by
  obtain ⟨d, e, rfl⟩ : ∃ d e, i = ix2 d e := ⟨_, _, eq_ix2 i⟩
  exact ref64 _ _ _ _ _ _ d e
theorem agree2 : val_main_v65 (F := Ideal) (arg0 m c) (arg1 m c) (arg2 m c) (arg3 m c) (arg4 m c) = pwAll m c := funext fun i => by
  obtain ⟨J, k, e, rfl⟩ : ∃ J k e, i = ix3 J k e := ⟨_, _, _, eq_ix3 i⟩
  exact ref65 _ _ _ _ _ J k e
theorem agree3 : val_main_v66 (F := Ideal) (arg0 m c) (arg1 m c) (arg2 m c) (arg3 m c) (arg4 m c) (arg5 m c) = dgAll m c := funext fun i => by
  obtain ⟨d, rfl⟩ : ∃ d : Fin 1024, i = ix2 0 d :=
    ⟨i 1, (ix2_eta i).symm.trans (congrArg (ix2 · (i 1)) (Subsingleton.elim (α := Fin 1) (i 0) 0))⟩
  exact ref66 _ _ _ _ _ _ d
end Agree

theorem algebraic : Cert.algebraic_PleIdeal_PleRefIdeal := by
  intro m ρ m' ρ' hpre hagree
  refine ⟨_, _, _, _, Cert.PleIdeal.Value.run_blocks (F := Ideal) m ρ, ?_⟩
  refine (θ_run Cert.PleRefIdeal.defs _ _).mono (fun r h c => ?_) (Cert.PleRefIdeal.Value.run (F := Ideal) m' ρ')
  obtain ⟨a0, a1, a2, a3, a4, a5⟩ := hagree c
  obtain ⟨r0, r1, r2, r3, args⟩ := h c
  refine ⟨(r0.trans (Cert.PleRefIdeal.Read.val_main_v63_eq _ _)).trans ?_,
    (r1.trans (Cert.PleRefIdeal.Read.val_main_v64_eq _ _ _ _ _ _)).trans ?_,
    (r2.trans (Cert.PleRefIdeal.Read.val_main_v65_eq _ _ _ _ _)).trans ?_,
    (r3.trans (Cert.PleRefIdeal.Read.val_main_v66_eq _ _ _ _ _ _)).trans ?_, args⟩
  all_goals simp only [StableHlo.launchContents_devRef, a0, a1, a2, a3, a4, a5]
  exacts [(agree0 m c).trans (result7 m c).symm, (agree1 m c).trans (result8 m c).symm, (agree2 m c).trans (result9 m c).symm,
    (agree3 m c).trans (result10 m c).symm]

end Cert.Ple

end
-- ==== Proof.OutCSpec.lean ====
/- The output projection's backward pass behind a convolution mixer, one position at a time. -/
module

public import proofs.«01_k».proof.Proof.Reals

@[expose] public section

noncomputable section

open Idealize.ShloMosaic

namespace Cert.OutC

/-- The parameters: the layernorm's gain and shift, and the output projection. -/
structure Params where
  lg : Fin 2048 → EReal
  lb : Fin 2048 → EReal
  wo : Fin 2048 → Fin 1024 → EReal

/-- One position: the cotangent of the layer's output, the convolved row and the gate's argument. -/
structure Row where
  ct : Fin 1024 → EReal
  f : Fin 2048 → EReal
  z : Fin 2048 → EReal

/-- `v · σ(v)`. -/
def act (v : EReal) : EReal := v * Ideal.logistic v

variable (W : Params) (k : Row)

/-- The layernorm's output, and the mixer's. -/
def pre (j : Fin 2048) : EReal := Sgu.hat k.f j * W.lg j + W.lb j
def y (j : Fin 2048) : EReal := act (pre W k j)
/-- The gradient of the gated row. -/
def dq (j : Fin 2048) : EReal := ∑ d, k.ct d * W.wo j d
/-- The gradients of the gate's argument, of the layernorm's output and of the convolved row. -/
def dz (j : Fin 2048) : EReal := dq W k j * y W k j * Sgu.siluSlope (k.z j)
def dpre (j : Fin 2048) : EReal := dq W k j * act (k.z j) * Sgu.siluSlope (pre W k j)
def dy (j : Fin 2048) : EReal := Sgu.normBwd k.f (fun i => dpre W k i * W.lg i) j
/-- The position's shares of the gradients of the output projection and of the gain. -/
def dwo (e : Fin 2048) (d : Fin 1024) : EReal := y W k e * act (k.z e) * k.ct d
def dlg (j : Fin 2048) : EReal := dpre W k j * Sgu.hat k.f j

structure Params.Real (W : Params) : Prop where
  lg : ∀ j, Sgu.IsReal (W.lg j)
  lb : ∀ j, Sgu.IsReal (W.lb j)
  wo : ∀ e d, Sgu.IsReal (W.wo e d)

structure Row.Real (k : Row) : Prop where
  ct : ∀ d, Sgu.IsReal (k.ct d)
  f : ∀ j, Sgu.IsReal (k.f j)
  z : ∀ j, Sgu.IsReal (k.z j)

variable {W : Params} {k : Row} (hW : W.Real) (hk : k.Real)
include hW hk

theorem real_pre (j : Fin 2048) : Sgu.IsReal (pre W k j) := ((Sgu.IsReal.normed hk.f j).mul (hW.lg j)).add (hW.lb j)
theorem real_y (j : Fin 2048) : Sgu.IsReal (y W k j) := (real_pre hW hk j).mul (real_pre hW hk j).logistic
theorem real_dq (j : Fin 2048) : Sgu.IsReal (dq W k j) := Sgu.IsReal.sum fun d => (hk.ct d).mul (hW.wo j d)
theorem real_dy2 (j : Fin 2048) : Sgu.IsReal (dq W k j * act (k.z j)) := (real_dq hW hk j).mul ((hk.z j).mul (hk.z j).logistic)
theorem real_dpre (j : Fin 2048) : Sgu.IsReal (dpre W k j) := by
  have h := real_pre hW hk j
  have h1 : Sgu.IsReal 1 := ⟨1, EReal.coe_one.symm⟩
  exact (real_dy2 hW hk j).mul (h.logistic.mul (h1.add (h.mul (h1.sub h.logistic))))

end Cert.OutC

end
-- ==== Proof.OutCPoints.lean ====
/- The output projection's gradients behind a convolution mixer: what the body leaves after each point of the grid. -/
module

public import proofs.«01_k».proof.Proof.Gen.OutCIdeal.Value
public import proofs.«01_k».proof.Proof.OutCSpec
public import Idealize.ShloMosaic.Lib.Pointwise
public import Idealize.ShloMosaic.Lib.Pipeline.ReadBack
public import Idealize.ShloMosaic.Lib.Pipeline.ValueKit

@[expose] public section

set_option maxRecDepth 16384

noncomputable section

open Cert.OutCIdeal Cert.OutCIdeal.Gen Idealize.ShloMosaic Idealize.ShloMosaic.TcCoe Idealize.SL.Sem

namespace Cert.OutC

variable (m : (ℓ : Loc nD τ sig) → Buf (Elt Ideal) ℓ)

section Block
variable (x0 : Vec Ideal S256x1024 .f32) (x1 x2 : Vec Ideal S256x2048 .f32) (x3 : Vec Ideal S2048x1024 .bf16) (x4 x5 : Vec Ideal S1x2048 .f32)

/-- The parameters and the rows of a block. -/
abbrev bpar : Params := ⟨fun j => x4 (ix2 0 j), fun j => x5 (ix2 0 j), fun e d => x3 (ix2 e d)⟩
abbrev brow (q : Fin 256) : Row := ⟨fun d => x0 (ix2 q d), fun j => x1 (ix2 q j), fun j => x2 (ix2 q j)⟩

/-- The block of the gradients of the layernorm's output. -/
abbrev dpb : Vec Ideal S256x2048 .f32 :=
  k0_pay23 (F := Ideal) (k0_pay13 x1 x4 x5) (k0_pay14 x1 x4 x5) (k0_pay18 x2) (k0_pay19 x0) x3
abbrev dyb : Vec Ideal S256x2048 .f32 := k0_pay2 (F := Ideal) (k0_pay10 x1) (k0_pay11 x1) (k0_pay12 x4) (dpb x0 x1 x2 x3 x4 x5)
abbrev dzb : Vec Ideal S256x2048 .bf16 := k0_pay22 (F := Ideal) (k0_pay15 x1 x4 x5) (k0_pay16 x2) (k0_pay17 x2) (k0_pay19 x0) x3

theorem cent_at (q : Fin 256) (j : Fin 2048) : k0_pay9 (F := Ideal) x1 (ix2 q j) = Sgu.cent (fun j => x1 (ix2 q j)) j := by
  pointwise [k0_pay9]
  rfl
theorem rstd_at (q : Fin 256) : k0_pay10 (F := Ideal) x1 (ix2 q 0) = Sgu.rstd (fun j => x1 (ix2 q j)) := by
  pointwise [k0_pay10]
  simp only [cent_at]
  rfl
theorem hat_at (q : Fin 256) (j : Fin 2048) : k0_pay11 (F := Ideal) x1 (ix2 q j) = Sgu.hat (fun j => x1 (ix2 q j)) j := by
  pointwise [k0_pay11]
  rw [cent_at, rstd_at]
  rfl
theorem pre_at (q : Fin 256) (j : Fin 2048) :
    k0_pay13 (F := Ideal) x1 x4 x5 (ix2 q j) = pre (bpar x3 x4 x5) (brow x0 x1 x2 q) j := by
  pointwise [k0_pay13, k0_pay12]
  rw [hat_at]
  rfl
theorem dq_at (q : Fin 256) (j : Fin 2048) :
    k0_pay21 (F := Ideal) (k0_pay19 x0) x3 (ix2 q j) = dq (bpar x3 x4 x5) (brow x0 x1 x2 q) j := by
  pointwise [k0_pay21, k0_pay19]
  rfl
theorem y_at (q : Fin 256) (j : Fin 2048) :
    k0_pay15 (F := Ideal) x1 x4 x5 (ix2 q j) = y (bpar x3 x4 x5) (brow x0 x1 x2 q) j := by
  pointwise [k0_pay15, k0_pay14]
  rw [pre_at x0 x1 x2 x3]
  rfl
theorem dz_at (q : Fin 256) (j : Fin 2048) : dzb x0 x1 x2 x3 x4 x5 (ix2 q j) = dz (bpar x3 x4 x5) (brow x0 x1 x2 q) j := by
  pointwise [k0_pay22, k0_pay16, k0_pay17]
  rw [y_at x0 x1 x2 x3, dq_at x0 x1 x2 x3 x4 x5]
  rfl
theorem dpb_at (q : Fin 256) (j : Fin 2048) : dpb x0 x1 x2 x3 x4 x5 (ix2 q j) = dpre (bpar x3 x4 x5) (brow x0 x1 x2 q) j := by
  pointwise [k0_pay23, k0_pay14, k0_pay16, k0_pay17, k0_pay18]
  rw [pre_at x0 x1 x2 x3, dq_at x0 x1 x2 x3 x4 x5]
  rfl
theorem dyb_at (q : Fin 256) (j : Fin 2048) : dyb x0 x1 x2 x3 x4 x5 (ix2 q j) = dy (bpar x3 x4 x5) (brow x0 x1 x2 q) j := by
  pointwise [k0_pay2, k0_pay12]
  simp only [hat_at, rstd_at, dpb_at]
  rfl
theorem wo_at (a : Vec Ideal S2048x1024 .f32) (e : Fin 2048) (d : Fin 1024) :
    k0_pay20 (F := Ideal) (k0_pay15 x1 x4 x5) (k0_pay18 x2) (k0_pay19 x0) a (ix2 e d)
      = ((a (ix2 e d) : EReal) + ∑ q : Fin 256, dwo (bpar x3 x4 x5) (brow x0 x1 x2 q) e d : EReal) := by
  pointwise [k0_pay20, k0_pay16, k0_pay17, k0_pay18, k0_pay19]
  simp only [y_at x0 x1 x2 x3]
  rfl
theorem lg_at (o : Vec Ideal S1x2048 .f32) (j : Fin 2048) :
    k0_pay24 (F := Ideal) (k0_pay11 x1) (k0_pay13 x1 x4 x5) (k0_pay14 x1 x4 x5) (k0_pay18 x2) (k0_pay19 x0) x3 o (ix2 0 j)
      = ((o (ix2 0 j) : EReal) + ∑ q : Fin 256, dlg (bpar x3 x4 x5) (brow x0 x1 x2 q) j : EReal) := by
  pointwise [k0_pay24]
  simp only [hat_at, dpb_at]
  rfl
theorem lb_at (o : Vec Ideal S1x2048 .f32) (j : Fin 2048) :
    k0_pay1 (F := Ideal) (dpb x0 x1 x2 x3 x4 x5) (k0_pay25 o) (ix2 0 j)
      = ((o (ix2 0 j) : EReal) + ∑ q : Fin 256, dpre (bpar x3 x4 x5) (brow x0 x1 x2 q) j : EReal) := by
  pointwise [k0_pay1, k0_pay25]
  simp only [dpb_at]
theorem cb_at (o : Vec Ideal S1x2048 .f32) (j : Fin 2048) :
    k0_pay3 (F := Ideal) (k0_pay10 x1) (k0_pay11 x1) (k0_pay12 x4) (dpb x0 x1 x2 x3 x4 x5) o (ix2 0 j)
      = ((o (ix2 0 j) : EReal) + ∑ q : Fin 256, dy (bpar x3 x4 x5) (brow x0 x1 x2 q) j : EReal) := by
  pointwise [k0_pay3]
  simp only [dyb_at]
end Block

theorem zero_wo (e : Fin 2048) (d : Fin 1024) : (k0_pay5 (F := Ideal) (ix2 e d) : EReal) = 0 := by
  pointwise [k0_pay5]
theorem zero_lg (j : Fin 2048) : (k0_pay6 (F := Ideal) (ix2 0 j) : EReal) = 0 := by
  pointwise [k0_pay6]
theorem zero_lb (j : Fin 2048) : (k0_pay7 (F := Ideal) (ix2 0 j) : EReal) = 0 := by
  pointwise [k0_pay7]
theorem zero_cb (j : Fin 2048) : (k0_pay8 (F := Ideal) (ix2 0 j) : EReal) = 0 := by
  pointwise [k0_pay8]

/-! ## The outputs and the accumulators after a point -/

/-- The block of the gradients of the layernorm's output at a point. -/
abbrev dpt (c : Dev nD) (t : Fin cfg0.N) : Vec Ideal S256x2048 .f32 :=
  dpb (iblk m c 0 t) (iblk m c 1 t) (iblk m c 2 t) (iblk m c 3 t) (iblk m c 4 t) (iblk m c 5 t)

theorem rows_out (c : Dev nD) (t : Fin cfg0.N) :
    (outsAt0 m c t.val t.isLt).1 = dyb (iblk m c 0 t) (iblk m c 1 t) (iblk m c 2 t) (iblk m c 3 t) (iblk m c 4 t) (iblk m c 5 t)
    ∧ (outsAt0 m c t.val t.isLt).2.1 = dzb (iblk m c 0 t) (iblk m c 1 t) (iblk m c 2 t) (iblk m c 3 t) (iblk m c 4 t) (iblk m c 5 t) := by
  by_cases h0 : t.val % 32 = 0
  · rw [outsAt0_A m c t h0 (by omega)]
    frame_open
    simp (disch := decide) only [↓ View.readCov_skip, ↓ View.readCov_cons_toLoadRect, ↓ View.readCov_fill]
    constructor <;> frame_out
  · by_cases h1 : t.val % 32 = 31
    · rw [outsAt0_C m c t h0 h1]
      frame_open
      simp (disch := decide) only [↓ View.readCov_skip, ↓ View.readCov_cons_toLoadRect, ↓ View.readCov_fill]
      constructor <;> frame_out
    · rw [outsAt0_B m c t h0 h1]
      frame_open
      simp (disch := decide) only [↓ View.readCov_skip, ↓ View.readCov_cons_toLoadRect, ↓ View.readCov_fill]
      constructor <;> frame_out

/-- The outputs and the accumulators that the point before left. -/
abbrev prev (c : Dev nD) (t : Fin cfg0.N) := outsAt0 m c (t.val - 1) (Nat.lt_of_le_of_lt (Nat.sub_le _ _) t.isLt)

/-- What a point leaves of the gradients of the gain, of the shift, of the convolution's bias and of the projection. -/
abbrev lgNext (c : Dev nD) (t : Fin cfg0.N) (o : Vec Ideal S1x2048 .f32) : Vec Ideal S1x2048 .f32 :=
  k0_pay24 (F := Ideal) (k0_pay11 (iblk m c 1 t)) (k0_pay13 (iblk m c 1 t) (iblk m c 4 t) (iblk m c 5 t))
    (k0_pay14 (iblk m c 1 t) (iblk m c 4 t) (iblk m c 5 t)) (k0_pay18 (iblk m c 2 t)) (k0_pay19 (iblk m c 0 t)) (iblk m c 3 t) o
abbrev lbNext (c : Dev nD) (t : Fin cfg0.N) (o : Vec Ideal S1x2048 .f32) : Vec Ideal S1x2048 .f32 :=
  k0_pay1 (F := Ideal) (dpt m c t) (k0_pay25 o)
abbrev cbNext (c : Dev nD) (t : Fin cfg0.N) (o : Vec Ideal S1x2048 .f32) : Vec Ideal S1x2048 .f32 :=
  k0_pay3 (F := Ideal) (k0_pay10 (iblk m c 1 t)) (k0_pay11 (iblk m c 1 t)) (k0_pay12 (iblk m c 4 t)) (dpt m c t) o
abbrev woNext (c : Dev nD) (t : Fin cfg0.N) (a : Vec Ideal S2048x1024 .f32) : Vec Ideal S2048x1024 .f32 :=
  k0_pay20 (F := Ideal) (k0_pay15 (iblk m c 1 t) (iblk m c 4 t) (iblk m c 5 t)) (k0_pay18 (iblk m c 2 t)) (k0_pay19 (iblk m c 0 t)) a

theorem sums_A (c : Dev nD) (t : Fin cfg0.N) (h0 : t.val % 32 = 0) : (outsAt0 m c t.val t.isLt).2.2.2
    = (lgNext m c t (k0_pay6 (F := Ideal)), lbNext m c t (k0_pay7 (F := Ideal)), cbNext m c t (k0_pay8 (F := Ideal)), woNext m c t (k0_pay5 (F := Ideal))) := by
  rw [outsAt0_A m c t h0 (by omega)]
  frame_open
  simp (disch := decide) only [↓ View.readCov_skip, ↓ View.readCov_cons_toLoadRect, ↓ View.readCov_fill]
  frame_out
theorem sums_B (c : Dev nD) (t : Fin cfg0.N) (h0 : ¬t.val % 32 = 0) : (outsAt0 m c t.val t.isLt).2.2.2
    = (lgNext m c t (prev m c t).2.2.2.1, lbNext m c t (prev m c t).2.2.2.2.1, cbNext m c t (prev m c t).2.2.2.2.2.1, woNext m c t (prev m c t).2.2.2.2.2.2) := by
  by_cases h1 : t.val % 32 = 31
  · rw [outsAt0_C m c t h0 h1]
    frame_open
    simp (disch := decide) only [↓ View.readCov_skip, ↓ View.readCov_cons_toLoadRect, ↓ View.readCov_fill]
    frame_out
    simp only [read_unread_whole]
  · rw [outsAt0_B m c t h0 h1]
    frame_open
    simp (disch := decide) only [↓ View.readCov_skip, ↓ View.readCov_cons_toLoadRect, ↓ View.readCov_fill]
    frame_out
    simp only [read_unread_whole]

theorem wo_C (c : Dev nD) (t : Fin cfg0.N) (h1 : t.val % 32 = 31) (e : Fin 2048) (d : Fin 1024) :
    (outsAt0 m c t.val t.isLt).2.2.1 (ix2 e d) = (outsAt0 m c t.val t.isLt).2.2.2.2.2.2 (ix2 e d) := by
  rw [outsAt0_C m c t (by omega) h1]
  frame_open
  simp (disch := decide) only [↓ View.readCov_skip, ↓ View.readCov_cons_toLoadRect, ↓ View.readCov_fill]
  frame_out
  pointwise [k0_pay4]

end Cert.OutC

end
-- ==== Proof.OutCBlocks.lean ====
/- The output projection's gradients behind a convolution mixer: what the windows read, and what the six results hold
   after the run. -/
module

public import proofs.«01_k».proof.Proof.OutCPoints
public import Idealize.ShloMosaic.Lib.Claim

@[expose] public section

set_option maxRecDepth 16384

noncomputable section

open Cert.OutCIdeal Cert.OutCIdeal.Gen Idealize.ShloMosaic Idealize.ShloMosaic.TcCoe Idealize.SL.Sem

namespace Cert.OutC

section Args
variable (D : Vec Ideal S2x4096x1024 .f32) (C : Vec Ideal S2x4096x2048 .f32) (cb : Vec Ideal S2048 .f32) (P : Vec Ideal S2x4096x6144 .f32)
  (g h : Vec Ideal S2048 .f32) (Wo : Vec Ideal S2048x1024 .f32)

/-- The parameters, and the position `p` of the batch entry `b`. -/
def par : Params := ⟨fun j => g (ix1 j), fun j => h (ix1 j), fun e d => Wo (ix2 e d)⟩
def pos (b : Fin 2) (p : Fin 4096) : Row :=
  ⟨fun d => D (ix3 b p d), fun j => (C (ix3 b p j) : EReal) + (cb (ix1 j) : EReal), fun j => P (ix3 b p ⟨4096 + j.val, by omega⟩)⟩
end Args

variable (m : (ℓ : Loc nD τ sig) → Buf (Elt Ideal) ℓ)

/-- The kernel's arguments. -/
abbrev arg0 (c : Dev nD) : Vec Ideal S2x4096x1024 EltTy.f32 := m ((c : Thread nD τ).loc main_arg0)
abbrev arg1 (c : Dev nD) : Vec Ideal S2x4096x2048 EltTy.f32 := m ((c : Thread nD τ).loc main_arg1)
abbrev arg2 (c : Dev nD) : Vec Ideal S2048 EltTy.f32 := m ((c : Thread nD τ).loc main_arg2)
abbrev arg3 (c : Dev nD) : Vec Ideal S2x4096x6144 EltTy.f32 := m ((c : Thread nD τ).loc main_arg3)
abbrev arg4 (c : Dev nD) : Vec Ideal S2048 EltTy.f32 := m ((c : Thread nD τ).loc main_arg4)
abbrev arg5 (c : Dev nD) : Vec Ideal S2048 EltTy.f32 := m ((c : Thread nD τ).loc main_arg5)
abbrev arg6 (c : Dev nD) : Vec Ideal S2048x1024 EltTy.f32 := m ((c : Thread nD τ).loc main_arg6)

abbrev argPar (c : Dev nD) : Params := par (arg4 m c) (arg5 m c) (arg6 m c)
abbrev argPos (c : Dev nD) (b : Fin 2) (p : Fin 4096) : Row := pos (arg0 m c) (arg1 m c) (arg2 m c) (arg3 m c) b p

/-- The block that each window reads at point `t`. -/
theorem idx (t : Fin cfg0.N) : win0_0.index t = ![t.val, 0] ∧ win0_1.index t = ![t.val, 0] ∧ win0_2.index t = ![t.val, 2]
    ∧ win0_3.index t = ![0, 0] ∧ win0_4.index t = ![0, 0] ∧ win0_5.index t = ![0, 0] ∧ win0_6.index t = ![t.val, 0] ∧ win0_7.index t = ![t.val, 0] :=
  (by decide +kernel : ∀ t : Fin cfg0.N, win0_0.index t = ![t.val, 0] ∧ win0_1.index t = ![t.val, 0] ∧ win0_2.index t = ![t.val, 2]
    ∧ win0_3.index t = ![0, 0] ∧ win0_4.index t = ![0, 0] ∧ win0_5.index t = ![0, 0] ∧ win0_6.index t = ![t.val, 0] ∧ win0_7.index t = ![t.val, 0]) t

/-- The batch entry and the position of a row of the flattened arrays, and row `q` of the block of point `t`. -/
abbrev bat (r : Fin 8192) : Fin 2 := ⟨r.val / 4096, by omega⟩
abbrev seq (r : Fin 8192) : Fin 4096 := ⟨r.val % 4096, by omega⟩
abbrev row (t : Fin cfg0.N) (q : Fin 256) : Fin 8192 := ⟨256 * t.val + q.val, by have := lt_of_lt_of_eq t.isLt N_0; omega⟩

/-- The convolution's sum with its bias, which the host prepares. -/
abbrev conv (c : Dev nD) : Vec Ideal S2x4096x2048 EltTy.f32 := addf (F := Ideal) (φ := .f32) (arg1 m c)
  (broadcastInDim S2x4096x2048 ![0, 1, 2] bcast_S1x1x2048_S2x4096x2048_0_1_2
    (broadcastInDim S1x1x2048 ![2] bcast_S2048_S1x1x2048_2 (arg2 m c : Vec Ideal S2048 EltTy.f32)))
theorem conv_eq (c : Dev nD) : V m c main_v4 = shapeCast S8192x2048 (conv m c) shapeCasts_S2x4096x2048_S8192x2048 := by
  rfl

section Rows
variable (c : Dev nD) (t : Fin cfg0.N) (q : Fin 256)

theorem blk0 (d : Fin 1024) :
    (iblk m c 0 t : Vec Ideal S256x1024 EltTy.f32) (ix2 q d) = arg0 m c (ix3 (bat (row t q)) (seq (row t q)) d) := by
  have hN : t.val < 32 := lt_of_lt_of_eq t.isLt N_0
  blk_point [iblk, V, idx t]
theorem blk1 (j : Fin 2048) : (iblk m c 1 t : Vec Ideal S256x2048 EltTy.f32) (ix2 q j)
    = ((arg1 m c (ix3 (bat (row t q)) (seq (row t q)) j) : EReal) + (arg2 m c (ix1 j) : EReal) : EReal) := by
  have hN : t.val < 32 := lt_of_lt_of_eq t.isLt N_0
  have e : (iblk m c 1 t : Vec Ideal S256x2048 EltTy.f32) (ix2 q j) = V m c main_v4 ((win0_1.blk t).view.emb (ix2 q j)) := rfl
  rw [e, conv_eq]
  have ei : (win0_1.blk t).view.emb (ix2 q j) = ix2 (row t q) j := by blk_ext [idx t]
  rw [ei]
  pointwise []
theorem blk2 (j : Fin 2048) : (iblk m c 2 t : Vec Ideal S256x2048 EltTy.f32) (ix2 q j)
    = arg3 m c (ix3 (bat (row t q)) (seq (row t q)) ⟨4096 + j.val, by omega⟩) := by
  have hN : t.val < 32 := lt_of_lt_of_eq t.isLt N_0
  blk_point [iblk, V, idx t]
theorem blk3 (e : Fin 2048) (d : Fin 1024) : (iblk m c 3 t : Vec Ideal S2048x1024 EltTy.bf16) (ix2 e d) = arg6 m c (ix2 e d) := by
  blk_point [iblk, V, idx t]
theorem blk4 (j : Fin 2048) : (iblk m c 4 t : Vec Ideal S1x2048 EltTy.f32) (ix2 0 j) = arg4 m c (ix1 j) := by
  blk_point [iblk, V, idx t]
theorem blk5 (j : Fin 2048) : (iblk m c 5 t : Vec Ideal S1x2048 EltTy.f32) (ix2 0 j) = arg5 m c (ix1 j) := by
  blk_point [iblk, V, idx t]

theorem par_eq : bpar (iblk m c 3 t) (iblk m c 4 t) (iblk m c 5 t) = argPar m c := by
  rw [Params.mk.injEq]
  exact ⟨funext fun j => blk4 m c t j, funext fun j => blk5 m c t j, funext fun e => funext fun d => blk3 m c t e d⟩
theorem row_eq : brow (iblk m c 0 t) (iblk m c 1 t) (iblk m c 2 t) q = argPos m c (bat (row t q)) (seq (row t q)) := by
  rw [argPos, pos, Row.mk.injEq]
  exact ⟨funext fun d => blk0 m c t q d, funext fun j => blk1 m c t q j, funext fun j => blk2 m c t q j⟩
end Rows

/-- The first two results. -/
abbrev dyAll (c : Dev nD) : Vec Ideal S8192x2048 .f32 := fun i => dy (argPar m c) (argPos m c (bat (i 0)) (seq (i 0))) (i 1)
abbrev dzAll (c : Dev nD) : Vec Ideal S8192x2048 .bf16 := fun i => dz (argPar m c) (argPos m c (bat (i 0)) (seq (i 0))) (i 1)

theorem result6 (c : Dev nD) : (dats m 0 c).arrAt 6 cfg0.N = dyAll m c := by
  refine (dats m 0 c).arrAt_eq_of_covers 6 _ (by decide +kernel) fun t hf y => ?_
  blk_simp
  rw [after0_6]
  obtain ⟨q, j, rfl⟩ : ∃ (q : Fin 256) (j : Fin 2048), y = ix2 q j := ⟨y 0, y 1, eq_ix2 y⟩
  have ei : (win0_6.blk t).view.emb (ix2 q j) = ix2 (row t q) j := by blk_ext [idx t]
  rw [ei, (rows_out m c t).1, dyb_at, par_eq, row_eq]
  rfl
theorem result7 (c : Dev nD) : (dats m 0 c).arrAt 7 cfg0.N = dzAll m c := by
  refine (dats m 0 c).arrAt_eq_of_covers 7 _ (by decide +kernel) fun t hf y => ?_
  blk_simp
  rw [after0_7]
  obtain ⟨q, j, rfl⟩ : ∃ (q : Fin 256) (j : Fin 2048), y = ix2 q j := ⟨y 0, y 1, eq_ix2 y⟩
  have ei : (win0_7.blk t).view.emb (ix2 q j) = ix2 (row t q) j := by blk_ext [idx t]
  rw [ei, (rows_out m c t).2, dz_at, par_eq, row_eq]
  rfl

/-! ## The sums over the grid -/

/-- What starts at zero and adds the shares of a block's rows at each point holds the sum over the batch and the positions
    after the last point. -/
theorem sum_last {ι : Type} (A : (n : ℕ) → n < cfg0.N → ι → EReal) (f : Fin 2 → Fin 4096 → ι → EReal)
    (hA : ∀ t : Fin cfg0.N, t.val % 32 = 0 → ∀ i, A t.val t.isLt i = 0 + ∑ q : Fin 256, f (bat (row t q)) (seq (row t q)) i)
    (hB : ∀ t : Fin cfg0.N, ¬t.val % 32 = 0 → ∀ i, A t.val t.isLt i
      = A (t.val - 1) (Nat.lt_of_le_of_lt (Nat.sub_le _ _) t.isLt) i + ∑ q : Fin 256, f (bat (row t q)) (seq (row t q)) i)
    (t : Fin cfg0.N) (ht : t.val + 1 = cfg0.N) (i : ι) : A t.val t.isLt i = ∑ b, ∑ p, f b p i := by
  have h := Pipeline.eq_sum_fin_of_reset_step_apply_last (M := EReal) A 32 (fun _ => 0)
    (fun t i => ∑ q : Fin 256, f (bat (row t q)) (seq (row t q)) i) hA hB (le_of_eq N_0) t ht i
  refine (h.trans (zero_add _)).trans ?_
  have l : ∑ r : Fin 8192, f (bat r) (seq r) i = ∑ b, ∑ p, f b p i := by
    rw [Fin.sum_univ_tiles 2 4096 rfl]
    refine Finset.sum_congr rfl fun b _ => Finset.sum_congr rfl fun p _ => ?_
    exact congrArg₂ (fun b p => f b p i) (Fin.ext (by simp; try omega)) (Fin.ext (by simp; try omega))
  rw [← l, Fin.sum_univ_tiles 32 256 rfl]
  refine Fintype.sum_equiv (finCongr N_0) _ _ fun s => Finset.sum_congr rfl fun q _ => ?_
  exact congrArg (fun r => f (bat r) (seq r) i) (Fin.ext (by simp; try omega))

section Last
variable (c : Dev nD) (t : Fin cfg0.N)

theorem lg_step (o : Vec Ideal S1x2048 .f32) (j : Fin 2048) : lgNext m c t o (ix2 0 j)
    = ((o (ix2 0 j) : EReal) + ∑ q : Fin 256, dlg (argPar m c) (argPos m c (bat (row t q)) (seq (row t q))) j : EReal) := by
  rw [lgNext, lg_at, par_eq]
  simp only [row_eq]
theorem lb_step (o : Vec Ideal S1x2048 .f32) (j : Fin 2048) : lbNext m c t o (ix2 0 j)
    = ((o (ix2 0 j) : EReal) + ∑ q : Fin 256, dpre (argPar m c) (argPos m c (bat (row t q)) (seq (row t q))) j : EReal) := by
  rw [lbNext, lb_at, par_eq]
  simp only [row_eq]
theorem cb_step (o : Vec Ideal S1x2048 .f32) (j : Fin 2048) : cbNext m c t o (ix2 0 j)
    = ((o (ix2 0 j) : EReal) + ∑ q : Fin 256, dy (argPar m c) (argPos m c (bat (row t q)) (seq (row t q))) j : EReal) := by
  rw [cbNext, cb_at, par_eq]
  simp only [row_eq]
theorem wo_step (a : Vec Ideal S2048x1024 .f32) (e : Fin 2048) (d : Fin 1024) : woNext m c t a (ix2 e d)
    = ((a (ix2 e d) : EReal) + ∑ q : Fin 256, dwo (argPar m c) (argPos m c (bat (row t q)) (seq (row t q))) e d : EReal) := by
  rw [woNext, wo_at _ _ _ (iblk m c 3 t), par_eq]
  simp only [row_eq]

variable (ht : t.val + 1 = cfg0.N)
include ht

theorem lg_last (j : Fin 2048) : (outsAt0 m c t.val t.isLt).2.2.2.1 (ix2 0 j) = (∑ b, ∑ p, dlg (argPar m c) (argPos m c b p) j : EReal) := by
  refine sum_last (fun n h => fun j : Fin 2048 => ((outsAt0 m c n h).2.2.2.1 (ix2 0 j) : EReal)) (fun b p j => dlg (argPar m c) (argPos m c b p) j)
    (fun t h0 j => ?_) (fun t h0 j => ?_) t ht j
  · rw [sums_A m c t h0]; dsimp only; rw [lg_step, zero_lg]
  · rw [sums_B m c t h0]; dsimp only; rw [lg_step]
theorem lb_last (j : Fin 2048) : (outsAt0 m c t.val t.isLt).2.2.2.2.1 (ix2 0 j) = (∑ b, ∑ p, dpre (argPar m c) (argPos m c b p) j : EReal) := by
  refine sum_last (fun n h => fun j : Fin 2048 => ((outsAt0 m c n h).2.2.2.2.1 (ix2 0 j) : EReal)) (fun b p j => dpre (argPar m c) (argPos m c b p) j)
    (fun t h0 j => ?_) (fun t h0 j => ?_) t ht j
  · rw [sums_A m c t h0]; dsimp only; rw [lb_step, zero_lb]
  · rw [sums_B m c t h0]; dsimp only; rw [lb_step]
theorem cb_last (j : Fin 2048) : (outsAt0 m c t.val t.isLt).2.2.2.2.2.1 (ix2 0 j) = (∑ b, ∑ p, dy (argPar m c) (argPos m c b p) j : EReal) := by
  refine sum_last (fun n h => fun j : Fin 2048 => ((outsAt0 m c n h).2.2.2.2.2.1 (ix2 0 j) : EReal)) (fun b p j => dy (argPar m c) (argPos m c b p) j)
    (fun t h0 j => ?_) (fun t h0 j => ?_) t ht j
  · rw [sums_A m c t h0]; dsimp only; rw [cb_step, zero_cb]
  · rw [sums_B m c t h0]; dsimp only; rw [cb_step]
theorem wo_last (e : Fin 2048) (d : Fin 1024) :
    (outsAt0 m c t.val t.isLt).2.2.2.2.2.2 (ix2 e d) = (∑ b, ∑ p, dwo (argPar m c) (argPos m c b p) e d : EReal) := by
  refine sum_last (fun n h => fun i : Fin 2048 × Fin 1024 => ((outsAt0 m c n h).2.2.2.2.2.2 (ix2 i.1 i.2) : EReal))
    (fun b p i => dwo (argPar m c) (argPos m c b p) i.1 i.2) (fun t h0 i => ?_) (fun t h0 i => ?_) t ht (e, d)
  · rw [sums_A m c t h0]; dsimp only; rw [wo_step, zero_wo]
  · rw [sums_B m c t h0]; dsimp only; rw [wo_step]
end Last

/-- The other results. -/
abbrev woAll (c : Dev nD) : Vec Ideal S2048x1024 .bf16 := fun i => ∑ b, ∑ p, dwo (argPar m c) (argPos m c b p) (i 0) (i 1)
abbrev lgAll (c : Dev nD) : Vec Ideal S1x2048 .f32 := fun i => ∑ b, ∑ p, dlg (argPar m c) (argPos m c b p) (i 1)
abbrev lbAll (c : Dev nD) : Vec Ideal S1x2048 .f32 := fun i => ∑ b, ∑ p, dpre (argPar m c) (argPos m c b p) (i 1)
abbrev cbAll (c : Dev nD) : Vec Ideal S1x2048 .f32 := fun i => ∑ b, ∑ p, dy (argPar m c) (argPos m c b p) (i 1)

/-- The last point of the grid, at which the sums are written back whole. -/
theorem exists_last : ∃ t : Fin cfg0.N, t.val + 1 = cfg0.N ∧ t.val % 32 = 31 ∧ (cfg0.win 8).WholeAt t ∧ (cfg0.win 9).WholeAt t
    ∧ (cfg0.win 10).WholeAt t ∧ (cfg0.win 11).WholeAt t :=
  ⟨⟨31, lt_of_lt_of_eq (by decide) N_0.symm⟩, N_0.symm, rfl, by decide +kernel, by decide +kernel, by decide +kernel, by decide +kernel⟩

theorem row_ix (i : S1x2048.Idx) : ∃ j : Fin 2048, i = ix2 0 j :=
  ⟨i 1, (ix2_eta i).symm.trans (congrArg (ix2 · (i 1)) (Subsingleton.elim (α := Fin 1) (i 0) 0))⟩

theorem result8 (c : Dev nD) : (dats m 0 c).arrAt 8 cfg0.N = woAll m c := by
  obtain ⟨t, ht, h1, hw, -, -, -⟩ := exists_last
  refine (dats m 0 c).arrAt_eq_of_after_last 8 t hw _ fun i => ?_
  blk_simp
  rw [after0_8]
  obtain ⟨e, d, rfl⟩ : ∃ (e : Fin 2048) (d : Fin 1024), i = ix2 e d := ⟨i 0, i 1, eq_ix2 i⟩
  exact (wo_C m c t h1 e d).trans (wo_last m c t ht e d)
theorem result9 (c : Dev nD) : (dats m 0 c).arrAt 9 cfg0.N = lgAll m c := by
  obtain ⟨t, ht, -, -, hw, -, -⟩ := exists_last
  refine (dats m 0 c).arrAt_eq_of_after_last 9 t hw _ fun i => ?_
  blk_simp
  rw [after0_9]
  obtain ⟨j, rfl⟩ := row_ix i
  exact lg_last m c t ht j
theorem result10 (c : Dev nD) : (dats m 0 c).arrAt 10 cfg0.N = lbAll m c := by
  obtain ⟨t, ht, -, -, -, hw, -⟩ := exists_last
  refine (dats m 0 c).arrAt_eq_of_after_last 10 t hw _ fun i => ?_
  blk_simp
  rw [after0_10]
  obtain ⟨j, rfl⟩ := row_ix i
  exact lb_last m c t ht j
theorem result11 (c : Dev nD) : (dats m 0 c).arrAt 11 cfg0.N = cbAll m c := by
  obtain ⟨t, ht, -, -, -, -, hw⟩ := exists_last
  refine (dats m 0 c).arrAt_eq_of_after_last 11 t hw _ fun i => ?_
  blk_simp
  rw [after0_11]
  obtain ⟨j, rfl⟩ := row_ix i
  exact cb_last m c t ht j

end Cert.OutC

end
-- ==== Proof.OutCRefSide.lean ====
/- The output projection's gradients behind a convolution mixer: what the reference computes. -/
module

public import proofs.«01_k».proof.Proof.OutCBlocks
public import proofs.«01_k».proof.Proof.Gen.OutCRefIdeal.Read
public import proofs.«01_k».proof.Proof.Ref

@[expose] public section

set_option maxRecDepth 16384

noncomputable section

open Cert.OutCRefIdeal Cert.OutCRefIdeal.Gen Cert.OutCRefIdeal.Read Idealize.ShloMosaic Idealize.ShloMosaic.TcCoe

namespace Cert.OutC

variable (D : Vec Ideal S2x4096x1024 .f32) (C : Vec Ideal S2x4096x2048 .f32) (cb : Vec Ideal S2048 .f32) (P : Vec Ideal S2x4096x6144 .f32)
  (g h : Vec Ideal S2048 .f32) (Wo : Vec Ideal S2048x1024 .f32)

section Point
variable (b : Fin 2) (p : Fin 4096) (j : Fin 2048)

theorem ref5 : val_main_v5 (F := Ideal) C cb (ix3 b p j) = (pos D C cb P b p).f j := by
  pointwise [val_main_v5, val_main_v4, val_main_v3]
  rfl
theorem ref11 : val_main_v11 (F := Ideal) C cb (ix3 b p j) = Sgu.cent (pos D C cb P b p).f j := by
  pointwise [val_main_v11, val_main_v10, val_main_v9, val_main_v8, val_main_v7, val_main_v6, val_main_cst, val_main_cst_0]
  simp only [ref5 D C cb P]
  rfl
theorem ref18 : val_main_v18 (F := Ideal) C cb (ix3 b p 0) = (Sgu.var (pos D C cb P b p).f + Sgu.eps : EReal) := by
  pointwise [val_main_v18, val_main_v17, val_main_v16, val_main_v15, val_main_v14, val_main_v13, val_main_v12, val_main_cst_1, val_main_cst_2,
    val_main_cst_3]
  simp only [ref11 D C cb P]
  rfl
theorem ref19 : val_main_v19 (F := Ideal) C cb (ix3 b p 0) = Sgu.rstd (pos D C cb P b p).f := by
  pointwise [val_main_v19]
  rw [ref18 D C cb P]
  rfl
theorem ref24 : val_main_v24 (F := Ideal) C cb (ix3 b p j) = Sgu.hat (pos D C cb P b p).f j := by
  pointwise [val_main_v24, val_main_v23]
  rw [ref11 D C cb P, ref19 D C cb P]
  rfl
theorem ref30 : val_main_v30 (F := Ideal) C cb g h (ix3 b p j) = pre (par g h Wo) (pos D C cb P b p) j := by
  pointwise [val_main_v30, val_main_v29, val_main_v28, val_main_v27, val_main_v26, val_main_v25]
  rw [ref24 D C cb P]
  rfl
theorem ref31_2 : val_main_v31_2 (F := Ideal) C cb g h (ix3 b p j) = Ideal.logistic (pre (par g h Wo) (pos D C cb P b p) j) := by
  pointwise [val_main_v31_2, val_main_call0_v4, val_main_call0_v3, val_main_call0_v2, val_main_call0_v1, val_main_call0_v0, val_main_call0_cst,
    val_main_call0_cst_0]
  rw [ref30 D C cb P g h Wo]
  rfl
theorem ref31_0 : val_main_v31_0 (F := Ideal) C cb g h (ix3 b p j) = y (par g h Wo) (pos D C cb P b p) j := by
  pointwise [val_main_v31_0]
  rw [ref30 D C cb P g h Wo, ref31_2 D C cb P g h Wo]
  rfl
theorem ref2 : val_main_v2 (F := Ideal) P (ix3 b p j) = (pos D C cb P b p).z j := by
  pointwise [val_main_v2]
  rfl
theorem ref32_2 : val_main_v32_2 (F := Ideal) P (ix3 b p j) = Ideal.logistic ((pos D C cb P b p).z j) := by
  pointwise [val_main_v32_2, val_main_call1_v4, val_main_call1_v3, val_main_call1_v2, val_main_call1_v1, val_main_call1_v0, val_main_call1_cst,
    val_main_call1_cst_0]
  rw [ref2 D C cb P]
  rfl
theorem ref32_0 : val_main_v32_0 (F := Ideal) P (ix3 b p j) = act ((pos D C cb P b p).z j) := by
  pointwise [val_main_v32_0]
  rw [ref2 D C cb P, ref32_2 D C cb P]
  rfl
theorem ref37 : val_main_v37 (F := Ideal) D Wo (ix3 b p j) = dq (par g h Wo) (pos D C cb P b p) j := by
  pointwise [val_main_v37]
  rfl
theorem ref39 : val_main_v39 (F := Ideal) D P Wo (ix3 b p j)
    = (dq (par g h Wo) (pos D C cb P b p) j * act ((pos D C cb P b p).z j) : EReal) := by
  pointwise [val_main_v39]
  rw [ref37 D C cb P g h Wo, ref32_0 D C cb P]

end Point

variable {D C cb P g h Wo}
variable (hW : (par g h Wo).Real) (hk : ∀ b p, (pos D C cb P b p).Real)
include hW hk

section Point
variable (b : Fin 2) (p : Fin 4096) (j : Fin 2048)

theorem ref40 : val_main_v40 (F := Ideal) D C cb P g h Wo (ix3 b p j) = dz (par g h Wo) (pos D C cb P b p) j := by
  pointwise [val_main_v40, val_main_call2_v0, val_main_call2_v1, val_main_call2_v2, val_main_v38, val_main_v32_1, val_main_call1_v7,
    val_main_call1_v6, val_main_call1_cst_1]
  rw [ref31_0 D C cb P g h Wo, ref37 D C cb P g h Wo, ref32_2 D C cb P, ref2 D C cb P, dz, mul_comm (dq _ _ _),
    ← Sgu.siluBwd_eq ((hk b p).z j) ((real_y hW (hk b p) j).mul (real_dq hW (hk b p) j))]
theorem ref41 : val_main_v41 (F := Ideal) D C cb P g h Wo (ix3 b p j) = dpre (par g h Wo) (pos D C cb P b p) j := by
  pointwise [val_main_v41, val_main_call3_v0, val_main_call3_v1, val_main_call3_v2, val_main_v31_1, val_main_call0_v7, val_main_call0_v6,
    val_main_call0_cst_1]
  rw [ref39 D C cb P g h Wo, ref31_2 D C cb P g h Wo, ref30 D C cb P g h Wo, dpre,
    ← Sgu.siluBwd_eq (real_pre hW (hk b p) j) (real_dy2 hW (hk b p) j)]
theorem ref49 : val_main_v49 (F := Ideal) D C cb P g h Wo (ix3 b p j)
    = (dpre (par g h Wo) (pos D C cb P b p) j * (par g h Wo).lg j : EReal) := by
  pointwise [val_main_v49, val_main_v48, val_main_v25]
  rw [ref41 hW hk]
  rfl
theorem ref59 : val_main_v59 (F := Ideal) D C cb P g h Wo (ix2 b p)
    = Sgu.varPart (pos D C cb P b p).f (fun i => dpre (par g h Wo) (pos D C cb P b p) i * (par g h Wo).lg i) := by
  pointwise [val_main_v59, val_main_v58, val_main_v57, val_main_v56, val_main_v53, val_main_v52, val_main_v51, val_main_v22, val_main_v21,
    val_main_v20, val_main_cst_4, val_main_cst_9, val_main_cst_10, val_main_cst_11]
  rw [Fin.sum_univ_one]
  simp only [ref11 D C cb P, ref49 hW hk, ref18 D C cb P, ref19 D C cb P]
  rfl
theorem ref64 : val_main_v64 (F := Ideal) D C cb P g h Wo (ix3 b p j)
    = Sgu.centGrad (pos D C cb P b p).f (fun i => dpre (par g h Wo) (pos D C cb P b p) i * (par g h Wo).lg i) j := by
  pointwise [val_main_v64, val_main_v63, val_main_v62, val_main_v61, val_main_v60, val_main_v55, val_main_v54]
  rw [ref59 hW hk, ref49 hW hk, ref19 D C cb P, ref11 D C cb P]
  rfl
theorem ref72 : val_main_v72 (F := Ideal) D C cb P g h Wo (ix3 b p j) = dy (par g h Wo) (pos D C cb P b p) j := by
  pointwise [val_main_v72, val_main_v71, val_main_v70, val_main_v69, val_main_v68, val_main_v67, val_main_v66, val_main_v65, val_main_cst_12,
    val_main_cst_13, val_main_cst_14]
  rw [Fin.sum_univ_one]
  simp only [ref64 hW hk]
  exact Sgu.normBwd_eq (hk b p).f (fun i => (real_dpre hW (hk b p) i).mul (hW.lg i)) j _ fun i => rfl
end Point

/-! ## The results -/

theorem ref76 (r : Fin 8192) (j : Fin 2048) :
    val_main_v76 (F := Ideal) D C cb P g h Wo (ix2 r j) = dy (par g h Wo) (pos D C cb P (bat r) (seq r)) j := by
  pointwise [val_main_v76]
  exact ref72 hW hk (bat r) (seq r) j
theorem ref78 (r : Fin 8192) (j : Fin 2048) :
    val_main_v78 (F := Ideal) D C cb P g h Wo (ix2 r j) = dz (par g h Wo) (pos D C cb P (bat r) (seq r)) j := by
  pointwise [val_main_v78, val_main_v77]
  exact ref40 hW hk (bat r) (seq r) j
omit hW hk in
theorem ref79 (e : Fin 2048) (d : Fin 1024) : val_main_v79 (F := Ideal) D C cb P g h (ix2 e d)
    = (∑ b, ∑ p, dwo (par g h Wo) (pos D C cb P b p) e d : EReal) := by
  pointwise [val_main_v79, val_main_v36, val_main_v35, val_main_v33]
  simp only [ref31_0 D C cb P g h Wo, ref32_0 D C cb P]
  exact Finset.sum_congr rfl fun b _ => Finset.sum_congr rfl fun p _ => mul_comm _ _
theorem ref80 (j : Fin 2048) : val_main_v80 (F := Ideal) D C cb P g h Wo (ix2 0 j)
    = (∑ b, ∑ p, dlg (par g h Wo) (pos D C cb P b p) j : EReal) := by
  have h1 : val_main_v46 (F := Ideal) D C cb P g h Wo (ix1 j) = (∑ b, ∑ p, dlg (par g h Wo) (pos D C cb P b p) j : EReal) := by
    have hz : val_main_cst_7 (F := Ideal) (Shape.Idx.first h_S_) = 0 := by pointwise [val_main_cst_7]
    unfold val_main_v46
    refine (Sgu.sum_lead2 _ _ _ j).trans ((congrArg (· + _) hz).trans ((zero_add _).trans ?_))
    refine Finset.sum_congr rfl fun b _ => Finset.sum_congr rfl fun p _ => ?_
    pointwise [val_main_v45]
    rw [ref24 D C cb P, ref41 hW hk]
    exact mul_comm _ _
  have h2 : val_main_v50 (F := Ideal) D C cb P g h Wo (ix1 j) = val_main_v46 (F := Ideal) D C cb P g h Wo (ix1 j) := by
    have hz : val_main_cst_8 (F := Ideal) (Shape.Idx.first h_S_) = 0 := by pointwise [val_main_cst_8]
    unfold val_main_v50
    refine (Sgu.sum_lead2 _ _ _ j).trans ((congrArg (· + _) hz).trans ((zero_add _).trans ?_))
    rw [Fin.sum_univ_one, Fin.sum_univ_one]
    pointwise [val_main_v47]
  rw [← h1, ← h2]
  pointwise [val_main_v80]
theorem ref81 (j : Fin 2048) : val_main_v81 (F := Ideal) D C cb P g h Wo (ix2 0 j)
    = (∑ b, ∑ p, dpre (par g h Wo) (pos D C cb P b p) j : EReal) := by
  have h1 : val_main_v42 (F := Ideal) D C cb P g h Wo (ix1 j) = (∑ b, ∑ p, dpre (par g h Wo) (pos D C cb P b p) j : EReal) := by
    have hz : val_main_cst_5 (F := Ideal) (Shape.Idx.first h_S_) = 0 := by pointwise [val_main_cst_5]
    unfold val_main_v42
    refine (Sgu.sum_lead2 _ _ _ j).trans ((congrArg (· + _) hz).trans ((zero_add _).trans ?_))
    simp only [ref41 hW hk]
  have h2 : val_main_v44 (F := Ideal) D C cb P g h Wo (ix1 j) = val_main_v42 (F := Ideal) D C cb P g h Wo (ix1 j) := by
    have hz : val_main_cst_6 (F := Ideal) (Shape.Idx.first h_S_) = 0 := by pointwise [val_main_cst_6]
    unfold val_main_v44
    refine (Sgu.sum_lead2 _ _ _ j).trans ((congrArg (· + _) hz).trans ((zero_add _).trans ?_))
    rw [Fin.sum_univ_one, Fin.sum_univ_one]
    pointwise [val_main_v43]
  rw [← h1, ← h2]
  pointwise [val_main_v81]
theorem ref82 (j : Fin 2048) : val_main_v82 (F := Ideal) D C cb P g h Wo (ix2 0 j)
    = (∑ b, ∑ p, dy (par g h Wo) (pos D C cb P b p) j : EReal) := by
  have h1 : val_main_v73 (F := Ideal) D C cb P g h Wo (ix1 j) = (∑ b, ∑ p, dy (par g h Wo) (pos D C cb P b p) j : EReal) := by
    have hz : val_main_cst_15 (F := Ideal) (Shape.Idx.first h_S_) = 0 := by pointwise [val_main_cst_15]
    unfold val_main_v73
    refine (Sgu.sum_lead2 _ _ _ j).trans ((congrArg (· + _) hz).trans ((zero_add _).trans ?_))
    simp only [ref72 hW hk]
  have h2 : val_main_v75 (F := Ideal) D C cb P g h Wo (ix1 j) = val_main_v73 (F := Ideal) D C cb P g h Wo (ix1 j) := by
    have hz : val_main_cst_16 (F := Ideal) (Shape.Idx.first h_S_) = 0 := by pointwise [val_main_cst_16]
    unfold val_main_v75
    refine (Sgu.sum_lead2 _ _ _ j).trans ((congrArg (· + _) hz).trans ((zero_add _).trans ?_))
    rw [Fin.sum_univ_one, Fin.sum_univ_one]
    pointwise [val_main_v74]
  rw [← h1, ← h2]
  pointwise [val_main_v82]

end Cert.OutC

end
-- ==== Proof.OutC.lean ====
/- The claims of the output projection's gradients behind a convolution mixer. -/
module

public import proofs.«01_k».proof.Defs
public import proofs.«01_k».proof.Proof.Gen.OutC.Frame
public import proofs.«01_k».proof.Proof.Gen.OutCRefIdeal.Run
public import proofs.«01_k».proof.Proof.Finite
public import proofs.«01_k».proof.Proof.OutCRefSide

@[expose] public section

set_option maxRecDepth 16384

noncomputable section

open Idealize.ShloMosaic Idealize.ShloMosaic.TcCoe Idealize.SL.Sem

/-- The shape relations the precondition states. -/
theorem Cert.OutC.finiteFacts : Cert.Pre_finite_out.Facts :=
  ⟨by decide, by decide, by decide, by decide, by decide, by decide, by decide, by decide, by decide, by decide, by decide⟩

namespace Cert.OutC

instance : Cert.Pre_finite_out.Facts := finiteFacts

theorem finite_real (x0 x1 x2 x3 x4 x5 x6) (h : Cert.Pre_finite_out.fn (F := Ideal) x0 x1 x2 x3 x4 x5 x6 = fun _ => 1#1) :
    (∀ i, Sgu.IsReal (x0 i)) ∧ (∀ i, Sgu.IsReal (x1 i)) ∧ (∀ i, Sgu.IsReal (x2 i)) ∧ (∀ i, Sgu.IsReal (x3 i))
      ∧ (∀ i, Sgu.IsReal (x4 i)) ∧ (∀ i, Sgu.IsReal (x5 i)) ∧ (∀ i, Sgu.IsReal (x6 i)) := by
  have h' := congrFun h (fun i => i.elim0)
  unfold Cert.Pre_finite_out.fn Cert.Pre_finite_out.fn_part1 Cert.Pre_finite_out.fn_part2 at h'
  dsimp only at h'
  obtain ⟨h', h6⟩ := Sgu.andi_split h'
  obtain ⟨h', h5⟩ := Sgu.andi_split h'
  obtain ⟨h', h4⟩ := Sgu.andi_split h'
  obtain ⟨h', h3⟩ := Sgu.andi_split h'
  obtain ⟨h', h2⟩ := Sgu.andi_split h'
  obtain ⟨h0, h1⟩ := Sgu.andi_split h'
  haveI : Subsingleton Cert.Pre_finite_out.S_.Idx := ⟨fun a b => funext fun i => i.elim0⟩
  exact ⟨Sgu.all_real _ _ _ _ _ _ (fun _ => rfl) (fun _ => rfl) _ h0, Sgu.all_real _ _ _ _ _ _ (fun _ => rfl) (fun _ => rfl) _ h1,
    Sgu.all_real _ _ _ _ _ _ (fun _ => rfl) (fun _ => rfl) _ h2, Sgu.all_real _ _ _ _ _ _ (fun _ => rfl) (fun _ => rfl) _ h3,
    Sgu.all_real _ _ _ _ _ _ (fun _ => rfl) (fun _ => rfl) _ h4, Sgu.all_real _ _ _ _ _ _ (fun _ => rfl) (fun _ => rfl) _ h5,
    Sgu.all_real _ _ _ _ _ _ (fun _ => rfl) (fun _ => rfl) _ h6⟩

theorem frame_p : Cert.quiescent_OutC := fun m ρ _ => Cert.OutC.Gen.frame m ρ
theorem frame_pi : Cert.quiescent_OutCIdeal := fun m ρ _ => Cert.OutCIdeal.Gen.frame m ρ
theorem frame_pi_finite : Cert.quiescent_OutCIdeal_pre_finite_out := fun m ρ _ => Cert.OutCIdeal.Gen.frame m ρ
theorem frame_ri : Cert.quiescent_OutCRefIdeal := fun m ρ _ =>
  (θ_run Cert.OutCRefIdeal.defs _ _).mono (fun r h => ⟨fun c => (h c).2.2.2.2.2.2,
    sem_eq_zero_of_no_sems (by decide) r.2⟩) (Cert.OutCRefIdeal.Value.run (F := Ideal) m ρ)
theorem frame_ri_finite : Cert.quiescent_OutCRefIdeal_pre_finite_out := fun m ρ _ => frame_ri m ρ trivial

theorem preserves : Cert.preserves_OutC_OutCIdeal := trivial

section Agree
open Cert.OutCIdeal Cert.OutCRefIdeal.Read
variable (m : (ℓ : Loc nD τ sig) → Buf (Elt Ideal) ℓ) (hp : Cert.Pre_OutCIdeal_finite_out m) (c : Dev nD)
include hp

theorem args_real : (argPar m c).Real ∧ ∀ b p, (argPos m c b p).Real := by
  obtain ⟨h0, h1, h2, h3, h4, h5, h6⟩ := finite_real _ _ _ _ _ _ _ (hp c)
  exact ⟨⟨fun _ => h4 _, fun _ => h5 _, fun _ _ => h6 _⟩, fun _ _ => ⟨fun _ => h0 _, fun _ => (h1 _).add (h2 _), fun _ => h3 _⟩⟩

theorem agree0 : val_main_v76 (F := Ideal) (arg0 m c) (arg1 m c) (arg2 m c) (arg3 m c) (arg4 m c) (arg5 m c) (arg6 m c) = dyAll m c := funext fun i => by
  obtain ⟨r, j, rfl⟩ : ∃ r j, i = ix2 r j := ⟨_, _, eq_ix2 i⟩
  exact ref76 (args_real m hp c).1 (args_real m hp c).2 r j
theorem agree1 : val_main_v78 (F := Ideal) (arg0 m c) (arg1 m c) (arg2 m c) (arg3 m c) (arg4 m c) (arg5 m c) (arg6 m c) = dzAll m c := funext fun i => by
  obtain ⟨r, j, rfl⟩ : ∃ r j, i = ix2 r j := ⟨_, _, eq_ix2 i⟩
  exact ref78 (args_real m hp c).1 (args_real m hp c).2 r j
omit hp in
theorem agree2 : val_main_v79 (F := Ideal) (arg0 m c) (arg1 m c) (arg2 m c) (arg3 m c) (arg4 m c) (arg5 m c) = woAll m c := funext fun i => by
  obtain ⟨e, d, rfl⟩ : ∃ e d, i = ix2 e d := ⟨_, _, eq_ix2 i⟩
  exact ref79 (Wo := arg6 m c) e d
theorem agree3 : val_main_v80 (F := Ideal) (arg0 m c) (arg1 m c) (arg2 m c) (arg3 m c) (arg4 m c) (arg5 m c) (arg6 m c) = lgAll m c := funext fun i => by
  obtain ⟨j, rfl⟩ := row_ix i
  exact ref80 (args_real m hp c).1 (args_real m hp c).2 j
theorem agree4 : val_main_v81 (F := Ideal) (arg0 m c) (arg1 m c) (arg2 m c) (arg3 m c) (arg4 m c) (arg5 m c) (arg6 m c) = lbAll m c := funext fun i => by
  obtain ⟨j, rfl⟩ := row_ix i
  exact ref81 (args_real m hp c).1 (args_real m hp c).2 j
theorem agree5 : val_main_v82 (F := Ideal) (arg0 m c) (arg1 m c) (arg2 m c) (arg3 m c) (arg4 m c) (arg5 m c) (arg6 m c) = cbAll m c := funext fun i => by
  obtain ⟨j, rfl⟩ := row_ix i
  exact ref82 (args_real m hp c).1 (args_real m hp c).2 j
end Agree

theorem algebraic : Cert.algebraic_OutCIdeal_OutCRefIdeal_pre_finite_out := by
  intro m ρ m' ρ' hpre hagree
  refine ⟨_, _, _, _, _, _, Cert.OutCIdeal.Value.run_blocks (F := Ideal) m ρ, ?_⟩
  refine (θ_run Cert.OutCRefIdeal.defs _ _).mono (fun r h c => ?_) (Cert.OutCRefIdeal.Value.run (F := Ideal) m' ρ')
  obtain ⟨a0, a1, a2, a3, a4, a5, a6⟩ := hagree c
  obtain ⟨r0, r1, r2, r3, r4, r5, args⟩ := h c
  refine ⟨(r0.trans (Cert.OutCRefIdeal.Read.val_main_v76_eq _)).trans ?_, (r1.trans (Cert.OutCRefIdeal.Read.val_main_v78_eq _)).trans ?_,
    (r2.trans (Cert.OutCRefIdeal.Read.val_main_v79_eq _)).trans ?_, (r3.trans (Cert.OutCRefIdeal.Read.val_main_v80_eq _)).trans ?_,
    (r4.trans (Cert.OutCRefIdeal.Read.val_main_v81_eq _)).trans ?_, (r5.trans (Cert.OutCRefIdeal.Read.val_main_v82_eq _)).trans ?_, args⟩
  all_goals simp only [StableHlo.launchContents_devRef, a0, a1, a2, a3, a4, a5, a6]
  exacts [(agree0 m hpre c).trans (result6 m c).symm, (agree1 m hpre c).trans (result7 m c).symm, (agree2 m c).trans (result8 m c).symm,
    (agree3 m hpre c).trans (result9 m c).symm, (agree4 m hpre c).trans (result10 m c).symm, (agree5 m hpre c).trans (result11 m c).symm]

end Cert.OutC

end
-- ==== Proof.lean ====
/- The certificate: the frames of the programs, the named constants, and the equality of the results of the five calls. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Claims
public import proofs.«01_k».proof.Proof.InX
public import proofs.«01_k».proof.Proof.InW
public import proofs.«01_k».proof.Proof.Ple
public import proofs.«01_k».proof.Proof.OutC
public import proofs.«01_k».proof.Proof.Gen.ReferenceIdeal.Read
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.InX.Gen.facts, Cert.InXIdeal.Gen.facts,
    Cert.InXRefIdeal.Gen.facts, Cert.InW.Gen.facts, Cert.InWIdeal.Gen.facts, Cert.InWRefIdeal.Gen.facts,
    Cert.Ple.Gen.facts, Cert.PleIdeal.Gen.facts, Cert.PleRefIdeal.Gen.facts, Cert.OutC.Gen.facts, Cert.OutCIdeal.Gen.facts,
    Cert.OutCRefIdeal.Gen.facts, Cert.Sgu.finiteFacts, Cert.OutC.finiteFacts,
    Cert.Sgu.frame_p, Cert.Sgu.frame_pi, Cert.Sgu.frame_pi_finite, Cert.Sgu.frame_ri, Cert.Sgu.frame_ri_finite,
    Cert.InX.frame_p, Cert.InX.frame_pi, Cert.InX.frame_ri, Cert.InW.frame_p, Cert.InW.frame_pi, Cert.InW.frame_ri,
    Cert.Ple.frame_p, Cert.Ple.frame_pi, Cert.Ple.frame_ri,
    Cert.OutC.frame_p, Cert.OutC.frame_pi, Cert.OutC.frame_pi_finite, Cert.OutC.frame_ri, Cert.OutC.frame_ri_finite,
    Cert.Sgu.preserves, Cert.Sgu.algebraic, Cert.InX.preserves, Cert.InX.algebraic, Cert.InW.preserves, Cert.InW.algebraic,
    Cert.Ple.preserves, Cert.Ple.algebraic, Cert.OutC.preserves, Cert.OutC.algebraic⟩

end Cert.Proof

end
